-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def preserves_Kernel_KernelIdeal : Prop :=
  IdealRules.named_const.Statement Cert.KernelIdeal.κ "qscale" .f32 0x3E16C740#32 (((3424635 / 33554432) * (Real.log 2)⁻¹ : ℝ) : EReal)
  ∧ IdealRules.named_const.Statement Cert.KernelIdeal.κ "mask" .f32 0xF149F2CA#32 ⊥

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v30) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)) →
    ∃ (v0 : (c : Dev Cert.Kernel3Ideal.nD) → Buf (Elt Ideal) ((c.tc : Thread Cert.Kernel3Ideal.nD Cert.Kernel3Ideal.τ).loc Cert.Kernel3Ideal.main_v61)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v61) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v43) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v4) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v17) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v4) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v30) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v157_0)) (v1 : (c : Dev Cert.Kernel6Ideal.nD) → Buf (Elt Ideal) ((c.tc : Thread Cert.Kernel6Ideal.nD Cert.Kernel6Ideal.τ).loc Cert.Kernel6Ideal.main_v157_1)) (v2 : (c : Dev Cert.Kernel6Ideal.nD) → Buf (Elt Ideal) ((c.tc : Thread Cert.Kernel6Ideal.nD Cert.Kernel6Ideal.τ).loc Cert.Kernel6Ideal.main_v157_3)) (v3 : (c : Dev Cert.Kernel6Ideal.nD) → Buf (Elt Ideal) ((c.tc : Thread Cert.Kernel6Ideal.nD Cert.Kernel6Ideal.τ).loc Cert.Kernel6Ideal.main_v157_4)) (v4 : (c : Dev Cert.Kernel6Ideal.nD) → Buf (Elt Ideal) ((c.tc : Thread Cert.Kernel6Ideal.nD Cert.Kernel6Ideal.τ).loc Cert.Kernel6Ideal.main_v157_5)) (v5 : (c : Dev Cert.Kernel6Ideal.nD) → Buf (Elt Ideal) ((c.tc : Thread Cert.Kernel6Ideal.nD Cert.Kernel6Ideal.τ).loc Cert.Kernel6Ideal.main_v157_6)) (v6 : (c : Dev Cert.Kernel6Ideal.nD) → Buf (Elt Ideal) ((c.tc : Thread Cert.Kernel6Ideal.nD Cert.Kernel6Ideal.τ).loc Cert.Kernel6Ideal.main_v157_7)) (v7 : (c : Dev Cert.Kernel6Ideal.nD) → Buf (Elt Ideal) ((c.tc : Thread Cert.Kernel6Ideal.nD Cert.Kernel6Ideal.τ).loc Cert.Kernel6Ideal.main_v157_8)) (v8 : (c : Dev Cert.Kernel6Ideal.nD) → Buf (Elt Ideal) ((c.tc : Thread Cert.Kernel6Ideal.nD Cert.Kernel6Ideal.τ).loc Cert.Kernel6Ideal.main_v157_9)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v157_0) = v0 c
          ∧ r.2.mem ((c.tc : Thread Cert.Kernel6Ideal.nD Cert.Kernel6Ideal.τ).loc Cert.Kernel6Ideal.main_v157_1) = v1 c
          ∧ r.2.mem ((c.tc : Thread Cert.Kernel6Ideal.nD Cert.Kernel6Ideal.τ).loc Cert.Kernel6Ideal.main_v157_3) = v2 c
          ∧ r.2.mem ((c.tc : Thread Cert.Kernel6Ideal.nD Cert.Kernel6Ideal.τ).loc Cert.Kernel6Ideal.main_v157_4) = v3 c
          ∧ r.2.mem ((c.tc : Thread Cert.Kernel6Ideal.nD Cert.Kernel6Ideal.τ).loc Cert.Kernel6Ideal.main_v157_5) = v4 c
          ∧ r.2.mem ((c.tc : Thread Cert.Kernel6Ideal.nD Cert.Kernel6Ideal.τ).loc Cert.Kernel6Ideal.main_v157_6) = v5 c
          ∧ r.2.mem ((c.tc : Thread Cert.Kernel6Ideal.nD Cert.Kernel6Ideal.τ).loc Cert.Kernel6Ideal.main_v157_7) = v6 c
          ∧ r.2.mem ((c.tc : Thread Cert.Kernel6Ideal.nD Cert.Kernel6Ideal.τ).loc Cert.Kernel6Ideal.main_v157_8) = v7 c
          ∧ r.2.mem ((c.tc : Thread Cert.Kernel6Ideal.nD Cert.Kernel6Ideal.τ).loc Cert.Kernel6Ideal.main_v157_9) = v8 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v196) = v0 c
          ∧ r.2.mem ((c.tc : Thread Cert.Reference6Ideal.nD Cert.Reference6Ideal.τ).loc Cert.Reference6Ideal.main_v197) = v1 c
          ∧ r.2.mem ((c.tc : Thread Cert.Reference6Ideal.nD Cert.Reference6Ideal.τ).loc Cert.Reference6Ideal.main_v212) = v2 c
          ∧ r.2.mem ((c.tc : Thread Cert.Reference6Ideal.nD Cert.Reference6Ideal.τ).loc Cert.Reference6Ideal.main_v215) = v3 c
          ∧ r.2.mem ((c.tc : Thread Cert.Reference6Ideal.nD Cert.Reference6Ideal.τ).loc Cert.Reference6Ideal.main_v249) = v4 c
          ∧ r.2.mem ((c.tc : Thread Cert.Reference6Ideal.nD Cert.Reference6Ideal.τ).loc Cert.Reference6Ideal.main_v250) = v5 c
          ∧ r.2.mem ((c.tc : Thread Cert.Reference6Ideal.nD Cert.Reference6Ideal.τ).loc Cert.Reference6Ideal.main_v251) = v6 c
          ∧ r.2.mem ((c.tc : Thread Cert.Reference6Ideal.nD Cert.Reference6Ideal.τ).loc Cert.Reference6Ideal.main_v252) = v7 c
          ∧ r.2.mem ((c.tc : Thread Cert.Reference6Ideal.nD Cert.Reference6Ideal.τ).loc Cert.Reference6Ideal.main_v254) = v8 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Kernel.lean ====
abbrev S4x4096x8x128 : Shape := ⟨4, ![4, 4096, 8, 128]⟩
abbrev S4x4096x8x32 : Shape := ⟨4, ![4, 4096, 8, 32]⟩
abbrev S4x4096x160 : Shape := ⟨3, ![4, 4096, 160]⟩
abbrev S_ : Shape := ⟨0, ![]⟩
abbrev S4x4096x8x96 : Shape := ⟨4, ![4, 4096, 8, 96]⟩
abbrev S4x4096x8x256 : Shape := ⟨4, ![4, 4096, 8, 256]⟩
abbrev S4x4096x2048 : Shape := ⟨3, ![4, 4096, 2048]⟩
abbrev S4x4096x96 : Shape := ⟨3, ![4, 4096, 96]⟩
abbrev S4x4096x256 : Shape := ⟨3, ![4, 4096, 256]⟩
abbrev S4x4096x1024 : Shape := ⟨3, ![4, 4096, 1024]⟩
abbrev S1x128x2048 : Shape := ⟨3, ![1, 128, 2048]⟩
abbrev S1x4096x256 : Shape := ⟨3, ![1, 4096, 256]⟩
abbrev S1x128x1024 : Shape := ⟨3, ![1, 128, 1024]⟩
abbrev S1024x128 : Shape := ⟨2, ![1024, 128]⟩
abbrev S1x128x256 : Shape := ⟨3, ![1, 128, 256]⟩
abbrev S128x256 : Shape := ⟨2, ![128, 256]⟩
abbrev S1024x256 : Shape := ⟨2, ![1024, 256]⟩
abbrev S128x512 : Shape := ⟨2, ![128, 512]⟩
abbrev S1x512x256 : Shape := ⟨3, ![1, 512, 256]⟩
abbrev S512x256 : Shape := ⟨2, ![512, 256]⟩
abbrev S512x128 : Shape := ⟨2, ![512, 128]⟩
abbrev S1024x512 : Shape := ⟨2, ![1024, 512]⟩
abbrev S128x128 : Shape := ⟨2, ![128, 128]⟩
abbrev S128 : Shape := ⟨1, ![128]⟩
abbrev S128x1 : Shape := ⟨2, ![128, 1]⟩
abbrev S1x128x128 : Shape := ⟨3, ![1, 128, 128]⟩

abbrev nBuf : Space → Nat
  | .hbm => 11
  | .vmem => 9
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x32, .f32⟩
  | .hbm, ⟨2, _⟩ => ⟨S4x4096x160, .f32⟩
  | .hbm, ⟨3, _⟩ => ⟨S_, .f32⟩
  | .hbm, ⟨4, _⟩ => ⟨S4x4096x8x96, .f32⟩
  | .hbm, ⟨5, _⟩ => ⟨S4x4096x8x256, .f32⟩
  | .hbm, ⟨6, _⟩ => ⟨S4x4096x2048, .f32⟩
  | .hbm, ⟨7, _⟩ => ⟨S_, .f32⟩
  | .hbm, ⟨8, _⟩ => ⟨S4x4096x96, .f32⟩
  | .hbm, ⟨9, _⟩ => ⟨S4x4096x256, .f32⟩
  | .hbm, ⟨10, _⟩ => ⟨S4x4096x1024, .f32⟩
  | .local _ .vmem, ⟨0, _⟩ => ⟨S1x128x2048, .f32⟩
  | .local _ .vmem, ⟨1, _⟩ => ⟨S1x128x2048, .f32⟩
  | .local _ .vmem, ⟨2, _⟩ => ⟨S1x4096x256, .f32⟩
  | .local _ .vmem, ⟨3, _⟩ => ⟨S1x4096x256, .f32⟩
  | .local _ .vmem, ⟨4, _⟩ => ⟨S1x128x1024, .f32⟩
  | .local _ .vmem, ⟨5, _⟩ => ⟨S1x128x1024, .f32⟩
  | .local _ .vmem, ⟨6, _⟩ => ⟨S1024x128, .f32⟩
  | .local _ .vmem, ⟨7, _⟩ => ⟨S1024x128, .f32⟩
  | .local _ .vmem, ⟨8, _⟩ => ⟨S1024x128, .f32⟩
  | _, _ => ⟨S4x4096x8x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 32], ![false, false]⟩

def k0_mult1 (i : grid0.Coords) : BitVec 32 :=
  let arg1 : BitVec 32 := BitVec.ofNat 32 (i 1).val
  let c128_i32 : BitVec 32 := 128#32
  let v32 : BitVec 32 := Scalar.muli arg1 c128_i32
  let c0_i32 : BitVec 32 := 0#32
  let v34 : BitVec 1 := Scalar.cmpi .sgt v32 c0_i32
  let v35 : BitVec 32 := Scalar.extui v34
  let c0_i32_25 : BitVec 32 := 0#32
  let v36 : BitVec 1 := Scalar.cmpi .slt v32 c0_i32_25
  let v37 : BitVec 32 := Scalar.extui v36
  let v38 : BitVec 32 := Scalar.subi v35 v37
  let c512_i32 : BitVec 32 := 512#32
  let c0_i32_26 : BitVec 32 := 0#32
  let v39 : BitVec 1 := Scalar.cmpi .sgt c512_i32 c0_i32_26
  let v40 : BitVec 32 := Scalar.extui v39
  let c0_i32_27 : BitVec 32 := 0#32
  let v41 : BitVec 1 := Scalar.cmpi .slt c512_i32 c0_i32_27
  let v42 : BitVec 32 := Scalar.extui v41
  let v43 : BitVec 32 := Scalar.subi v40 v42
  let v44 : BitVec 1 := Scalar.cmpi .ne v38 v43
  let v45 : BitVec 32 := Scalar.remsi v32 c512_i32
  let c0_i32_28 : BitVec 32 := 0#32
  let v46 : BitVec 1 := Scalar.cmpi .ne v45 c0_i32_28
  let v47 : BitVec 1 := Scalar.andi v44 v46
  let v33 : BitVec 32 := Scalar.divsi v32 c512_i32
  let c1_i32 : BitVec 32 := 1#32
  let v48 : BitVec 32 := Scalar.subi v33 c1_i32
  let v49 : BitVec 32 := Scalar.select v47 v48 v33
  let c512_i32_31 : BitVec 32 := 512#32
  let v59 : BitVec 32 := Scalar.muli v49 c512_i32_31
  v59
def k0_off1 (i : grid0.Coords) : Fin 3 → Nat :=
  let c0_32 : Index := 0#32
  let arg1 : BitVec 32 := BitVec.ofNat 32 (i 1).val
  let c128_i32 : BitVec 32 := 128#32
  let v32 : BitVec 32 := Scalar.muli arg1 c128_i32
  let c0_i32 : BitVec 32 := 0#32
  let v34 : BitVec 1 := Scalar.cmpi .sgt v32 c0_i32
  let v35 : BitVec 32 := Scalar.extui v34
  let c0_i32_25 : BitVec 32 := 0#32
  let v36 : BitVec 1 := Scalar.cmpi .slt v32 c0_i32_25
  let v37 : BitVec 32 := Scalar.extui v36
  let v38 : BitVec 32 := Scalar.subi v35 v37
  let c512_i32 : BitVec 32 := 512#32
  let c0_i32_26 : BitVec 32 := 0#32
  let v39 : BitVec 1 := Scalar.cmpi .sgt c512_i32 c0_i32_26
  let v40 : BitVec 32 := Scalar.extui v39
  let c0_i32_27 : BitVec 32 := 0#32
  let v41 : BitVec 1 := Scalar.cmpi .slt c512_i32 c0_i32_27
  let v42 : BitVec 32 := Scalar.extui v41
  let v43 : BitVec 32 := Scalar.subi v40 v42
  let v44 : BitVec 1 := Scalar.cmpi .ne v38 v43
  let v45 : BitVec 32 := Scalar.remsi v32 c512_i32
  let c0_i32_28 : BitVec 32 := 0#32
  let v46 : BitVec 1 := Scalar.cmpi .ne v45 c0_i32_28
  let v47 : BitVec 1 := Scalar.andi v44 v46
  let v33 : BitVec 32 := Scalar.divsi v32 c512_i32
  let c1_i32 : BitVec 32 := 1#32
  let v48 : BitVec 32 := Scalar.subi v33 c1_i32
  let v49 : BitVec 32 := Scalar.select v47 v48 v33
  let c512_i32_31 : BitVec 32 := 512#32
  let v59 : BitVec 32 := Scalar.muli v49 c512_i32_31
  let v60 : BitVec 32 := v59
  let v61 : Index := Scalar.indexCast v60
  let c0_33 : Index := 0#32
  ![0, v61.toNat, 0]
@[reducible] def k0_t1_loop (i : grid0.Coords) : Scf.Loop 32 :=
  let c0_i32_73 : BitVec 32 := 0#32
  let arg1 : BitVec 32 := BitVec.ofNat 32 (i 1).val
  let c128_i32 : BitVec 32 := 128#32
  let v32 : BitVec 32 := Scalar.muli arg1 c128_i32
  let c0_i32 : BitVec 32 := 0#32
  let v34 : BitVec 1 := Scalar.cmpi .sgt v32 c0_i32
  let v35 : BitVec 32 := Scalar.extui v34
  let c0_i32_25 : BitVec 32 := 0#32
  let v36 : BitVec 1 := Scalar.cmpi .slt v32 c0_i32_25
  let v37 : BitVec 32 := Scalar.extui v36
  let v38 : BitVec 32 := Scalar.subi v35 v37
  let c512_i32 : BitVec 32 := 512#32
  let c0_i32_26 : BitVec 32 := 0#32
  let v39 : BitVec 1 := Scalar.cmpi .sgt c512_i32 c0_i32_26
  let v40 : BitVec 32 := Scalar.extui v39
  let c0_i32_27 : BitVec 32 := 0#32
  let v41 : BitVec 1 := Scalar.cmpi .slt c512_i32 c0_i32_27
  let v42 : BitVec 32 := Scalar.extui v41
  let v43 : BitVec 32 := Scalar.subi v40 v42
  let v44 : BitVec 1 := Scalar.cmpi .ne v38 v43
  let v45 : BitVec 32 := Scalar.remsi v32 c512_i32
  let c0_i32_28 : BitVec 32 := 0#32
  let v46 : BitVec 1 := Scalar.cmpi .ne v45 c0_i32_28
  let v47 : BitVec 1 := Scalar.andi v44 v46
  let v33 : BitVec 32 := Scalar.divsi v32 c512_i32
  let c1_i32 : BitVec 32 := 1#32
  let v48 : BitVec 32 := Scalar.subi v33 c1_i32
  let v49 : BitVec 32 := Scalar.select v47 v48 v33
  let v246 : BitVec 32 := Scalar.subi v49 c0_i32_73
  let c1_i32_74 : BitVec 32 := 1#32
  let v248 : BitVec 32 := Scalar.divsi v246 c1_i32_74
  let v249 : BitVec 32 := Scalar.muli v248 c1_i32_74
  let v250 : BitVec 32 := Scalar.addi c0_i32_73 v249
  let c1_i32_75 : BitVec 32 := 1#32
  ⟨c0_i32_73, v250, c1_i32_75⟩
def k0_mult2 (i : grid0.Coords) (k0_t1 : Fin (k0_t1_loop i).trips) : BitVec 32 :=
  let c0_i32_73 : BitVec 32 := 0#32
  let c1_i32_75 : BitVec 32 := 1#32
  let arg8 : BitVec 32 := Scf.iv c0_i32_73 c1_i32_75 k0_t1
  let c512_i32_102 : BitVec 32 := 512#32
  let v288 : BitVec 32 := Scalar.muli arg8 c512_i32_102
  v288
def k0_off2 (i : grid0.Coords) (k0_t1 : Fin (k0_t1_loop i).trips) : Fin 3 → Nat :=
  let c0_103 : Index := 0#32
  let c0_i32_73 : BitVec 32 := 0#32
  let c1_i32_75 : BitVec 32 := 1#32
  let arg8 : BitVec 32 := Scf.iv c0_i32_73 c1_i32_75 k0_t1
  let c512_i32_102 : BitVec 32 := 512#32
  let v288 : BitVec 32 := Scalar.muli arg8 c512_i32_102
  let v289 : BitVec 32 := v288
  let v290 : Index := Scalar.indexCast v289
  let c0_104 : Index := 0#32
  ![0, v290.toNat, 0]
@[reducible] def k0_t2_loop (i : grid0.Coords) : Scf.Loop 32 :=
  let c0_i32_73 : BitVec 32 := 0#32
  let arg1 : BitVec 32 := BitVec.ofNat 32 (i 1).val
  let c128_i32 : BitVec 32 := 128#32
  let v32 : BitVec 32 := Scalar.muli arg1 c128_i32
  let c0_i32 : BitVec 32 := 0#32
  let v34 : BitVec 1 := Scalar.cmpi .sgt v32 c0_i32
  let v35 : BitVec 32 := Scalar.extui v34
  let c0_i32_25 : BitVec 32 := 0#32
  let v36 : BitVec 1 := Scalar.cmpi .slt v32 c0_i32_25
  let v37 : BitVec 32 := Scalar.extui v36
  let v38 : BitVec 32 := Scalar.subi v35 v37
  let c512_i32 : BitVec 32 := 512#32
  let c0_i32_26 : BitVec 32 := 0#32
  let v39 : BitVec 1 := Scalar.cmpi .sgt c512_i32 c0_i32_26
  let v40 : BitVec 32 := Scalar.extui v39
  let c0_i32_27 : BitVec 32 := 0#32
  let v41 : BitVec 1 := Scalar.cmpi .slt c512_i32 c0_i32_27
  let v42 : BitVec 32 := Scalar.extui v41
  let v43 : BitVec 32 := Scalar.subi v40 v42
  let v44 : BitVec 1 := Scalar.cmpi .ne v38 v43
  let v45 : BitVec 32 := Scalar.remsi v32 c512_i32
  let c0_i32_28 : BitVec 32 := 0#32
  let v46 : BitVec 1 := Scalar.cmpi .ne v45 c0_i32_28
  let v47 : BitVec 1 := Scalar.andi v44 v46
  let v33 : BitVec 32 := Scalar.divsi v32 c512_i32
  let c1_i32 : BitVec 32 := 1#32
  let v48 : BitVec 32 := Scalar.subi v33 c1_i32
  let v49 : BitVec 32 := Scalar.select v47 v48 v33
  let v246 : BitVec 32 := Scalar.subi v49 c0_i32_73
  let c1_i32_74 : BitVec 32 := 1#32
  let v248 : BitVec 32 := Scalar.divsi v246 c1_i32_74
  let v249 : BitVec 32 := Scalar.muli v248 c1_i32_74
  let v250 : BitVec 32 := Scalar.addi c0_i32_73 v249
  let v247 : BitVec 32 := Scalar.addi c0_i32_73 v246
  let c1_i32_76 : BitVec 32 := 1#32
  ⟨v250, v247, c1_i32_76⟩
def k0_mult3 (i : grid0.Coords) (k0_t2 : Fin (k0_t2_loop i).trips) : BitVec 32 :=
  let c0_i32_73 : BitVec 32 := 0#32
  let arg1 : BitVec 32 := BitVec.ofNat 32 (i 1).val
  let c128_i32 : BitVec 32 := 128#32
  let v32 : BitVec 32 := Scalar.muli arg1 c128_i32
  let c0_i32 : BitVec 32 := 0#32
  let v34 : BitVec 1 := Scalar.cmpi .sgt v32 c0_i32
  let v35 : BitVec 32 := Scalar.extui v34
  let c0_i32_25 : BitVec 32 := 0#32
  let v36 : BitVec 1 := Scalar.cmpi .slt v32 c0_i32_25
  let v37 : BitVec 32 := Scalar.extui v36
  let v38 : BitVec 32 := Scalar.subi v35 v37
  let c512_i32 : BitVec 32 := 512#32
  let c0_i32_26 : BitVec 32 := 0#32
  let v39 : BitVec 1 := Scalar.cmpi .sgt c512_i32 c0_i32_26
  let v40 : BitVec 32 := Scalar.extui v39
  let c0_i32_27 : BitVec 32 := 0#32
  let v41 : BitVec 1 := Scalar.cmpi .slt c512_i32 c0_i32_27
  let v42 : BitVec 32 := Scalar.extui v41
  let v43 : BitVec 32 := Scalar.subi v40 v42
  let v44 : BitVec 1 := Scalar.cmpi .ne v38 v43
  let v45 : BitVec 32 := Scalar.remsi v32 c512_i32
  let c0_i32_28 : BitVec 32 := 0#32
  let v46 : BitVec 1 := Scalar.cmpi .ne v45 c0_i32_28
  let v47 : BitVec 1 := Scalar.andi v44 v46
  let v33 : BitVec 32 := Scalar.divsi v32 c512_i32
  let c1_i32 : BitVec 32 := 1#32
  let v48 : BitVec 32 := Scalar.subi v33 c1_i32
  let v49 : BitVec 32 := Scalar.select v47 v48 v33
  let v246 : BitVec 32 := Scalar.subi v49 c0_i32_73
  let c1_i32_74 : BitVec 32 := 1#32
  let v248 : BitVec 32 := Scalar.divsi v246 c1_i32_74
  let v249 : BitVec 32 := Scalar.muli v248 c1_i32_74
  let v250 : BitVec 32 := Scalar.addi c0_i32_73 v249
  let c1_i32_76 : BitVec 32 := 1#32
  let arg8 : BitVec 32 := Scf.iv v250 c1_i32_76 k0_t2
  let c512_i32_102 : BitVec 32 := 512#32
  let v288 : BitVec 32 := Scalar.muli arg8 c512_i32_102
  v288
def k0_off3 (i : grid0.Coords) (k0_t2 : Fin (k0_t2_loop i).trips) : Fin 3 → Nat :=
  let c0_103 : Index := 0#32
  let c0_i32_73 : BitVec 32 := 0#32
  let arg1 : BitVec 32 := BitVec.ofNat 32 (i 1).val
  let c128_i32 : BitVec 32 := 128#32
  let v32 : BitVec 32 := Scalar.muli arg1 c128_i32
  let c0_i32 : BitVec 32 := 0#32
  let v34 : BitVec 1 := Scalar.cmpi .sgt v32 c0_i32
  let v35 : BitVec 32 := Scalar.extui v34
  let c0_i32_25 : BitVec 32 := 0#32
  let v36 : BitVec 1 := Scalar.cmpi .slt v32 c0_i32_25
  let v37 : BitVec 32 := Scalar.extui v36
  let v38 : BitVec 32 := Scalar.subi v35 v37
  let c512_i32 : BitVec 32 := 512#32
  let c0_i32_26 : BitVec 32 := 0#32
  let v39 : BitVec 1 := Scalar.cmpi .sgt c512_i32 c0_i32_26
  let v40 : BitVec 32 := Scalar.extui v39
  let c0_i32_27 : BitVec 32 := 0#32
  let v41 : BitVec 1 := Scalar.cmpi .slt c512_i32 c0_i32_27
  let v42 : BitVec 32 := Scalar.extui v41
  let v43 : BitVec 32 := Scalar.subi v40 v42
  let v44 : BitVec 1 := Scalar.cmpi .ne v38 v43
  let v45 : BitVec 32 := Scalar.remsi v32 c512_i32
  let c0_i32_28 : BitVec 32 := 0#32
  let v46 : BitVec 1 := Scalar.cmpi .ne v45 c0_i32_28
  let v47 : BitVec 1 := Scalar.andi v44 v46
  let v33 : BitVec 32 := Scalar.divsi v32 c512_i32
  let c1_i32 : BitVec 32 := 1#32
  let v48 : BitVec 32 := Scalar.subi v33 c1_i32
  let v49 : BitVec 32 := Scalar.select v47 v48 v33
  let v246 : BitVec 32 := Scalar.subi v49 c0_i32_73
  let c1_i32_74 : BitVec 32 := 1#32
  let v248 : BitVec 32 := Scalar.divsi v246 c1_i32_74
  let v249 : BitVec 32 := Scalar.muli v248 c1_i32_74
  let v250 : BitVec 32 := Scalar.addi c0_i32_73 v249
  let c1_i32_76 : BitVec 32 := 1#32
  let arg8 : BitVec 32 := Scf.iv v250 c1_i32_76 k0_t2
  let c512_i32_102 : BitVec 32 := 512#32
  let v288 : BitVec 32 := Scalar.muli arg8 c512_i32_102
  let v289 : BitVec 32 := v288
  let v290 : Index := Scalar.indexCast v289
  let c0_104 : Index := 0#32
  ![0, v290.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== KernelIdeal.lean ====
variable {F : FTy → Type} [FloatOps F] [Named F]
def κ : String → Option EReal := fun
  | "mask" => some ⊥
  | "qscale" => some (((3424635 / 33554432) * (Real.log 2)⁻¹ : ℝ) : EReal)
  | _ => none
-- ==== ReferenceIdeal.lean ====
abbrev S4x4096x8x128 : Shape := ⟨4, ![4, 4096, 8, 128]⟩
abbrev S4x4096x8x32 : Shape := ⟨4, ![4, 4096, 8, 32]⟩
abbrev S4x4096x160 : Shape := ⟨3, ![4, 4096, 160]⟩
abbrev S4x4096x128 : Shape := ⟨3, ![4, 4096, 128]⟩
abbrev S4x4096x32 : Shape := ⟨3, ![4, 4096, 32]⟩
abbrev S4x4096x4096x8 : Shape := ⟨4, ![4, 4096, 4096, 8]⟩
abbrev S4x8x4096x4096 : Shape := ⟨4, ![4, 8, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S1x1x4096x4096 : Shape := ⟨4, ![1, 1, 4096, 4096]⟩
abbrev S4x8x4096 : Shape := ⟨3, ![4, 8, 4096]⟩
abbrev S4x8x4096x1 : Shape := ⟨4, ![4, 8, 4096, 1]⟩
abbrev S4x128x8x4096 : Shape := ⟨4, ![4, 128, 8, 4096]⟩
abbrev S4x4096x1024 : Shape := ⟨3, ![4, 4096, 1024]⟩

abbrev nBuf : Space → Nat
  | .hbm => 47
  | .vmem => 0
  | .smem => 0
  | _ => 0

abbrev bufTy : (tb : Table) → Fin (tcTables nBuf tb) → BufTy
  | .hbm, ⟨0, _⟩ => ⟨S4x4096x8x128, .f32⟩
  | .hbm, ⟨1, _⟩ => ⟨S4x4096x8x32, .f32⟩
  | .hbm, ⟨2, _⟩ => ⟨S4x4096x160, .f32⟩
  | .hbm, ⟨3, _⟩ => ⟨S4x4096x128, .f32⟩
  | .hbm, ⟨4, _⟩ => ⟨S4x4096x32, .f32⟩
  | .hbm, ⟨5, _⟩ => ⟨S4x4096x4096x8, .f32⟩
  | .hbm, ⟨6, _⟩ => ⟨S4x8x4096x4096, .f32⟩
  | .hbm, ⟨7, _⟩ => ⟨S4x4096x4096x8, .f32⟩
  | .hbm, ⟨8, _⟩ => ⟨S4x8x4096x4096, .f32⟩
  | .hbm, ⟨9, _⟩ => ⟨S4x8x4096x4096, .f32⟩
  | .hbm, ⟨10, _⟩ => ⟨S_, .f32⟩
  | .hbm, ⟨11, _⟩ => ⟨S4x8x4096x4096, .f32⟩
  | .hbm, ⟨12, _⟩ => ⟨S4x8x4096x4096, .f32⟩
  | .hbm, ⟨13, _⟩ => ⟨S4096, .i32⟩
  | .hbm, ⟨14, _⟩ => ⟨S1x4096, .i32⟩
  | .hbm, ⟨15, _⟩ => ⟨S4096x1, .i32⟩
  | .hbm, ⟨16, _⟩ => ⟨S4096x4096, .i32⟩
  | .hbm, ⟨17, _⟩ => ⟨S4096x4096, .i32⟩
  | .hbm, ⟨18, _⟩ => ⟨S4096x4096, .i1⟩
  | .hbm, ⟨19, _⟩ => ⟨S1x1x4096x4096, .i1⟩
  | .hbm, ⟨20, _⟩ => ⟨S_, .f32⟩
  | .hbm, ⟨21, _⟩ => ⟨S_, .f32⟩
  | .hbm, ⟨22, _⟩ => ⟨S4x8x4096x4096, .i1⟩
  | .hbm, ⟨23, _⟩ => ⟨S4x8x4096x4096, .f32⟩
  | .hbm, ⟨24, _⟩ => ⟨S4x8x4096x4096, .f32⟩
  | .hbm, ⟨25, _⟩ => ⟨S_, .f32⟩
  | .hbm, ⟨26, _⟩ => ⟨S4x8x4096, .f32⟩
  | .hbm, ⟨27, _⟩ => ⟨S4x8x4096x1, .f32⟩
  | .hbm, ⟨28, _⟩ => ⟨S4x8x4096x4096, .f32⟩
  | .hbm, ⟨29, _⟩ => ⟨S4x8x4096x4096, .f32⟩
  | .hbm, ⟨30, _⟩ => ⟨S4x8x4096x4096, .f32⟩
  | .hbm, ⟨31, _⟩ => ⟨S_, .f32⟩
  | .hbm, ⟨32, _⟩ => ⟨S_, .f32⟩
  | .hbm, ⟨33, _⟩ => ⟨S4x8x4096x4096, .i1⟩
  | .hbm, ⟨34, _⟩ => ⟨S4x8x4096x4096, .f32⟩
  | .hbm, ⟨35, _⟩ => ⟨S4x8x4096x4096, .f32⟩
  | .hbm, ⟨36, _⟩ => ⟨S_, .f32⟩
  | .hbm, ⟨37, _⟩ => ⟨S4x8x4096, .f32⟩
  | .hbm, ⟨38, _⟩ => ⟨S4x8x4096x1, .f32⟩
  | .hbm, ⟨39, _⟩ => ⟨S_, .f32⟩
  | .hbm, ⟨40, _⟩ => ⟨S4x8x4096x1, .f32⟩
  | .hbm, ⟨41, _⟩ => ⟨S4x8x4096x1, .f32⟩
  | .hbm, ⟨42, _⟩ => ⟨S4x8x4096x4096, .f32⟩
  | .hbm, ⟨43, _⟩ => ⟨S4x8x4096x4096, .f32⟩
  | .hbm, ⟨44, _⟩ => ⟨S4x128x8x4096, .f32⟩
  | .hbm, ⟨45, _⟩ => ⟨S4x4096x8x128, .f32⟩
  | .hbm, ⟨46, _⟩ => ⟨S4x4096x1024, .f32⟩
  | _, _ => ⟨S4x4096x8x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_cst : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_cst_0 : Ref sig .tc := ⟨.hbm, 20, rfl⟩
abbrev main_call0_v0 : Ref sig .tc := ⟨.hbm, 21, rfl⟩
abbrev main_call0_v1 : Ref sig .tc := ⟨.hbm, 22, rfl⟩
abbrev main_call0_v2 : Ref sig .tc := ⟨.hbm, 23, rfl⟩
abbrev main_v16 : Ref sig .tc := ⟨.hbm, 24, rfl⟩
abbrev main_cst_1 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_2 : Ref sig .tc := ⟨.hbm, 31, rfl⟩
abbrev main_call1_v0 : Ref sig .tc := ⟨.hbm, 32, rfl⟩
abbrev main_call1_v1 : Ref sig .tc := ⟨.hbm, 33, rfl⟩
abbrev main_call1_v2 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_v24 : Ref sig .tc := ⟨.hbm, 38, rfl⟩
abbrev main_cst_4 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩

abbrev nD : Nat := 1
abbrev τ : Topo := Topo.v7x

variable {F : FTy → Type} [FloatOps F]
-- ==== Kernel2.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 44
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | .hbm, ⟨28, _⟩ => ⟨S16384x1024, .f32⟩
  | .hbm, ⟨29, _⟩ => ⟨S_, .f32⟩
  | .hbm, ⟨30, _⟩ => ⟨S16384, .f32⟩
  | .hbm, ⟨31, _⟩ => ⟨S16384x1, .f32⟩
  | .hbm, ⟨32, _⟩ => ⟨S_, .f32⟩
  | .hbm, ⟨33, _⟩ => ⟨S16384x1, .f32⟩
  | .hbm, ⟨34, _⟩ => ⟨S16384x1, .f32⟩
  | .hbm, ⟨35, _⟩ => ⟨S_, .f32⟩
  | .hbm, ⟨36, _⟩ => ⟨S16384x1, .f32⟩
  | .hbm, ⟨37, _⟩ => ⟨S16384x1, .f32⟩
  | .hbm, ⟨38, _⟩ => ⟨S16384x1, .f32⟩
  | .hbm, ⟨39, _⟩ => ⟨S16384x1024, .f32⟩
  | .hbm, ⟨40, _⟩ => ⟨S16384x1024, .f32⟩
  | .hbm, ⟨41, _⟩ => ⟨S1x1024, .f32⟩
  | .hbm, ⟨42, _⟩ => ⟨S16384x1024, .f32⟩
  | .hbm, ⟨43, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel3.lean ====
abbrev S16384x1024 : Shape := ⟨2, ![16384, 1024]⟩
abbrev S1024 : Shape := ⟨1, ![1024]⟩
abbrev S1024x3072 : Shape := ⟨2, ![1024, 3072]⟩
abbrev S128x512 : Shape := ⟨2, ![128, 512]⟩
abbrev S512x1024 : Shape := ⟨2, ![512, 1024]⟩
abbrev S1024x1024 : Shape := ⟨2, ![1024, 1024]⟩
abbrev S1x128x512 : Shape := ⟨3, ![1, 128, 512]⟩
abbrev S1x128x8x64 : Shape := ⟨4, ![1, 128, 8, 64]⟩
abbrev S1x8x128x64 : Shape := ⟨4, ![1, 8, 128, 64]⟩
abbrev S8x8 : Shape := ⟨2, ![8, 8]⟩
abbrev S_ : Shape := ⟨0, ![]⟩
abbrev S1x8x128x1x64 : Shape := ⟨5, ![1, 8, 128, 1, 64]⟩
abbrev S1x8x1x8x1 : Shape := ⟨5, ![1, 8, 1, 8, 1]⟩
abbrev S1x8x128x8x64 : Shape := ⟨5, ![1, 8, 128, 8, 64]⟩
abbrev S1x1024x512 : Shape := ⟨3, ![1, 1024, 512]⟩
abbrev S1024x512 : Shape := ⟨2, ![1024, 512]⟩
abbrev S1x512x1024 : Shape := ⟨3, ![1, 512, 1024]⟩
abbrev S1x64x1024 : Shape := ⟨3, ![1, 64, 1024]⟩
abbrev S1x1024x1024 : Shape := ⟨3, ![1, 1024, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S256x512 : Shape := ⟨2, ![256, 512]⟩

abbrev nBuf : Space → Nat
  | .hbm => 90
  | .vmem => 17
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S128x512, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S1x128x512, .f32⟩
  | .hbm, ⟨12, _⟩ => ⟨S1x128x8x64, .f32⟩
  | .hbm, ⟨13, _⟩ => ⟨S1x8x128x64, .f32⟩
  | .hbm, ⟨14, _⟩ => ⟨S8x8, .i32⟩
  | .hbm, ⟨15, _⟩ => ⟨S8x8, .i32⟩
  | .hbm, ⟨16, _⟩ => ⟨S_, .i32⟩
  | .hbm, ⟨17, _⟩ => ⟨S8x8, .i32⟩
  | .hbm, ⟨18, _⟩ => ⟨S8x8, .i32⟩
  | .hbm, ⟨19, _⟩ => ⟨S8x8, .i1⟩
  | .hbm, ⟨20, _⟩ => ⟨S8x8, .f32⟩
  | .hbm, ⟨21, _⟩ => ⟨S1x8x128x1x64, .f32⟩
  | .hbm, ⟨22, _⟩ => ⟨S1x8x1x8x1, .f32⟩
  | .hbm, ⟨23, _⟩ => ⟨S1x8x128x8x64, .f32⟩
  | .hbm, ⟨24, _⟩ => ⟨S1x8x128x8x64, .f32⟩
  | .hbm, ⟨25, _⟩ => ⟨S1x8x128x8x64, .f32⟩
  | .hbm, ⟨26, _⟩ => ⟨S1x1024x512, .f32⟩
  | .hbm, ⟨27, _⟩ => ⟨S1x1024x512, .bf16⟩
  | .hbm, ⟨28, _⟩ => ⟨S1024x512, .bf16⟩
  | .hbm, ⟨29, _⟩ => ⟨S1x512x1024, .f32⟩
  | .hbm, ⟨30, _⟩ => ⟨S_, .f32⟩
  | .hbm, ⟨31, _⟩ => ⟨S1x64x1024, .f32⟩
  | .hbm, ⟨32, _⟩ => ⟨S1x64x1024, .f32⟩
  | .hbm, ⟨33, _⟩ => ⟨S_, .f32⟩
  | .hbm, ⟨34, _⟩ => ⟨S1x64x1024, .f32⟩
  | .hbm, ⟨35, _⟩ => ⟨S1x64x1024, .f32⟩
  | .hbm, ⟨36, _⟩ => ⟨S_, .f32⟩
  | .hbm, ⟨37, _⟩ => ⟨S1x64x1024, .f32⟩
  | .hbm, ⟨38, _⟩ => ⟨S1x64x1024, .f32⟩
  | .hbm, ⟨39, _⟩ => ⟨S_, .f32⟩
  | .hbm, ⟨40, _⟩ => ⟨S1x64x1024, .f32⟩
  | .hbm, ⟨41, _⟩ => ⟨S1x64x1024, .f32⟩
  | .hbm, ⟨42, _⟩ => ⟨S_, .f32⟩
  | .hbm, ⟨43, _⟩ => ⟨S1x64x1024, .f32⟩
  | .hbm, ⟨44, _⟩ => ⟨S1x64x1024, .f32⟩
  | .hbm, ⟨45, _⟩ => ⟨S_, .f32⟩
  | .hbm, ⟨46, _⟩ => ⟨S1x64x1024, .f32⟩
  | .hbm, ⟨47, _⟩ => ⟨S1x64x1024, .f32⟩
  | .hbm, ⟨48, _⟩ => ⟨S_, .f32⟩
  | .hbm, ⟨49, _⟩ => ⟨S1x64x1024, .f32⟩
  | .hbm, ⟨50, _⟩ => ⟨S1x64x1024, .f32⟩
  | .hbm, ⟨51, _⟩ => ⟨S_, .f32⟩
  | .hbm, ⟨52, _⟩ => ⟨S1x64x1024, .f32⟩
  | .hbm, ⟨53, _⟩ => ⟨S1x64x1024, .f32⟩
  | .hbm, ⟨54, _⟩ => ⟨S1x1024x1024, .f32⟩
  | .hbm, ⟨55, _⟩ => ⟨S1x1024x1024, .bf16⟩
  | .hbm, ⟨56, _⟩ => ⟨S1024x1024, .bf16⟩
  | .hbm, ⟨57, _⟩ => ⟨S1x512x1024, .f32⟩
  | .hbm, ⟨58, _⟩ => ⟨S_, .f32⟩
  | .hbm, ⟨59, _⟩ => ⟨S1x64x1024, .f32⟩
  | .hbm, ⟨60, _⟩ => ⟨S1x64x1024, .f32⟩
  | .hbm, ⟨61, _⟩ => ⟨S_, .f32⟩
  | .hbm, ⟨62, _⟩ => ⟨S1x64x1024, .f32⟩
  | .hbm, ⟨63, _⟩ => ⟨S1x64x1024, .f32⟩
  | .hbm, ⟨64, _⟩ => ⟨S_, .f32⟩
  | .hbm, ⟨65, _⟩ => ⟨S1x64x1024, .f32⟩
  | .hbm, ⟨66, _⟩ => ⟨S1x64x1024, .f32⟩
  | .hbm, ⟨67, _⟩ => ⟨S_, .f32⟩
  | .hbm, ⟨68, _⟩ => ⟨S1x64x1024, .f32⟩
  | .hbm, ⟨69, _⟩ => ⟨S1x64x1024, .f32⟩
  | .hbm, ⟨70, _⟩ => ⟨S_, .f32⟩
  | .hbm, ⟨71, _⟩ => ⟨S1x64x1024, .f32⟩
  | .hbm, ⟨72, _⟩ => ⟨S1x64x1024, .f32⟩
  | .hbm, ⟨73, _⟩ => ⟨S_, .f32⟩
  | .hbm, ⟨74, _⟩ => ⟨S1x64x1024, .f32⟩
  | .hbm, ⟨75, _⟩ => ⟨S1x64x1024, .f32⟩
  | .hbm, ⟨76, _⟩ => ⟨S_, .f32⟩
  | .hbm, ⟨77, _⟩ => ⟨S1x64x1024, .f32⟩
  | .hbm, ⟨78, _⟩ => ⟨S1x64x1024, .f32⟩
  | .hbm, ⟨79, _⟩ => ⟨S_, .f32⟩
  | .hbm, ⟨80, _⟩ => ⟨S1x64x1024, .f32⟩
  | .hbm, ⟨81, _⟩ => ⟨S1x64x1024, .f32⟩
  | .hbm, ⟨82, _⟩ => ⟨S1x1024x1024, .f32⟩
  | .hbm, ⟨83, _⟩ => ⟨S1x1024x1024, .bf16⟩
  | .hbm, ⟨84, _⟩ => ⟨S1024x1024, .bf16⟩
  | .hbm, ⟨85, _⟩ => ⟨S1x1024, .f32⟩
  | .hbm, ⟨86, _⟩ => ⟨S1024x3072, .bf16⟩
  | .hbm, ⟨87, _⟩ => ⟨S512x1024, .bf16⟩
  | .hbm, ⟨88, _⟩ => ⟨S1024x1024, .bf16⟩
  | .hbm, ⟨89, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3072, .bf16⟩
  | .local _ .vmem, ⟨4, _⟩ => ⟨S256x1024, .f32⟩
  | .local _ .vmem, ⟨5, _⟩ => ⟨S256x1024, .f32⟩
  | .local _ .vmem, ⟨6, _⟩ => ⟨S256x1024, .f32⟩
  | .local _ .vmem, ⟨7, _⟩ => ⟨S256x1024, .f32⟩
  | .local _ .vmem, ⟨8, _⟩ => ⟨S256x1024, .f32⟩
  | .local _ .vmem, ⟨9, _⟩ => ⟨S256x1024, .f32⟩
  | .local _ .vmem, ⟨10, _⟩ => ⟨S1024x512, .bf16⟩
  | .local _ .vmem, ⟨11, _⟩ => ⟨S1024x1024, .bf16⟩
  | .local _ .vmem, ⟨12, _⟩ => ⟨S512x1024, .bf16⟩
  | .local _ .vmem, ⟨13, _⟩ => ⟨S1024x1024, .bf16⟩
  | .local _ .vmem, ⟨14, _⟩ => ⟨S1024x1024, .bf16⟩
  | .local _ .vmem, ⟨15, _⟩ => ⟨S256x1024, .f32⟩
  | .local _ .vmem, ⟨16, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_v19 : Ref sig .tc := ⟨.hbm, 32, rfl⟩
abbrev main_cst_0 : Ref sig .tc := ⟨.hbm, 33, rfl⟩
abbrev main_v20 : Ref sig .tc := ⟨.hbm, 34, rfl⟩
abbrev main_v21 : Ref sig .tc := ⟨.hbm, 35, rfl⟩
abbrev main_cst_1 : Ref sig .tc := ⟨.hbm, 36, rfl⟩
abbrev main_v22 : Ref sig .tc := ⟨.hbm, 37, rfl⟩
abbrev main_v23 : Ref sig .tc := ⟨.hbm, 38, rfl⟩
abbrev main_cst_2 : Ref sig .tc := ⟨.hbm, 39, rfl⟩
abbrev main_v24 : Ref sig .tc := ⟨.hbm, 40, rfl⟩
abbrev main_v25 : Ref sig .tc := ⟨.hbm, 41, rfl⟩
abbrev main_cst_3 : Ref sig .tc := ⟨.hbm, 42, rfl⟩
abbrev main_v26 : Ref sig .tc := ⟨.hbm, 43, rfl⟩
abbrev main_v27 : Ref sig .tc := ⟨.hbm, 44, rfl⟩
abbrev main_cst_4 : Ref sig .tc := ⟨.hbm, 45, rfl⟩
abbrev main_v28 : Ref sig .tc := ⟨.hbm, 46, rfl⟩
abbrev main_v29 : Ref sig .tc := ⟨.hbm, 47, rfl⟩
abbrev main_cst_5 : Ref sig .tc := ⟨.hbm, 48, rfl⟩
abbrev main_v30 : Ref sig .tc := ⟨.hbm, 49, rfl⟩
abbrev main_v31 : Ref sig .tc := ⟨.hbm, 50, rfl⟩
abbrev main_cst_6 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_7 : Ref sig .tc := ⟨.hbm, 58, rfl⟩
abbrev main_v38 : Ref sig .tc := ⟨.hbm, 59, rfl⟩
abbrev main_v39 : Ref sig .tc := ⟨.hbm, 60, rfl⟩
abbrev main_cst_8 : Ref sig .tc := ⟨.hbm, 61, rfl⟩
abbrev main_v40 : Ref sig .tc := ⟨.hbm, 62, rfl⟩
abbrev main_v41 : Ref sig .tc := ⟨.hbm, 63, rfl⟩
abbrev main_cst_9 : Ref sig .tc := ⟨.hbm, 64, rfl⟩
abbrev main_v42 : Ref sig .tc := ⟨.hbm, 65, rfl⟩
abbrev main_v43 : Ref sig .tc := ⟨.hbm, 66, rfl⟩
abbrev main_cst_10 : Ref sig .tc := ⟨.hbm, 67, rfl⟩
abbrev main_v44 : Ref sig .tc := ⟨.hbm, 68, rfl⟩
abbrev main_v45 : Ref sig .tc := ⟨.hbm, 69, rfl⟩
abbrev main_cst_11 : Ref sig .tc := ⟨.hbm, 70, rfl⟩
abbrev main_v46 : Ref sig .tc := ⟨.hbm, 71, rfl⟩
abbrev main_v47 : Ref sig .tc := ⟨.hbm, 72, rfl⟩
abbrev main_cst_12 : Ref sig .tc := ⟨.hbm, 73, rfl⟩
abbrev main_v48 : Ref sig .tc := ⟨.hbm, 74, rfl⟩
abbrev main_v49 : Ref sig .tc := ⟨.hbm, 75, rfl⟩
abbrev main_cst_13 : Ref sig .tc := ⟨.hbm, 76, rfl⟩
abbrev main_v50 : Ref sig .tc := ⟨.hbm, 77, rfl⟩
abbrev main_v51 : Ref sig .tc := ⟨.hbm, 78, rfl⟩
abbrev main_cst_14 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg11_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem8_0 : DmaSem sig := 12
abbrev cc0_sem9_0 : DmaSem sig := 13
abbrev cc0_sem10_0 : DmaSem sig := 14
abbrev cc0_sem11_0 : DmaSem sig := 15
abbrev cc0_sem11_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Reference3Ideal.lean ====
abbrev S16384x1024 : Shape := ⟨2, ![16384, 1024]⟩
abbrev S1024 : Shape := ⟨1, ![1024]⟩
abbrev S1024x3072 : Shape := ⟨2, ![1024, 3072]⟩
abbrev S128x512 : Shape := ⟨2, ![128, 512]⟩
abbrev S512x1024 : Shape := ⟨2, ![512, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x8x128 : Shape := ⟨3, ![16384, 8, 128]⟩
abbrev S128x8x64 : Shape := ⟨3, ![128, 8, 64]⟩
abbrev S8x64x16384 : Shape := ⟨3, ![8, 64, 16384]⟩
abbrev S16384x8x64 : Shape := ⟨3, ![16384, 8, 64]⟩
abbrev S16384x512 : Shape := ⟨2, ![16384, 512]⟩
abbrev S16384x3072 : Shape := ⟨2, ![16384, 3072]⟩

abbrev nBuf : Space → Nat
  | .hbm => 60
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x3072, .f32⟩
  | .hbm, ⟨3, _⟩ => ⟨S16384x1024, .f32⟩
  | .hbm, ⟨4, _⟩ => ⟨S16384x1024, .f32⟩
  | .hbm, ⟨5, _⟩ => ⟨S16384x1024, .f32⟩
  | .hbm, ⟨6, _⟩ => ⟨S128x512, .f32⟩
  | .hbm, ⟨7, _⟩ => ⟨S512x1024, .f32⟩
  | .hbm, ⟨8, _⟩ => ⟨S512x1024, .f32⟩
  | .hbm, ⟨9, _⟩ => ⟨S512x1024, .f32⟩
  | .hbm, ⟨10, _⟩ => ⟨S1024x1024, .f32⟩
  | .hbm, ⟨11, _⟩ => ⟨S16384x1024, .f32⟩
  | .hbm, ⟨12, _⟩ => ⟨S_, .f32⟩
  | .hbm, ⟨13, _⟩ => ⟨S16384, .f32⟩
  | .hbm, ⟨14, _⟩ => ⟨S16384x1, .f32⟩
  | .hbm, ⟨15, _⟩ => ⟨S_, .f32⟩
  | .hbm, ⟨16, _⟩ => ⟨S16384x1, .f32⟩
  | .hbm, ⟨17, _⟩ => ⟨S16384x1, .f32⟩
  | .hbm, ⟨18, _⟩ => ⟨S_, .f32⟩
  | .hbm, ⟨19, _⟩ => ⟨S16384x1, .f32⟩
  | .hbm, ⟨20, _⟩ => ⟨S16384x1, .f32⟩
  | .hbm, ⟨21, _⟩ => ⟨S16384x1, .f32⟩
  | .hbm, ⟨22, _⟩ => ⟨S16384x1024, .f32⟩
  | .hbm, ⟨23, _⟩ => ⟨S16384x1024, .f32⟩
  | .hbm, ⟨24, _⟩ => ⟨S1x1024, .f32⟩
  | .hbm, ⟨25, _⟩ => ⟨S16384x1024, .f32⟩
  | .hbm, ⟨26, _⟩ => ⟨S16384x1024, .f32⟩
  | .hbm, ⟨27, _⟩ => ⟨S16384x8x128, .f32⟩
  | .hbm, ⟨28, _⟩ => ⟨S128x8x64, .f32⟩
  | .hbm, ⟨29, _⟩ => ⟨S8x64x16384, .f32⟩
  | .hbm, ⟨30, _⟩ => ⟨S16384x8x64, .f32⟩
  | .hbm, ⟨31, _⟩ => ⟨S16384x512, .f32⟩
  | .hbm, ⟨32, _⟩ => ⟨S16384x3072, .f32⟩
  | .hbm, ⟨33, _⟩ => ⟨S16384x3072, .f32⟩
  | .hbm, ⟨34, _⟩ => ⟨S16384x3072, .f32⟩
  | .hbm, ⟨35, _⟩ => ⟨S_, .f32⟩
  | .hbm, ⟨36, _⟩ => ⟨S16384x3072, .f32⟩
  | .hbm, ⟨37, _⟩ => ⟨S16384x3072, .f32⟩
  | .hbm, ⟨38, _⟩ => ⟨S_, .f32⟩
  | .hbm, ⟨39, _⟩ => ⟨S16384x3072, .f32⟩
  | .hbm, ⟨40, _⟩ => ⟨S16384x3072, .f32⟩
  | .hbm, ⟨41, _⟩ => ⟨S16384x1024, .f32⟩
  | .hbm, ⟨42, _⟩ => ⟨S16384x1024, .f32⟩
  | .hbm, ⟨43, _⟩ => ⟨S16384x1024, .f32⟩
  | .hbm, ⟨44, _⟩ => ⟨S16384x8x128, .f32⟩
  | .hbm, ⟨45, _⟩ => ⟨S16384x8x64, .f32⟩
  | .hbm, ⟨46, _⟩ => ⟨S16384x512, .f32⟩
  | .hbm, ⟨47, _⟩ => ⟨S16384x1024, .f32⟩
  | .hbm, ⟨48, _⟩ => ⟨S16384x1024, .f32⟩
  | .hbm, ⟨49, _⟩ => ⟨S16384x1024, .f32⟩
  | .hbm, ⟨50, _⟩ => ⟨S16384x1024, .f32⟩
  | .hbm, ⟨51, _⟩ => ⟨S16384x1024, .f32⟩
  | .hbm, ⟨52, _⟩ => ⟨S16384x8x128, .f32⟩
  | .hbm, ⟨53, _⟩ => ⟨S16384x8x64, .f32⟩
  | .hbm, ⟨54, _⟩ => ⟨S16384x512, .f32⟩
  | .hbm, ⟨55, _⟩ => ⟨S16384x1024, .f32⟩
  | .hbm, ⟨56, _⟩ => ⟨S16384x1024, .f32⟩
  | .hbm, ⟨57, _⟩ => ⟨S16384x1024, .f32⟩
  | .hbm, ⟨58, _⟩ => ⟨S16384x1024, .f32⟩
  | .hbm, ⟨59, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_cst : Ref sig .tc := ⟨.hbm, 12, rfl⟩
abbrev main_v1 : Ref sig .tc := ⟨.hbm, 13, rfl⟩
abbrev main_v2 : Ref sig .tc := ⟨.hbm, 14, rfl⟩
abbrev main_cst_0 : Ref sig .tc := ⟨.hbm, 15, rfl⟩
abbrev main_v3 : Ref sig .tc := ⟨.hbm, 16, rfl⟩
abbrev main_v4 : Ref sig .tc := ⟨.hbm, 17, rfl⟩
abbrev main_cst_1 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_cst_2 : Ref sig .tc := ⟨.hbm, 35, rfl⟩
abbrev main_v21 : Ref sig .tc := ⟨.hbm, 36, rfl⟩
abbrev main_v22 : Ref sig .tc := ⟨.hbm, 37, rfl⟩
abbrev main_cst_3 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩

abbrev nD : Nat := 1
abbrev τ : Topo := Topo.v7x

variable {F : FTy → Type} [FloatOps F]
-- ==== Kernel4.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩
abbrev S1024x1024 : Shape := ⟨2, ![1024, 1024]⟩

abbrev nBuf : Space → Nat
  | .hbm => 10
  | .vmem => 8
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S16384x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference4Ideal.lean ====
abbrev S16384x1024 : Shape := ⟨2, ![16384, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩
abbrev S16384x4096 : Shape := ⟨2, ![16384, 4096]⟩

abbrev nBuf : Space → Nat
  | .hbm => 28
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S16384x1024, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x1024, .f32⟩
  | .hbm, ⟨17, _⟩ => ⟨S16384x1024, .f32⟩
  | .hbm, ⟨18, _⟩ => ⟨S1x1024, .f32⟩
  | .hbm, ⟨19, _⟩ => ⟨S16384x1024, .f32⟩
  | .hbm, ⟨20, _⟩ => ⟨S16384x1024, .f32⟩
  | .hbm, ⟨21, _⟩ => ⟨S16384x4096, .f32⟩
  | .hbm, ⟨22, _⟩ => ⟨S_, .f32⟩
  | .hbm, ⟨23, _⟩ => ⟨S16384x4096, .f32⟩
  | .hbm, ⟨24, _⟩ => ⟨S16384x4096, .f32⟩
  | .hbm, ⟨25, _⟩ => ⟨S16384x4096, .f32⟩
  | .hbm, ⟨26, _⟩ => ⟨S16384x1024, .f32⟩
  | .hbm, ⟨27, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩

abbrev nD : Nat := 1
abbrev τ : Topo := Topo.v7x

variable {F : FTy → Type} [FloatOps F]
-- ==== Kernel5.lean ====
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S256x1024 : Shape := ⟨2, ![256, 1024]⟩
abbrev S256 : Shape := ⟨1, ![256]⟩
abbrev S256x1 : Shape := ⟨2, ![256, 1]⟩

abbrev nBuf : Space → Nat
  | .hbm => 10
  | .vmem => 8
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1x1024, .f32⟩
  | .hbm, ⟨6, _⟩ => ⟨S1024x4096, .bf16⟩
  | .hbm, ⟨7, _⟩ => ⟨S4096x1024, .bf16⟩
  | .hbm, ⟨8, _⟩ => ⟨S1x1024, .f32⟩
  | .hbm, ⟨9, _⟩ => ⟨S1024x1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x4096, .bf16⟩
  | .local _ .vmem, ⟨4, _⟩ => ⟨S4096x1024, .bf16⟩
  | .local _ .vmem, ⟨5, _⟩ => ⟨S1x1024, .f32⟩
  | .local _ .vmem, ⟨6, _⟩ => ⟨S256x1024, .f32⟩
  | .local _ .vmem, ⟨7, _⟩ => ⟨S256x1024, .f32⟩
  | _, _ => ⟨S1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x4096 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4096x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference5Ideal.lean ====
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S1024x1 : Shape := ⟨2, ![1024, 1]⟩
abbrev S1x1024 : Shape := ⟨2, ![1, 1024]⟩

abbrev nBuf : Space → Nat
  | .hbm => 44
  | .vmem => 0
  | .smem => 0
  | _ => 0

abbrev bufTy : (tb : Table) → Fin (tcTables nBuf tb) → BufTy
  | .hbm, ⟨0, _⟩ => ⟨S1024x1024, .f32⟩
  | .hbm, ⟨1, _⟩ => ⟨S1024, .f32⟩
  | .hbm, ⟨2, _⟩ => ⟨S1024x4096, .f32⟩
  | .hbm, ⟨3, _⟩ => ⟨S4096x1024, .f32⟩
  | .hbm, ⟨4, _⟩ => ⟨S1024, .f32⟩
  | .hbm, ⟨5, _⟩ => ⟨S1024x1024, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S_, .f32⟩
  | .hbm, ⟨10, _⟩ => ⟨S1024x1, .f32⟩
  | .hbm, ⟨11, _⟩ => ⟨S1024x1, .f32⟩
  | .hbm, ⟨12, _⟩ => ⟨S_, .f32⟩
  | .hbm, ⟨13, _⟩ => ⟨S1024x1, .f32⟩
  | .hbm, ⟨14, _⟩ => ⟨S1024x1, .f32⟩
  | .hbm, ⟨15, _⟩ => ⟨S1024x1, .f32⟩
  | .hbm, ⟨16, _⟩ => ⟨S1024x1024, .f32⟩
  | .hbm, ⟨17, _⟩ => ⟨S1024x1024, .f32⟩
  | .hbm, ⟨18, _⟩ => ⟨S1x1024, .f32⟩
  | .hbm, ⟨19, _⟩ => ⟨S1024x1024, .f32⟩
  | .hbm, ⟨20, _⟩ => ⟨S1024x1024, .f32⟩
  | .hbm, ⟨21, _⟩ => ⟨S1024x4096, .f32⟩
  | .hbm, ⟨22, _⟩ => ⟨S_, .f32⟩
  | .hbm, ⟨23, _⟩ => ⟨S1024x4096, .f32⟩
  | .hbm, ⟨24, _⟩ => ⟨S1024x4096, .f32⟩
  | .hbm, ⟨25, _⟩ => ⟨S1024x4096, .f32⟩
  | .hbm, ⟨26, _⟩ => ⟨S1024x1024, .f32⟩
  | .hbm, ⟨27, _⟩ => ⟨S1024x1024, .f32⟩
  | .hbm, ⟨28, _⟩ => ⟨S1024x1024, .f32⟩
  | .hbm, ⟨29, _⟩ => ⟨S_, .f32⟩
  | .hbm, ⟨30, _⟩ => ⟨S1024, .f32⟩
  | .hbm, ⟨31, _⟩ => ⟨S1024x1, .f32⟩
  | .hbm, ⟨32, _⟩ => ⟨S_, .f32⟩
  | .hbm, ⟨33, _⟩ => ⟨S1024x1, .f32⟩
  | .hbm, ⟨34, _⟩ => ⟨S1024x1, .f32⟩
  | .hbm, ⟨35, _⟩ => ⟨S_, .f32⟩
  | .hbm, ⟨36, _⟩ => ⟨S1024x1, .f32⟩
  | .hbm, ⟨37, _⟩ => ⟨S1024x1, .f32⟩
  | .hbm, ⟨38, _⟩ => ⟨S1024x1, .f32⟩
  | .hbm, ⟨39, _⟩ => ⟨S1024x1024, .f32⟩
  | .hbm, ⟨40, _⟩ => ⟨S1024x1024, .f32⟩
  | .hbm, ⟨41, _⟩ => ⟨S1x1024, .f32⟩
  | .hbm, ⟨42, _⟩ => ⟨S1024x1024, .f32⟩
  | .hbm, ⟨43, _⟩ => ⟨S1024x1024, .f32⟩
  | _, _ => ⟨S1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_call0_cst : Ref sig .tc := ⟨.hbm, 22, rfl⟩
abbrev main_call0_v0 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_2 : Ref sig .tc := ⟨.hbm, 29, rfl⟩
abbrev main_v19 : Ref sig .tc := ⟨.hbm, 30, rfl⟩
abbrev main_v20 : Ref sig .tc := ⟨.hbm, 31, rfl⟩
abbrev main_cst_3 : Ref sig .tc := ⟨.hbm, 32, rfl⟩
abbrev main_v21 : Ref sig .tc := ⟨.hbm, 33, rfl⟩
abbrev main_v22 : Ref sig .tc := ⟨.hbm, 34, rfl⟩
abbrev main_cst_4 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]
-- ==== Kernel6.lean ====
abbrev S16384x1024 : Shape := ⟨2, ![16384, 1024]⟩
abbrev S1024 : Shape := ⟨1, ![1024]⟩
abbrev S1024x2104 : Shape := ⟨2, ![1024, 2104]⟩
abbrev S256 : Shape := ⟨1, ![256]⟩
abbrev S256x768 : Shape := ⟨2, ![256, 768]⟩
abbrev S128 : Shape := ⟨1, ![128]⟩
abbrev S128x512 : Shape := ⟨2, ![128, 512]⟩
abbrev S1024x64 : Shape := ⟨2, ![1024, 64]⟩
abbrev S_ : Shape := ⟨0, ![]⟩
abbrev S1024x480 : Shape := ⟨2, ![1024, 480]⟩
abbrev S1024x96 : Shape := ⟨2, ![1024, 96]⟩
abbrev S1024x408 : Shape := ⟨2, ![1024, 408]⟩
abbrev S1024x104 : Shape := ⟨2, ![1024, 104]⟩
abbrev S1024x1024 : Shape := ⟨2, ![1024, 1024]⟩
abbrev S1024x1472 : Shape := ⟨2, ![1024, 1472]⟩
abbrev S1024x832 : Shape := ⟨2, ![1024, 832]⟩
abbrev S1024x3328 : Shape := ⟨2, ![1024, 3328]⟩
abbrev S1x256x768 : Shape := ⟨3, ![1, 256, 768]⟩
abbrev S1x128x512 : Shape := ⟨3, ![1, 128, 512]⟩
abbrev S1x256x64 : Shape := ⟨3, ![1, 256, 64]⟩
abbrev S1x256x32 : Shape := ⟨3, ![1, 256, 32]⟩
abbrev S1x128x8x64 : Shape := ⟨4, ![1, 128, 8, 64]⟩
abbrev S1x8x64x128 : Shape := ⟨4, ![1, 8, 64, 128]⟩
abbrev S1x8x64x256 : Shape := ⟨4, ![1, 8, 64, 256]⟩
abbrev S8x8 : Shape := ⟨2, ![8, 8]⟩
abbrev S1x8x64x1x256 : Shape := ⟨5, ![1, 8, 64, 1, 256]⟩
abbrev S1x8x1x8x1 : Shape := ⟨5, ![1, 8, 1, 8, 1]⟩
abbrev S1x8x64x8x256 : Shape := ⟨5, ![1, 8, 64, 8, 256]⟩
abbrev S1x512x2048 : Shape := ⟨3, ![1, 512, 2048]⟩
abbrev S32x32 : Shape := ⟨2, ![32, 32]⟩
abbrev S32x256 : Shape := ⟨2, ![32, 256]⟩
abbrev S1x8x32x256 : Shape := ⟨4, ![1, 8, 32, 256]⟩
abbrev S1x8x32x1x256 : Shape := ⟨5, ![1, 8, 32, 1, 256]⟩
abbrev S1x8x32x8x256 : Shape := ⟨5, ![1, 8, 32, 8, 256]⟩
abbrev S1x256x2048 : Shape := ⟨3, ![1, 256, 2048]⟩
abbrev S1x768x2048 : Shape := ⟨3, ![1, 768, 2048]⟩
abbrev S1x1024 : Shape := ⟨2, ![1, 1024]⟩
abbrev S1x256 : Shape := ⟨2, ![1, 256]⟩
abbrev S768x2048 : Shape := ⟨2, ![768, 2048]⟩
abbrev S1x128 : Shape := ⟨2, ![1, 128]⟩
abbrev S4096 : Shape := ⟨1, ![4096]⟩
abbrev S4096x1 : Shape := ⟨2, ![4096, 1]⟩
abbrev S8 : Shape := ⟨1, ![8]⟩
abbrev S128x1 : Shape := ⟨2, ![128, 1]⟩
abbrev S4096x128 : Shape := ⟨2, ![4096, 128]⟩
abbrev S16 : Shape := ⟨1, ![16]⟩
abbrev S16384x256 : Shape := ⟨2, ![16384, 256]⟩
abbrev S16384x2048 : Shape := ⟨2, ![16384, 2048]⟩
abbrev S16384x128 : Shape := ⟨2, ![16384, 128]⟩
abbrev S256x1024 : Shape := ⟨2, ![256, 1024]⟩
abbrev S256x128 : Shape := ⟨2, ![256, 128]⟩
abbrev S256x256 : Shape := ⟨2, ![256, 256]⟩
abbrev S256x2048 : Shape := ⟨2, ![256, 2048]⟩
abbrev S256x1 : Shape := ⟨2, ![256, 1]⟩
abbrev S1024x256 : Shape := ⟨2, ![1024, 256]⟩
abbrev S256x512 : Shape := ⟨2, ![256, 512]⟩
abbrev S1024x128 : Shape := ⟨2, ![1024, 128]⟩

abbrev nBuf : Space → Nat
  | .hbm => 235
  | .vmem => 36
  | .smem => 0
  | _ => 0

abbrev hbmTy0_0 (i : Nat) : BufTy := match i % 128 with
  | 0 => ⟨S16384x1024, .f32⟩
  | 1 => ⟨S1024, .f32⟩
  | 2 => ⟨S1024x2104, .f32⟩
  | 3 => ⟨S256, .f32⟩
  | 4 => ⟨S256x768, .f32⟩
  | 5 => ⟨S128, .f32⟩
  | 6 => ⟨S128x512, .f32⟩
  | 7 => ⟨S128, .i32⟩
  | 8 => ⟨S128, .i1⟩
  | 9 => ⟨S128, .i1⟩
  | 10 => ⟨S128, .i1⟩
  | 11 => ⟨S128, .i32⟩
  | 12 => ⟨S128, .i1⟩
  | 13 => ⟨S128, .i1⟩
  | 14 => ⟨S128, .i1⟩
  | 15 => ⟨S1024x64, .f32⟩
  | 16 => ⟨S_, .f32⟩
  | 17 => ⟨S1024x64, .f32⟩
  | 18 => ⟨S1024x64, .f32⟩
  | 19 => ⟨S_, .f32⟩
  | 20 => ⟨S1024x64, .f32⟩
  | 21 => ⟨S1024x64, .f32⟩
  | 22 => ⟨S_, .f32⟩
  | 23 => ⟨S1024x64, .f32⟩
  | 24 => ⟨S1024x64, .f32⟩
  | 25 => ⟨S_, .f32⟩
  | 26 => ⟨S1024x64, .f32⟩
  | 27 => ⟨S1024x64, .f32⟩
  | 28 => ⟨S_, .f32⟩
  | 29 => ⟨S1024x64, .f32⟩
  | 30 => ⟨S1024x64, .f32⟩
  | 31 => ⟨S_, .f32⟩
  | 32 => ⟨S1024x64, .f32⟩
  | 33 => ⟨S1024x64, .f32⟩
  | 34 => ⟨S_, .f32⟩
  | 35 => ⟨S1024x64, .f32⟩
  | 36 => ⟨S1024x64, .f32⟩
  | 37 => ⟨S_, .f32⟩
  | 38 => ⟨S1024x64, .f32⟩
  | 39 => ⟨S1024x64, .f32⟩
  | 40 => ⟨S1024x64, .f32⟩
  | 41 => ⟨S1024x64, .f32⟩
  | 42 => ⟨S1024x480, .f32⟩
  | 43 => ⟨S_, .f32⟩
  | 44 => ⟨S1024x96, .f32⟩
  | 45 => ⟨S1024x64, .f32⟩
  | 46 => ⟨S_, .f32⟩
  | 47 => ⟨S1024x64, .f32⟩
  | 48 => ⟨S1024x64, .f32⟩
  | 49 => ⟨S_, .f32⟩
  | 50 => ⟨S1024x64, .f32⟩
  | 51 => ⟨S1024x64, .f32⟩
  | 52 => ⟨S_, .f32⟩
  | 53 => ⟨S1024x64, .f32⟩
  | 54 => ⟨S1024x64, .f32⟩
  | 55 => ⟨S_, .f32⟩
  | 56 => ⟨S1024x64, .f32⟩
  | 57 => ⟨S1024x64, .f32⟩
  | 58 => ⟨S_, .f32⟩
  | 59 => ⟨S1024x64, .f32⟩
  | 60 => ⟨S1024x64, .f32⟩
  | 61 => ⟨S_, .f32⟩
  | 62 => ⟨S1024x64, .f32⟩
  | 63 => ⟨S1024x64, .f32⟩
  | 64 => ⟨S_, .f32⟩
  | 65 => ⟨S1024x64, .f32⟩
  | 66 => ⟨S1024x64, .f32⟩
  | 67 => ⟨S_, .f32⟩
  | 68 => ⟨S1024x64, .f32⟩
  | 69 => ⟨S1024x408, .f32⟩
  | 70 => ⟨S_, .f32⟩
  | 71 => ⟨S1024x104, .f32⟩
  | 72 => ⟨S1024x1024, .f32⟩
  | 73 => ⟨S1024x1472, .f32⟩
  | 74 => ⟨S1024x832, .f32⟩
  | 75 => ⟨S1024x3328, .f32⟩
  | 76 => ⟨S1024x3328, .bf16⟩
  | 77 => ⟨S1x256x768, .f32⟩
  | 78 => ⟨S1x128x512, .f32⟩
  | 79 => ⟨S1x256x64, .f32⟩
  | 80 => ⟨S1x256x64, .f32⟩
  | 81 => ⟨S1x256x64, .f32⟩
  | 82 => ⟨S1x256x64, .f32⟩
  | 83 => ⟨S1x256x64, .f32⟩
  | 84 => ⟨S1x256x64, .f32⟩
  | 85 => ⟨S1x256x64, .f32⟩
  | 86 => ⟨S1x256x64, .f32⟩
  | 87 => ⟨S1x256x32, .f32⟩
  | 88 => ⟨S1x256x32, .f32⟩
  | 89 => ⟨S1x256x32, .f32⟩
  | 90 => ⟨S1x256x32, .f32⟩
  | 91 => ⟨S1x256x32, .f32⟩
  | 92 => ⟨S1x256x32, .f32⟩
  | 93 => ⟨S1x256x32, .f32⟩
  | 94 => ⟨S1x256x32, .f32⟩
  | 95 => ⟨S1x256x768, .f32⟩
  | 96 => ⟨S1x128x8x64, .f32⟩
  | 97 => ⟨S1x8x64x128, .f32⟩
  | 98 => ⟨S_, .i32⟩
  | 99 => ⟨S_, .f32⟩
  | 100 => ⟨S1x8x64x256, .f32⟩
  | 101 => ⟨S8x8, .i32⟩
  | 102 => ⟨S8x8, .i32⟩
  | 103 => ⟨S_, .i32⟩
  | 104 => ⟨S8x8, .i32⟩
  | 105 => ⟨S8x8, .i32⟩
  | 106 => ⟨S8x8, .i1⟩
  | 107 => ⟨S8x8, .f32⟩
  | 108 => ⟨S1x8x64x1x256, .f32⟩
  | 109 => ⟨S1x8x1x8x1, .f32⟩
  | 110 => ⟨S1x8x64x8x256, .f32⟩
  | 111 => ⟨S1x8x64x8x256, .f32⟩
  | 112 => ⟨S1x8x64x8x256, .f32⟩
  | 113 => ⟨S1x512x2048, .f32⟩
  | 114 => ⟨S32x32, .i32⟩
  | 115 => ⟨S32x32, .i32⟩
  | 116 => ⟨S_, .i32⟩
  | 117 => ⟨S32x32, .i32⟩
  | 118 => ⟨S32x32, .i32⟩
  | 119 => ⟨S32x32, .i1⟩
  | 120 => ⟨S32x32, .f32⟩
  | 121 => ⟨S_, .i32⟩
  | 122 => ⟨S_, .f32⟩
  | 123 => ⟨S32x256, .f32⟩
  | 124 => ⟨S1x8x32x256, .f32⟩
  | 125 => ⟨S8x8, .i32⟩
  | 126 => ⟨S8x8, .i32⟩
  | 127 => ⟨S_, .i32⟩
  | _ => ⟨S16384x1024, .f32⟩

abbrev hbmTy0_1 (i : Nat) : BufTy := match i % 128 with
  | 0 => ⟨S8x8, .i32⟩
  | 1 => ⟨S8x8, .i32⟩
  | 2 => ⟨S8x8, .i1⟩
  | 3 => ⟨S8x8, .f32⟩
  | 4 => ⟨S1x8x32x1x256, .f32⟩
  | 5 => ⟨S1x8x1x8x1, .f32⟩
  | 6 => ⟨S1x8x32x8x256, .f32⟩
  | 7 => ⟨S1x8x32x8x256, .f32⟩
  | 8 => ⟨S1x8x32x8x256, .f32⟩
  | 9 => ⟨S1x256x2048, .f32⟩
  | 10 => ⟨S1x768x2048, .f32⟩
  | 11 => ⟨S1x256x768, .bf16⟩
  | 12 => ⟨S1x768x2048, .bf16⟩
  | 13 => ⟨S1x1024, .f32⟩
  | 14 => ⟨S1x256, .f32⟩
  | 15 => ⟨S256x768, .bf16⟩
  | 16 => ⟨S768x2048, .bf16⟩
  | 17 => ⟨S1x128, .f32⟩
  | 18 => ⟨S4096, .i32⟩
  | 19 => ⟨S4096, .f32⟩
  | 20 => ⟨S4096x1, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S_, .f32⟩
  | 29 => ⟨S8, .f32⟩
  | 30 => ⟨S8, .f32⟩
  | 31 => ⟨S_, .i32⟩
  | 32 => ⟨S128, .i32⟩
  | 33 => ⟨S128, .i1⟩
  | 34 => ⟨S_, .i32⟩
  | 35 => ⟨S128, .i32⟩
  | 36 => ⟨S128, .i32⟩
  | 37 => ⟨S128, .i32⟩
  | 38 => ⟨S128x1, .i32⟩
  | 39 => ⟨S128, .f32⟩
  | 40 => ⟨S1x128, .f32⟩
  | 41 => ⟨S4096x128, .f32⟩
  | 42 => ⟨S4096x128, .f32⟩
  | 43 => ⟨S4096x128, .f32⟩
  | 44 => ⟨S4096x128, .f32⟩
  | 45 => ⟨S4096x128, .f32⟩
  | 46 => ⟨S_, .f32⟩
  | 47 => ⟨S_, .f32⟩
  | 48 => ⟨S4096x128, .i1⟩
  | 49 => ⟨S4096x128, .f32⟩
  | 50 => ⟨S4096x128, .f32⟩
  | 51 => ⟨S4096x128, .f32⟩
  | 52 => ⟨S_, .f32⟩
  | 53 => ⟨S_, .f32⟩
  | 54 => ⟨S4096x128, .i1⟩
  | 55 => ⟨S4096x128, .f32⟩
  | 56 => ⟨S4096x128, .f32⟩
  | 57 => ⟨S4096x128, .i1⟩
  | 58 => ⟨S4096x128, .f32⟩
  | 59 => ⟨S16, .f32⟩
  | 60 => ⟨S_, .f32⟩
  | 61 => ⟨S16, .f32⟩
  | 62 => ⟨S16, .f32⟩
  | 63 => ⟨S_, .f32⟩
  | 64 => ⟨S16, .f32⟩
  | 65 => ⟨S16, .f32⟩
  | 66 => ⟨S_, .f32⟩
  | 67 => ⟨S16, .f32⟩
  | 68 => ⟨S16, .f32⟩
  | 69 => ⟨S_, .i32⟩
  | 70 => ⟨S128, .i32⟩
  | 71 => ⟨S128, .i1⟩
  | 72 => ⟨S_, .i32⟩
  | 73 => ⟨S128, .i32⟩
  | 74 => ⟨S128, .i32⟩
  | 75 => ⟨S128, .i32⟩
  | 76 => ⟨S128x1, .i32⟩
  | 77 => ⟨S128, .f32⟩
  | 78 => ⟨S1x128, .f32⟩
  | 79 => ⟨S4096x128, .f32⟩
  | 80 => ⟨S4096x128, .f32⟩
  | 81 => ⟨S4096x128, .f32⟩
  | 82 => ⟨S4096x128, .f32⟩
  | 83 => ⟨S4096x128, .f32⟩
  | 84 => ⟨S_, .f32⟩
  | 85 => ⟨S_, .f32⟩
  | 86 => ⟨S4096x128, .i1⟩
  | 87 => ⟨S4096x128, .f32⟩
  | 88 => ⟨S4096x128, .f32⟩
  | 89 => ⟨S4096x128, .f32⟩
  | 90 => ⟨S_, .f32⟩
  | 91 => ⟨S_, .f32⟩
  | 92 => ⟨S4096x128, .i1⟩
  | 93 => ⟨S4096x128, .f32⟩
  | 94 => ⟨S4096x128, .f32⟩
  | 95 => ⟨S4096x128, .i1⟩
  | 96 => ⟨S4096x128, .f32⟩
  | 97 => ⟨S16384x1024, .f32⟩
  | 98 => ⟨S16384x256, .f32⟩
  | 99 => ⟨S16384x2048, .f32⟩
  | 100 => ⟨S16384x256, .f32⟩
  | 101 => ⟨S16384x1024, .f32⟩
  | 102 => ⟨S16384x1024, .f32⟩
  | 103 => ⟨S16384x128, .f32⟩
  | 104 => ⟨S16384x128, .f32⟩
  | 105 => ⟨S16384x128, .f32⟩
  | 106 => ⟨S16384x128, .f32⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1024x3328, .bf16⟩
  | .local _ .vmem, ⟨4, _⟩ => ⟨S1x256, .f32⟩
  | .local _ .vmem, ⟨5, _⟩ => ⟨S256x768, .bf16⟩
  | .local _ .vmem, ⟨6, _⟩ => ⟨S768x2048, .bf16⟩
  | .local _ .vmem, ⟨7, _⟩ => ⟨S1x128, .f32⟩
  | .local _ .vmem, ⟨8, _⟩ => ⟨S256x128, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S256x128, .f32⟩
  | .local _ .vmem, ⟨16, _⟩ => ⟨S256x1024, .f32⟩
  | .local _ .vmem, ⟨17, _⟩ => ⟨S256x1024, .f32⟩
  | .local _ .vmem, ⟨18, _⟩ => ⟨S256x256, .f32⟩
  | .local _ .vmem, ⟨19, _⟩ => ⟨S256x256, .f32⟩
  | .local _ .vmem, ⟨20, _⟩ => ⟨S256x2048, .f32⟩
  | .local _ .vmem, ⟨21, _⟩ => ⟨S256x2048, .f32⟩
  | .local _ .vmem, ⟨22, _⟩ => ⟨S256x256, .f32⟩
  | .local _ .vmem, ⟨23, _⟩ => ⟨S256x256, .f32⟩
  | .local _ .vmem, ⟨24, _⟩ => ⟨S256x1024, .f32⟩
  | .local _ .vmem, ⟨25, _⟩ => ⟨S256x1024, .f32⟩
  | .local _ .vmem, ⟨26, _⟩ => ⟨S256x1024, .f32⟩
  | .local _ .vmem, ⟨27, _⟩ => ⟨S256x1024, .f32⟩
  | .local _ .vmem, ⟨28, _⟩ => ⟨S256x128, .f32⟩
  | .local _ .vmem, ⟨29, _⟩ => ⟨S256x128, .f32⟩
  | .local _ .vmem, ⟨30, _⟩ => ⟨S256x128, .f32⟩
  | .local _ .vmem, ⟨31, _⟩ => ⟨S256x128, .f32⟩
  | .local _ .vmem, ⟨32, _⟩ => ⟨S256x128, .f32⟩
  | .local _ .vmem, ⟨33, _⟩ => ⟨S256x128, .f32⟩
  | .local _ .vmem, ⟨34, _⟩ => ⟨S256x128, .f32⟩
  | .local _ .vmem, ⟨35, _⟩ => ⟨S256x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_c_0 : Ref sig .tc := ⟨.hbm, 8, rfl⟩
abbrev main_c_1 : Ref sig .tc := ⟨.hbm, 9, rfl⟩
abbrev main_c_2 : Ref sig .tc := ⟨.hbm, 10, rfl⟩
abbrev main_c_3 : Ref sig .tc := ⟨.hbm, 11, rfl⟩
abbrev main_c_4 : Ref sig .tc := ⟨.hbm, 12, rfl⟩
abbrev main_c_5 : Ref sig .tc := ⟨.hbm, 13, rfl⟩
abbrev main_c_6 : Ref sig .tc := ⟨.hbm, 14, rfl⟩
abbrev main_v0 : Ref sig .tc := ⟨.hbm, 15, rfl⟩
abbrev main_cst : Ref sig .tc := ⟨.hbm, 16, rfl⟩
abbrev main_v1 : Ref sig .tc := ⟨.hbm, 17, rfl⟩
abbrev main_v2 : Ref sig .tc := ⟨.hbm, 18, rfl⟩
abbrev main_cst_7 : Ref sig .tc := ⟨.hbm, 19, rfl⟩
abbrev main_v3 : Ref sig .tc := ⟨.hbm, 20, rfl⟩
abbrev main_v4 : Ref sig .tc := ⟨.hbm, 21, rfl⟩
abbrev main_cst_8 : Ref sig .tc := ⟨.hbm, 22, rfl⟩
abbrev main_v5 : Ref sig .tc := ⟨.hbm, 23, rfl⟩
abbrev main_v6 : Ref sig .tc := ⟨.hbm, 24, rfl⟩
abbrev main_cst_9 : Ref sig .tc := ⟨.hbm, 25, rfl⟩
abbrev main_v7 : Ref sig .tc := ⟨.hbm, 26, rfl⟩
abbrev main_v8 : Ref sig .tc := ⟨.hbm, 27, rfl⟩
abbrev main_cst_10 : Ref sig .tc := ⟨.hbm, 28, rfl⟩
abbrev main_v9 : Ref sig .tc := ⟨.hbm, 29, rfl⟩
abbrev main_v10 : Ref sig .tc := ⟨.hbm, 30, rfl⟩
abbrev main_cst_11 : Ref sig .tc := ⟨.hbm, 31, rfl⟩
abbrev main_v11 : Ref sig .tc := ⟨.hbm, 32, rfl⟩
abbrev main_v12 : Ref sig .tc := ⟨.hbm, 33, rfl⟩
abbrev main_cst_12 : Ref sig .tc := ⟨.hbm, 34, rfl⟩
abbrev main_v13 : Ref sig .tc := ⟨.hbm, 35, rfl⟩
abbrev main_v14 : Ref sig .tc := ⟨.hbm, 36, rfl⟩
abbrev main_cst_13 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_cst_14 : Ref sig .tc := ⟨.hbm, 43, rfl⟩
abbrev main_v20 : Ref sig .tc := ⟨.hbm, 44, rfl⟩
abbrev main_v21 : Ref sig .tc := ⟨.hbm, 45, rfl⟩
abbrev main_cst_15 : Ref sig .tc := ⟨.hbm, 46, rfl⟩
abbrev main_v22 : Ref sig .tc := ⟨.hbm, 47, rfl⟩
abbrev main_v23 : Ref sig .tc := ⟨.hbm, 48, rfl⟩
abbrev main_cst_16 : Ref sig .tc := ⟨.hbm, 49, rfl⟩
abbrev main_v24 : Ref sig .tc := ⟨.hbm, 50, rfl⟩
abbrev main_v25 : Ref sig .tc := ⟨.hbm, 51, rfl⟩
abbrev main_cst_17 : Ref sig .tc := ⟨.hbm, 52, rfl⟩
abbrev main_v26 : Ref sig .tc := ⟨.hbm, 53, rfl⟩
abbrev main_v27 : Ref sig .tc := ⟨.hbm, 54, rfl⟩
abbrev main_cst_18 : Ref sig .tc := ⟨.hbm, 55, rfl⟩
abbrev main_v28 : Ref sig .tc := ⟨.hbm, 56, rfl⟩
abbrev main_v29 : Ref sig .tc := ⟨.hbm, 57, rfl⟩
abbrev main_cst_19 : Ref sig .tc := ⟨.hbm, 58, rfl⟩
abbrev main_v30 : Ref sig .tc := ⟨.hbm, 59, rfl⟩
abbrev main_v31 : Ref sig .tc := ⟨.hbm, 60, rfl⟩
abbrev main_cst_20 : Ref sig .tc := ⟨.hbm, 61, rfl⟩
abbrev main_v32 : Ref sig .tc := ⟨.hbm, 62, rfl⟩
abbrev main_v33 : Ref sig .tc := ⟨.hbm, 63, rfl⟩
abbrev main_cst_21 : Ref sig .tc := ⟨.hbm, 64, rfl⟩
abbrev main_v34 : Ref sig .tc := ⟨.hbm, 65, rfl⟩
abbrev main_v35 : Ref sig .tc := ⟨.hbm, 66, rfl⟩
abbrev main_cst_22 : Ref sig .tc := ⟨.hbm, 67, rfl⟩
abbrev main_v36 : Ref sig .tc := ⟨.hbm, 68, rfl⟩
abbrev main_v37 : Ref sig .tc := ⟨.hbm, 69, rfl⟩
abbrev main_cst_23 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_v48 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_c_24 : Ref sig .tc := ⟨.hbm, 98, rfl⟩
abbrev main_call0_v0 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_c_25 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_c_26 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_c_27 : Ref sig .tc := ⟨.hbm, 121, rfl⟩
abbrev main_call1_v0 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_c_28 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_cst_29 : Ref sig .tc := ⟨.hbm, 150, rfl⟩
abbrev main_v110 : Ref sig .tc := ⟨.hbm, 151, rfl⟩
abbrev main_v111 : Ref sig .tc := ⟨.hbm, 152, rfl⟩
abbrev main_cst_30 : Ref sig .tc := ⟨.hbm, 153, rfl⟩
abbrev main_v112 : Ref sig .tc := ⟨.hbm, 154, rfl⟩
abbrev main_v113 : Ref sig .tc := ⟨.hbm, 155, rfl⟩
abbrev main_cst_31 : Ref sig .tc := ⟨.hbm, 156, rfl⟩
abbrev main_v114 : Ref sig .tc := ⟨.hbm, 157, rfl⟩
abbrev main_v115 : Ref sig .tc := ⟨.hbm, 158, rfl⟩
abbrev main_c_32 : Ref sig .tc := ⟨.hbm, 159, rfl⟩
abbrev main_v116 : Ref sig .tc := ⟨.hbm, 160, rfl⟩
abbrev main_v117 : Ref sig .tc := ⟨.hbm, 161, rfl⟩
abbrev main_c_33 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_v121 : Ref sig .tc := ⟨.hbm, 166, rfl⟩
abbrev main_v122 : Ref sig .tc := ⟨.hbm, 167, rfl⟩
abbrev main_v123 : Ref sig .tc := ⟨.hbm, 168, rfl⟩
abbrev main_v124 : Ref sig .tc := ⟨.hbm, 169, rfl⟩
abbrev main_v125 : Ref sig .tc := ⟨.hbm, 170, rfl⟩
abbrev main_v126 : Ref sig .tc := ⟨.hbm, 171, rfl⟩
abbrev main_v127 : Ref sig .tc := ⟨.hbm, 172, rfl⟩
abbrev main_v128 : Ref sig .tc := ⟨.hbm, 173, rfl⟩
abbrev main_cst_34 : Ref sig .tc := ⟨.hbm, 174, rfl⟩
abbrev main_call2_v0 : Ref sig .tc := ⟨.hbm, 175, rfl⟩
abbrev main_call2_v1 : Ref sig .tc := ⟨.hbm, 176, rfl⟩
abbrev main_call2_v2 : Ref sig .tc := ⟨.hbm, 177, rfl⟩
abbrev main_v129 : Ref sig .tc := ⟨.hbm, 178, rfl⟩
abbrev main_v130 : Ref sig .tc := ⟨.hbm, 179, rfl⟩
abbrev main_cst_35 : Ref sig .tc := ⟨.hbm, 180, rfl⟩
abbrev main_call3_v0 : Ref sig .tc := ⟨.hbm, 181, rfl⟩
abbrev main_call3_v1 : Ref sig .tc := ⟨.hbm, 182, rfl⟩
abbrev main_call3_v2 : Ref sig .tc := ⟨.hbm, 183, rfl⟩
abbrev main_v131 : Ref sig .tc := ⟨.hbm, 184, rfl⟩
abbrev main_call4_v0 : Ref sig .tc := ⟨.hbm, 185, rfl⟩
abbrev main_v132 : Ref sig .tc := ⟨.hbm, 186, rfl⟩
abbrev main_v133 : Ref sig .tc := ⟨.hbm, 187, rfl⟩
abbrev main_cst_36 : Ref sig .tc := ⟨.hbm, 188, rfl⟩
abbrev main_v134 : Ref sig .tc := ⟨.hbm, 189, rfl⟩
abbrev main_v135 : Ref sig .tc := ⟨.hbm, 190, rfl⟩
abbrev main_cst_37 : Ref sig .tc := ⟨.hbm, 191, rfl⟩
abbrev main_v136 : Ref sig .tc := ⟨.hbm, 192, rfl⟩
abbrev main_v137 : Ref sig .tc := ⟨.hbm, 193, rfl⟩
abbrev main_cst_38 : Ref sig .tc := ⟨.hbm, 194, rfl⟩
abbrev main_v138 : Ref sig .tc := ⟨.hbm, 195, rfl⟩
abbrev main_v139 : Ref sig .tc := ⟨.hbm, 196, rfl⟩
abbrev main_c_39 : Ref sig .tc := ⟨.hbm, 197, rfl⟩
abbrev main_v140 : Ref sig .tc := ⟨.hbm, 198, rfl⟩
abbrev main_v141 : Ref sig .tc := ⟨.hbm, 199, rfl⟩
abbrev main_c_40 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_v147 : Ref sig .tc := ⟨.hbm, 206, rfl⟩
abbrev main_v148 : Ref sig .tc := ⟨.hbm, 207, rfl⟩
abbrev main_v149 : Ref sig .tc := ⟨.hbm, 208, rfl⟩
abbrev main_v150 : Ref sig .tc := ⟨.hbm, 209, rfl⟩
abbrev main_v151 : Ref sig .tc := ⟨.hbm, 210, rfl⟩
abbrev main_v152 : Ref sig .tc := ⟨.hbm, 211, rfl⟩
abbrev main_cst_41 : Ref sig .tc := ⟨.hbm, 212, rfl⟩
abbrev main_call5_v0 : Ref sig .tc := ⟨.hbm, 213, rfl⟩
abbrev main_call5_v1 : Ref sig .tc := ⟨.hbm, 214, rfl⟩
abbrev main_call5_v2 : Ref sig .tc := ⟨.hbm, 215, rfl⟩
abbrev main_v153 : Ref sig .tc := ⟨.hbm, 216, rfl⟩
abbrev main_v154 : Ref sig .tc := ⟨.hbm, 217, rfl⟩
abbrev main_cst_42 : Ref sig .tc := ⟨.hbm, 218, rfl⟩
abbrev main_call6_v0 : Ref sig .tc := ⟨.hbm, 219, rfl⟩
abbrev main_call6_v1 : Ref sig .tc := ⟨.hbm, 220, rfl⟩
abbrev main_call6_v2 : Ref sig .tc := ⟨.hbm, 221, rfl⟩
abbrev main_v155 : Ref sig .tc := ⟨.hbm, 222, rfl⟩
abbrev main_call7_v0 : Ref sig .tc := ⟨.hbm, 223, rfl⟩
abbrev main_v156 : Ref sig .tc := ⟨.hbm, 224, rfl⟩
abbrev main_v157_0 : Ref sig .tc := ⟨.hbm, 225, rfl⟩
abbrev main_v157_1 : Ref sig .tc := ⟨.hbm, 226, rfl⟩
abbrev main_v157_2 : Ref sig .tc := ⟨.hbm, 227, rfl⟩
abbrev main_v157_3 : Ref sig .tc := ⟨.hbm, 228, rfl⟩
abbrev main_v157_4 : Ref sig .tc := ⟨.hbm, 229, rfl⟩
abbrev main_v157_5 : Ref sig .tc := ⟨.hbm, 230, rfl⟩
abbrev main_v157_6 : Ref sig .tc := ⟨.hbm, 231, rfl⟩
abbrev main_v157_7 : Ref sig .tc := ⟨.hbm, 232, rfl⟩
abbrev main_v157_8 : Ref sig .tc := ⟨.hbm, 233, rfl⟩
abbrev main_v157_9 : Ref sig .tc := ⟨.hbm, 234, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_stg14_1 : Ref sig .tc := ⟨.vmem, 23, rfl⟩
abbrev cc0_stg15_0 : Ref sig .tc := ⟨.vmem, 24, rfl⟩
abbrev cc0_stg15_1 : Ref sig .tc := ⟨.vmem, 25, rfl⟩
abbrev cc0_stg16_0 : Ref sig .tc := ⟨.vmem, 26, rfl⟩
abbrev cc0_stg16_1 : Ref sig .tc := ⟨.vmem, 27, rfl⟩
abbrev cc0_stg17_0 : Ref sig .tc := ⟨.vmem, 28, rfl⟩
abbrev cc0_stg17_1 : Ref sig .tc := ⟨.vmem, 29, rfl⟩
abbrev cc0_stg18_0 : Ref sig .tc := ⟨.vmem, 30, rfl⟩
abbrev cc0_stg18_1 : Ref sig .tc := ⟨.vmem, 31, rfl⟩
abbrev cc0_stg19_0 : Ref sig .tc := ⟨.vmem, 32, rfl⟩
abbrev cc0_stg19_1 : Ref sig .tc := ⟨.vmem, 33, rfl⟩
abbrev cc0_stg20_0 : Ref sig .tc := ⟨.vmem, 34, rfl⟩
abbrev cc0_stg20_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22
abbrev cc0_sem14_1 : DmaSem sig := 23
abbrev cc0_sem15_0 : DmaSem sig := 24
abbrev cc0_sem15_1 : DmaSem sig := 25
abbrev cc0_sem16_0 : DmaSem sig := 26
abbrev cc0_sem16_1 : DmaSem sig := 27
abbrev cc0_sem17_0 : DmaSem sig := 28
abbrev cc0_sem17_1 : DmaSem sig := 29
abbrev cc0_sem18_0 : DmaSem sig := 30
abbrev cc0_sem18_1 : DmaSem sig := 31
abbrev cc0_sem19_0 : DmaSem sig := 32
abbrev cc0_sem19_1 : DmaSem sig := 33
abbrev cc0_sem20_0 : DmaSem sig := 34
abbrev cc0_sem20_1 : DmaSem sig := 35

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_8 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_9 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_10 (i : grid0.Coords) : Fin 2 → Nat :=
  let arg0 : BitVec 32 := BitVec.ofNat 32 (i 0).val
  let c16_i32 : BitVec 32 := 16#32
  let c0_i32 : BitVec 32 := 0#32
  let v0 : BitVec 1 := Scalar.cmpi .eq c16_i32 c0_i32
  let c1_i32 : BitVec 32 := 1#32
  let v1 : BitVec 32 := Scalar.select v0 c1_i32 c16_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3328 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x768 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S768x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S256x2048 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S256x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S256x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x128 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S256x128 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S256x128 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S256x128 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Reference6Ideal.lean ====
abbrev S16384x1024 : Shape := ⟨2, ![16384, 1024]⟩
abbrev S1024 : Shape := ⟨1, ![1024]⟩
abbrev S1024x2104 : Shape := ⟨2, ![1024, 2104]⟩
abbrev S256 : Shape := ⟨1, ![256]⟩
abbrev S256x768 : Shape := ⟨2, ![256, 768]⟩
abbrev S128 : Shape := ⟨1, ![128]⟩
abbrev S128x512 : Shape := ⟨2, ![128, 512]⟩
abbrev S4096 : Shape := ⟨1, ![4096]⟩
abbrev S1x4096 : Shape := ⟨2, ![1, 4096]⟩
abbrev S4x4096 : Shape := ⟨2, ![4, 4096]⟩
abbrev S16384 : Shape := ⟨1, ![16384]⟩
abbrev S_ : Shape := ⟨0, ![]⟩
abbrev S16384x1 : Shape := ⟨2, ![16384, 1]⟩
abbrev S1x1024 : Shape := ⟨2, ![1, 1024]⟩
abbrev S16384x2104 : Shape := ⟨2, ![16384, 2104]⟩
abbrev S16384x512 : Shape := ⟨2, ![16384, 512]⟩
abbrev S16384x128 : Shape := ⟨2, ![16384, 128]⟩
abbrev S16384x256 : Shape := ⟨2, ![16384, 256]⟩
abbrev S16384x32 : Shape := ⟨2, ![16384, 32]⟩
abbrev S16384x64 : Shape := ⟨2, ![16384, 64]⟩
abbrev S16384x24 : Shape := ⟨2, ![16384, 24]⟩
abbrev S16384x8x64 : Shape := ⟨3, ![16384, 8, 64]⟩
abbrev S8 : Shape := ⟨1, ![8]⟩
abbrev S1x8 : Shape := ⟨2, ![1, 8]⟩
abbrev S16384x8 : Shape := ⟨2, ![16384, 8]⟩
abbrev S16384x1x8 : Shape := ⟨3, ![16384, 1, 8]⟩
abbrev S16384x8x8 : Shape := ⟨3, ![16384, 8, 8]⟩
abbrev S16384x8x48 : Shape := ⟨3, ![16384, 8, 48]⟩
abbrev S16384x2x64 : Shape := ⟨3, ![16384, 2, 64]⟩
abbrev S16384x2x8 : Shape := ⟨3, ![16384, 2, 8]⟩
abbrev S16384x2x48 : Shape := ⟨3, ![16384, 2, 48]⟩
abbrev S16384x2x1x64 : Shape := ⟨4, ![16384, 2, 1, 64]⟩
abbrev S16384x2x2x64 : Shape := ⟨4, ![16384, 2, 2, 64]⟩
abbrev S16384x1x32 : Shape := ⟨3, ![16384, 1, 32]⟩
abbrev S16 : Shape := ⟨1, ![16]⟩
abbrev S1x16 : Shape := ⟨2, ![1, 16]⟩
abbrev S16384x16 : Shape := ⟨2, ![16384, 16]⟩
abbrev S16384x1x16 : Shape := ⟨3, ![16384, 1, 16]⟩
abbrev S16384x1x0 : Shape := ⟨3, ![16384, 1, 0]⟩
abbrev S16384x1x64 : Shape := ⟨3, ![16384, 1, 64]⟩
abbrev S16384x1x48 : Shape := ⟨3, ![16384, 1, 48]⟩
abbrev S16384x8x128 : Shape := ⟨3, ![16384, 8, 128]⟩
abbrev S1x128 : Shape := ⟨2, ![1, 128]⟩
abbrev S16384x96 : Shape := ⟨2, ![16384, 96]⟩
abbrev S16384x104 : Shape := ⟨2, ![16384, 104]⟩

abbrev nBuf : Space → Nat
  | .hbm => 293
  | .vmem => 0
  | .smem => 0
  | _ => 0

abbrev hbmTy0_0 (i : Nat) : BufTy := match i % 128 with
  | 0 => ⟨S16384x1024, .f32⟩
  | 1 => ⟨S1024, .f32⟩
  | 2 => ⟨S1024x2104, .f32⟩
  | 3 => ⟨S256, .f32⟩
  | 4 => ⟨S256x768, .f32⟩
  | 5 => ⟨S128, .f32⟩
  | 6 => ⟨S128x512, .f32⟩
  | 7 => ⟨S4096, .i32⟩
  | 8 => ⟨S1x4096, .i32⟩
  | 9 => ⟨S4x4096, .i32⟩
  | 10 => ⟨S16384, .i32⟩
  | 11 => ⟨S16384x1024, .f32⟩
  | 12 => ⟨S_, .f32⟩
  | 13 => ⟨S16384, .f32⟩
  | 14 => ⟨S16384x1, .f32⟩
  | 15 => ⟨S_, .f32⟩
  | 16 => ⟨S16384x1, .f32⟩
  | 17 => ⟨S16384x1, .f32⟩
  | 18 => ⟨S_, .f32⟩
  | 19 => ⟨S16384x1, .f32⟩
  | 20 => ⟨S16384x1, .f32⟩
  | 21 => ⟨S16384x1, .f32⟩
  | 22 => ⟨S16384x1024, .f32⟩
  | 23 => ⟨S16384x1024, .f32⟩
  | 24 => ⟨S1x1024, .f32⟩
  | 25 => ⟨S16384x1024, .f32⟩
  | 26 => ⟨S16384x1024, .f32⟩
  | 27 => ⟨S16384x2104, .f32⟩
  | 28 => ⟨S16384x512, .f32⟩
  | 29 => ⟨S16384x128, .f32⟩
  | 30 => ⟨S16384x128, .f32⟩
  | 31 => ⟨S16384x256, .f32⟩
  | 32 => ⟨S16384x128, .f32⟩
  | 33 => ⟨S16384x32, .f32⟩
  | 34 => ⟨S16384x512, .f32⟩
  | 35 => ⟨S16384x64, .f32⟩
  | 36 => ⟨S16384x64, .f32⟩
  | 37 => ⟨S16384x64, .f32⟩
  | 38 => ⟨S16384x64, .f32⟩
  | 39 => ⟨S16384x64, .f32⟩
  | 40 => ⟨S16384x64, .f32⟩
  | 41 => ⟨S16384x24, .f32⟩
  | 42 => ⟨S16384x8x64, .f32⟩
  | 43 => ⟨S8, .f32⟩
  | 44 => ⟨S_, .f32⟩
  | 45 => ⟨S8, .f32⟩
  | 46 => ⟨S8, .f32⟩
  | 47 => ⟨S_, .f32⟩
  | 48 => ⟨S8, .f32⟩
  | 49 => ⟨S8, .f32⟩
  | 50 => ⟨S_, .f32⟩
  | 51 => ⟨S8, .f32⟩
  | 52 => ⟨S8, .f32⟩
  | 53 => ⟨S16384, .f32⟩
  | 54 => ⟨S16384x1, .f32⟩
  | 55 => ⟨S1x8, .f32⟩
  | 56 => ⟨S16384x8, .f32⟩
  | 57 => ⟨S16384x8, .f32⟩
  | 58 => ⟨S16384x8, .f32⟩
  | 59 => ⟨S16384x8, .f32⟩
  | 60 => ⟨S16384x1x8, .f32⟩
  | 61 => ⟨S16384x8, .f32⟩
  | 62 => ⟨S16384x1x8, .f32⟩
  | 63 => ⟨S16384x8x8, .f32⟩
  | 64 => ⟨S16384x8x8, .f32⟩
  | 65 => ⟨S16384x8x8, .f32⟩
  | 66 => ⟨S16384x8x8, .f32⟩
  | 67 => ⟨S16384x8x8, .f32⟩
  | 68 => ⟨S16384x8x8, .f32⟩
  | 69 => ⟨S16384x8x8, .f32⟩
  | 70 => ⟨S16384x8x8, .f32⟩
  | 71 => ⟨S16384x8x8, .f32⟩
  | 72 => ⟨S16384x8x8, .f32⟩
  | 73 => ⟨S16384x8x8, .f32⟩
  | 74 => ⟨S16384x8x8, .f32⟩
  | 75 => ⟨S16384x8x48, .f32⟩
  | 76 => ⟨S16384x8x64, .f32⟩
  | 77 => ⟨S16384x2x64, .f32⟩
  | 78 => ⟨S8, .f32⟩
  | 79 => ⟨S_, .f32⟩
  | 80 => ⟨S8, .f32⟩
  | 81 => ⟨S8, .f32⟩
  | 82 => ⟨S_, .f32⟩
  | 83 => ⟨S8, .f32⟩
  | 84 => ⟨S8, .f32⟩
  | 85 => ⟨S_, .f32⟩
  | 86 => ⟨S8, .f32⟩
  | 87 => ⟨S8, .f32⟩
  | 88 => ⟨S16384, .f32⟩
  | 89 => ⟨S16384x1, .f32⟩
  | 90 => ⟨S1x8, .f32⟩
  | 91 => ⟨S16384x8, .f32⟩
  | 92 => ⟨S16384x8, .f32⟩
  | 93 => ⟨S16384x8, .f32⟩
  | 94 => ⟨S16384x8, .f32⟩
  | 95 => ⟨S16384x1x8, .f32⟩
  | 96 => ⟨S16384x8, .f32⟩
  | 97 => ⟨S16384x1x8, .f32⟩
  | 98 => ⟨S16384x2x8, .f32⟩
  | 99 => ⟨S16384x2x8, .f32⟩
  | 100 => ⟨S16384x2x8, .f32⟩
  | 101 => ⟨S16384x2x8, .f32⟩
  | 102 => ⟨S16384x2x8, .f32⟩
  | 103 => ⟨S16384x2x8, .f32⟩
  | 104 => ⟨S16384x2x8, .f32⟩
  | 105 => ⟨S16384x2x8, .f32⟩
  | 106 => ⟨S16384x2x8, .f32⟩
  | 107 => ⟨S16384x2x8, .f32⟩
  | 108 => ⟨S16384x2x8, .f32⟩
  | 109 => ⟨S16384x2x8, .f32⟩
  | 110 => ⟨S16384x2x48, .f32⟩
  | 111 => ⟨S16384x2x64, .f32⟩
  | 112 => ⟨S16384x2x64, .f32⟩
  | 113 => ⟨S16384x2x1x64, .f32⟩
  | 114 => ⟨S16384x2x1x64, .f32⟩
  | 115 => ⟨S16384x2x2x64, .f32⟩
  | 116 => ⟨S16384x1x32, .f32⟩
  | 117 => ⟨S16, .f32⟩
  | 118 => ⟨S_, .f32⟩
  | 119 => ⟨S16, .f32⟩
  | 120 => ⟨S16, .f32⟩
  | 121 => ⟨S_, .f32⟩
  | 122 => ⟨S16, .f32⟩
  | 123 => ⟨S16, .f32⟩
  | 124 => ⟨S_, .f32⟩
  | 125 => ⟨S16, .f32⟩
  | 126 => ⟨S16, .f32⟩
  | 127 => ⟨S16384, .f32⟩
  | _ => ⟨S16384x1024, .f32⟩

abbrev hbmTy0_1 (i : Nat) : BufTy := match i % 128 with
  | 0 => ⟨S16384x1, .f32⟩
  | 1 => ⟨S1x16, .f32⟩
  | 2 => ⟨S16384x16, .f32⟩
  | 3 => ⟨S16384x16, .f32⟩
  | 4 => ⟨S16384x16, .f32⟩
  | 5 => ⟨S16384x16, .f32⟩
  | 6 => ⟨S16384x1x16, .f32⟩
  | 7 => ⟨S16384x16, .f32⟩
  | 8 => ⟨S16384x1x16, .f32⟩
  | 9 => ⟨S16384x1x16, .f32⟩
  | 10 => ⟨S16384x1x16, .f32⟩
  | 11 => ⟨S16384x1x16, .f32⟩
  | 12 => ⟨S16384x1x16, .f32⟩
  | 13 => ⟨S16384x1x16, .f32⟩
  | 14 => ⟨S16384x1x16, .f32⟩
  | 15 => ⟨S16384x1x16, .f32⟩
  | 16 => ⟨S16384x1x16, .f32⟩
  | 17 => ⟨S16384x1x0, .f32⟩
  | 18 => ⟨S16384x1x32, .f32⟩
  | 19 => ⟨S16384x32, .f32⟩
  | 20 => ⟨S16384x8x64, .f32⟩
  | 21 => ⟨S16384x1x64, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S_, .f32⟩
  | 30 => ⟨S8, .f32⟩
  | 31 => ⟨S8, .f32⟩
  | 32 => ⟨S16384, .f32⟩
  | 33 => ⟨S16384x1, .f32⟩
  | 34 => ⟨S1x8, .f32⟩
  | 35 => ⟨S16384x8, .f32⟩
  | 36 => ⟨S16384x8, .f32⟩
  | 37 => ⟨S16384x8, .f32⟩
  | 38 => ⟨S16384x8, .f32⟩
  | 39 => ⟨S16384x1x8, .f32⟩
  | 40 => ⟨S16384x8, .f32⟩
  | 41 => ⟨S16384x1x8, .f32⟩
  | 42 => ⟨S16384x1x8, .f32⟩
  | 43 => ⟨S16384x1x8, .f32⟩
  | 44 => ⟨S16384x1x8, .f32⟩
  | 45 => ⟨S16384x1x8, .f32⟩
  | 46 => ⟨S16384x1x8, .f32⟩
  | 47 => ⟨S16384x1x8, .f32⟩
  | 48 => ⟨S16384x1x8, .f32⟩
  | 49 => ⟨S16384x1x8, .f32⟩
  | 50 => ⟨S16384x1x48, .f32⟩
  | 51 => ⟨S16384x1x64, .f32⟩
  | 52 => ⟨S16384x64, .f32⟩
  | 53 => ⟨S16384x1x64, .f32⟩
  | 54 => ⟨S8, .f32⟩
  | 55 => ⟨S_, .f32⟩
  | 56 => ⟨S8, .f32⟩
  | 57 => ⟨S8, .f32⟩
  | 58 => ⟨S_, .f32⟩
  | 59 => ⟨S8, .f32⟩
  | 60 => ⟨S8, .f32⟩
  | 61 => ⟨S_, .f32⟩
  | 62 => ⟨S8, .f32⟩
  | 63 => ⟨S8, .f32⟩
  | 64 => ⟨S16384, .f32⟩
  | 65 => ⟨S16384x1, .f32⟩
  | 66 => ⟨S1x8, .f32⟩
  | 67 => ⟨S16384x8, .f32⟩
  | 68 => ⟨S16384x8, .f32⟩
  | 69 => ⟨S16384x8, .f32⟩
  | 70 => ⟨S16384x8, .f32⟩
  | 71 => ⟨S16384x1x8, .f32⟩
  | 72 => ⟨S16384x8, .f32⟩
  | 73 => ⟨S16384x1x8, .f32⟩
  | 74 => ⟨S16384x1x8, .f32⟩
  | 75 => ⟨S16384x1x8, .f32⟩
  | 76 => ⟨S16384x1x8, .f32⟩
  | 77 => ⟨S16384x1x8, .f32⟩
  | 78 => ⟨S16384x1x8, .f32⟩
  | 79 => ⟨S16384x1x8, .f32⟩
  | 80 => ⟨S16384x1x8, .f32⟩
  | 81 => ⟨S16384x1x8, .f32⟩
  | 82 => ⟨S16384x1x48, .f32⟩
  | 83 => ⟨S16384x1x64, .f32⟩
  | 84 => ⟨S16384x64, .f32⟩
  | 85 => ⟨S16384x24, .f32⟩
  | 86 => ⟨S16384x24, .f32⟩
  | 87 => ⟨S_, .f32⟩
  | 88 => ⟨S16384x24, .f32⟩
  | 89 => ⟨S16384x24, .f32⟩
  | 90 => ⟨S_, .f32⟩
  | 91 => ⟨S16384x24, .f32⟩
  | 92 => ⟨S16384x24, .f32⟩
  | 93 => ⟨S_, .f32⟩
  | 94 => ⟨S16384x8x64, .f32⟩
  | 95 => ⟨S16384x8x128, .f32⟩
  | 96 => ⟨S16384x1024, .f32⟩
  | 97 => ⟨S16384x256, .f32⟩
  | 98 => ⟨S16384x128, .f32⟩
  | 99 => ⟨S_, .f32⟩
  | 100 => ⟨S16384, .f32⟩
  | 101 => ⟨S16384x1, .f32⟩
  | 102 => ⟨S_, .f32⟩
  | 103 => ⟨S16384x1, .f32⟩
  | 104 => ⟨S16384x1, .f32⟩
  | 105 => ⟨S_, .f32⟩
  | 106 => ⟨S16384x1, .f32⟩
  | 107 => ⟨S16384x1, .f32⟩
  | 108 => ⟨S16384x1, .f32⟩
  | 109 => ⟨S16384x128, .f32⟩
  | 110 => ⟨S16384x128, .f32⟩
  | 111 => ⟨S1x128, .f32⟩
  | 112 => ⟨S16384x128, .f32⟩
  | 113 => ⟨S16384x128, .f32⟩
  | 114 => ⟨S_, .f32⟩
  | 115 => ⟨S16384x96, .f32⟩
  | 116 => ⟨S16384x256, .f32⟩
  | 117 => ⟨S_, .f32⟩
  | 118 => ⟨S16384x8x64, .f32⟩
  | 119 => ⟨S16384x8x128, .f32⟩
  | 120 => ⟨S16384x1024, .f32⟩
  | 121 => ⟨S8, .f32⟩
  | 122 => ⟨S_, .f32⟩
  | 123 => ⟨S8, .f32⟩
  | 124 => ⟨S8, .f32⟩
  | 125 => ⟨S_, .f32⟩
  | 126 => ⟨S8, .f32⟩
  | 127 => ⟨S8, .f32⟩
  | _ => ⟨S16384x1024, .f32⟩

abbrev hbmTy0_2 (i : Nat) : BufTy := match i % 128 with
  | 0 => ⟨S_, .f32⟩
  | 1 => ⟨S8, .f32⟩
  | 2 => ⟨S8, .f32⟩
  | 3 => ⟨S16384, .f32⟩
  | 4 => ⟨S16384x1, .f32⟩
  | 5 => ⟨S1x8, .f32⟩
  | 6 => ⟨S16384x8, .f32⟩
  | 7 => ⟨S16384x8, .f32⟩
  | 8 => ⟨S16384x8, .f32⟩
  | 9 => ⟨S16384x8, .f32⟩
  | 10 => ⟨S16384x1x8, .f32⟩
  | 11 => ⟨S16384x8, .f32⟩
  | 12 => ⟨S16384x1x8, .f32⟩
  | 13 => ⟨S16384x8x8, .f32⟩
  | 14 => ⟨S16384x8x8, .f32⟩
  | 15 => ⟨S16384x8x8, .f32⟩
  | 16 => ⟨S16384x8x8, .f32⟩
  | 17 => ⟨S16384x8x8, .f32⟩
  | 18 => ⟨S16384x8x8, .f32⟩
  | 19 => ⟨S16384x8x8, .f32⟩
  | 20 => ⟨S16384x8x8, .f32⟩
  | 21 => ⟨S16384x8x8, .f32⟩
  | 22 => ⟨S16384x8x8, .f32⟩
  | 23 => ⟨S16384x8x8, .f32⟩
  | 24 => ⟨S16384x8x8, .f32⟩
  | 25 => ⟨S16384x8x48, .f32⟩
  | 26 => ⟨S16384x8x64, .f32⟩
  | 27 => ⟨S_, .f32⟩
  | 28 => ⟨S16384x8x64, .f32⟩
  | 29 => ⟨S16384x8x128, .f32⟩
  | 30 => ⟨S16384x1024, .f32⟩
  | 31 => ⟨S16384x128, .f32⟩
  | 32 => ⟨S16384x128, .f32⟩
  | 33 => ⟨S16384x128, .f32⟩
  | 34 => ⟨S_, .f32⟩
  | 35 => ⟨S16384x104, .f32⟩
  | 36 => ⟨S16384x128, .f32⟩
  | _ => ⟨S16384x1024, .f32⟩

abbrev hbmTy (i : Nat) : BufTy := match i / 128 with
  | 0 => hbmTy0_0 i
  | 1 => hbmTy0_1 i
  | 2 => hbmTy0_2 i
  | _ => ⟨S16384x1024, .f32⟩

abbrev bufTy : (tb : Table) → Fin (tcTables nBuf tb) → BufTy
  | .hbm, ⟨i, _⟩ => hbmTy i
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_cst_0 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_cst_2 : Ref sig .tc := ⟨.hbm, 44, rfl⟩
abbrev main_v34 : Ref sig .tc := ⟨.hbm, 45, rfl⟩
abbrev main_v35 : Ref sig .tc := ⟨.hbm, 46, rfl⟩
abbrev main_cst_3 : Ref sig .tc := ⟨.hbm, 47, rfl⟩
abbrev main_v36 : Ref sig .tc := ⟨.hbm, 48, rfl⟩
abbrev main_v37 : Ref sig .tc := ⟨.hbm, 49, rfl⟩
abbrev main_cst_4 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_v57 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩
abbrev main_v65 : Ref sig .tc := ⟨.hbm, 78, rfl⟩
abbrev main_cst_5 : Ref sig .tc := ⟨.hbm, 79, rfl⟩
abbrev main_v66 : Ref sig .tc := ⟨.hbm, 80, rfl⟩
abbrev main_v67 : Ref sig .tc := ⟨.hbm, 81, rfl⟩
abbrev main_cst_6 : Ref sig .tc := ⟨.hbm, 82, rfl⟩
abbrev main_v68 : Ref sig .tc := ⟨.hbm, 83, rfl⟩
abbrev main_v69 : Ref sig .tc := ⟨.hbm, 84, rfl⟩
abbrev main_cst_7 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_v73 : Ref sig .tc := ⟨.hbm, 89, rfl⟩
abbrev main_v74 : Ref sig .tc := ⟨.hbm, 90, rfl⟩
abbrev main_v75 : Ref sig .tc := ⟨.hbm, 91, rfl⟩
abbrev main_v76 : Ref sig .tc := ⟨.hbm, 92, rfl⟩
abbrev main_v77 : Ref sig .tc := ⟨.hbm, 93, rfl⟩
abbrev main_v78 : Ref sig .tc := ⟨.hbm, 94, rfl⟩
abbrev main_v79 : Ref sig .tc := ⟨.hbm, 95, rfl⟩
abbrev main_v80 : Ref sig .tc := ⟨.hbm, 96, rfl⟩
abbrev main_v81 : Ref sig .tc := ⟨.hbm, 97, rfl⟩
abbrev main_v82 : Ref sig .tc := ⟨.hbm, 98, rfl⟩
abbrev main_v83 : Ref sig .tc := ⟨.hbm, 99, rfl⟩
abbrev main_v84 : Ref sig .tc := ⟨.hbm, 100, rfl⟩
abbrev main_v85 : Ref sig .tc := ⟨.hbm, 101, rfl⟩
abbrev main_v86 : Ref sig .tc := ⟨.hbm, 102, rfl⟩
abbrev main_v87 : Ref sig .tc := ⟨.hbm, 103, rfl⟩
abbrev main_v88 : Ref sig .tc := ⟨.hbm, 104, rfl⟩
abbrev main_v89 : Ref sig .tc := ⟨.hbm, 105, rfl⟩
abbrev main_v90 : Ref sig .tc := ⟨.hbm, 106, rfl⟩
abbrev main_v91 : Ref sig .tc := ⟨.hbm, 107, rfl⟩
abbrev main_v92 : Ref sig .tc := ⟨.hbm, 108, rfl⟩
abbrev main_v93 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_v97 : Ref sig .tc := ⟨.hbm, 113, rfl⟩
abbrev main_v98 : Ref sig .tc := ⟨.hbm, 114, rfl⟩
abbrev main_v99 : Ref sig .tc := ⟨.hbm, 115, rfl⟩
abbrev main_v100 : Ref sig .tc := ⟨.hbm, 116, rfl⟩
abbrev main_v101 : Ref sig .tc := ⟨.hbm, 117, rfl⟩
abbrev main_cst_8 : Ref sig .tc := ⟨.hbm, 118, rfl⟩
abbrev main_v102 : Ref sig .tc := ⟨.hbm, 119, rfl⟩
abbrev main_v103 : Ref sig .tc := ⟨.hbm, 120, rfl⟩
abbrev main_cst_9 : Ref sig .tc := ⟨.hbm, 121, rfl⟩
abbrev main_v104 : Ref sig .tc := ⟨.hbm, 122, rfl⟩
abbrev main_v105 : Ref sig .tc := ⟨.hbm, 123, rfl⟩
abbrev main_cst_10 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_v114 : Ref sig .tc := ⟨.hbm, 133, rfl⟩
abbrev main_v115 : Ref sig .tc := ⟨.hbm, 134, rfl⟩
abbrev main_v116 : Ref sig .tc := ⟨.hbm, 135, rfl⟩
abbrev main_v117 : Ref sig .tc := ⟨.hbm, 136, rfl⟩
abbrev main_v118 : Ref sig .tc := ⟨.hbm, 137, rfl⟩
abbrev main_v119 : Ref sig .tc := ⟨.hbm, 138, rfl⟩
abbrev main_v120 : Ref sig .tc := ⟨.hbm, 139, rfl⟩
abbrev main_v121 : Ref sig .tc := ⟨.hbm, 140, rfl⟩
abbrev main_v122 : Ref sig .tc := ⟨.hbm, 141, rfl⟩
abbrev main_v123 : Ref sig .tc := ⟨.hbm, 142, rfl⟩
abbrev main_v124 : Ref sig .tc := ⟨.hbm, 143, rfl⟩
abbrev main_v125 : Ref sig .tc := ⟨.hbm, 144, rfl⟩
abbrev main_v126 : Ref sig .tc := ⟨.hbm, 145, rfl⟩
abbrev main_v127 : Ref sig .tc := ⟨.hbm, 146, rfl⟩
abbrev main_v128 : Ref sig .tc := ⟨.hbm, 147, rfl⟩
abbrev main_v129 : Ref sig .tc := ⟨.hbm, 148, rfl⟩
abbrev main_v130 : Ref sig .tc := ⟨.hbm, 149, rfl⟩
abbrev main_v131 : Ref sig .tc := ⟨.hbm, 150, rfl⟩
abbrev main_cst_11 : Ref sig .tc := ⟨.hbm, 151, rfl⟩
abbrev main_v132 : Ref sig .tc := ⟨.hbm, 152, rfl⟩
abbrev main_v133 : Ref sig .tc := ⟨.hbm, 153, rfl⟩
abbrev main_cst_12 : Ref sig .tc := ⟨.hbm, 154, rfl⟩
abbrev main_v134 : Ref sig .tc := ⟨.hbm, 155, rfl⟩
abbrev main_v135 : Ref sig .tc := ⟨.hbm, 156, rfl⟩
abbrev main_cst_13 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_v139 : Ref sig .tc := ⟨.hbm, 161, rfl⟩
abbrev main_v140 : Ref sig .tc := ⟨.hbm, 162, rfl⟩
abbrev main_v141 : Ref sig .tc := ⟨.hbm, 163, rfl⟩
abbrev main_v142 : Ref sig .tc := ⟨.hbm, 164, rfl⟩
abbrev main_v143 : Ref sig .tc := ⟨.hbm, 165, rfl⟩
abbrev main_v144 : Ref sig .tc := ⟨.hbm, 166, rfl⟩
abbrev main_v145 : Ref sig .tc := ⟨.hbm, 167, rfl⟩
abbrev main_v146 : Ref sig .tc := ⟨.hbm, 168, rfl⟩
abbrev main_v147 : Ref sig .tc := ⟨.hbm, 169, rfl⟩
abbrev main_v148 : Ref sig .tc := ⟨.hbm, 170, rfl⟩
abbrev main_v149 : Ref sig .tc := ⟨.hbm, 171, rfl⟩
abbrev main_v150 : Ref sig .tc := ⟨.hbm, 172, rfl⟩
abbrev main_v151 : Ref sig .tc := ⟨.hbm, 173, rfl⟩
abbrev main_v152 : Ref sig .tc := ⟨.hbm, 174, rfl⟩
abbrev main_v153 : Ref sig .tc := ⟨.hbm, 175, rfl⟩
abbrev main_v154 : Ref sig .tc := ⟨.hbm, 176, rfl⟩
abbrev main_v155 : Ref sig .tc := ⟨.hbm, 177, rfl⟩
abbrev main_v156 : Ref sig .tc := ⟨.hbm, 178, rfl⟩
abbrev main_v157 : Ref sig .tc := ⟨.hbm, 179, rfl⟩
abbrev main_v158 : Ref sig .tc := ⟨.hbm, 180, rfl⟩
abbrev main_v159 : Ref sig .tc := ⟨.hbm, 181, rfl⟩
abbrev main_v160 : Ref sig .tc := ⟨.hbm, 182, rfl⟩
abbrev main_cst_14 : Ref sig .tc := ⟨.hbm, 183, rfl⟩
abbrev main_v161 : Ref sig .tc := ⟨.hbm, 184, rfl⟩
abbrev main_v162 : Ref sig .tc := ⟨.hbm, 185, rfl⟩
abbrev main_cst_15 : Ref sig .tc := ⟨.hbm, 186, rfl⟩
abbrev main_v163 : Ref sig .tc := ⟨.hbm, 187, rfl⟩
abbrev main_v164 : Ref sig .tc := ⟨.hbm, 188, rfl⟩
abbrev main_cst_16 : Ref sig .tc := ⟨.hbm, 189, rfl⟩
abbrev main_v165 : Ref sig .tc := ⟨.hbm, 190, rfl⟩
abbrev main_v166 : Ref sig .tc := ⟨.hbm, 191, rfl⟩
abbrev main_v167 : Ref sig .tc := ⟨.hbm, 192, rfl⟩
abbrev main_v168 : Ref sig .tc := ⟨.hbm, 193, rfl⟩
abbrev main_v169 : Ref sig .tc := ⟨.hbm, 194, rfl⟩
abbrev main_v170 : Ref sig .tc := ⟨.hbm, 195, rfl⟩
abbrev main_v171 : Ref sig .tc := ⟨.hbm, 196, rfl⟩
abbrev main_v172 : Ref sig .tc := ⟨.hbm, 197, rfl⟩
abbrev main_v173 : Ref sig .tc := ⟨.hbm, 198, rfl⟩
abbrev main_v174 : Ref sig .tc := ⟨.hbm, 199, rfl⟩
abbrev main_v175 : Ref sig .tc := ⟨.hbm, 200, rfl⟩
abbrev main_v176 : Ref sig .tc := ⟨.hbm, 201, rfl⟩
abbrev main_v177 : Ref sig .tc := ⟨.hbm, 202, rfl⟩
abbrev main_v178 : Ref sig .tc := ⟨.hbm, 203, rfl⟩
abbrev main_v179 : Ref sig .tc := ⟨.hbm, 204, rfl⟩
abbrev main_v180 : Ref sig .tc := ⟨.hbm, 205, rfl⟩
abbrev main_v181 : Ref sig .tc := ⟨.hbm, 206, rfl⟩
abbrev main_v182 : Ref sig .tc := ⟨.hbm, 207, rfl⟩
abbrev main_v183 : Ref sig .tc := ⟨.hbm, 208, rfl⟩
abbrev main_v184 : Ref sig .tc := ⟨.hbm, 209, rfl⟩
abbrev main_v185 : Ref sig .tc := ⟨.hbm, 210, rfl⟩
abbrev main_v186 : Ref sig .tc := ⟨.hbm, 211, rfl⟩
abbrev main_v187 : Ref sig .tc := ⟨.hbm, 212, rfl⟩
abbrev main_v188 : Ref sig .tc := ⟨.hbm, 213, rfl⟩
abbrev main_v189 : Ref sig .tc := ⟨.hbm, 214, rfl⟩
abbrev main_cst_17 : Ref sig .tc := ⟨.hbm, 215, rfl⟩
abbrev main_v190 : Ref sig .tc := ⟨.hbm, 216, rfl⟩
abbrev main_v191 : Ref sig .tc := ⟨.hbm, 217, rfl⟩
abbrev main_cst_18 : Ref sig .tc := ⟨.hbm, 218, rfl⟩
abbrev main_v192 : Ref sig .tc := ⟨.hbm, 219, rfl⟩
abbrev main_v193 : Ref sig .tc := ⟨.hbm, 220, rfl⟩
abbrev main_cst_19 : Ref sig .tc := ⟨.hbm, 221, rfl⟩
abbrev main_v194 : Ref sig .tc := ⟨.hbm, 222, rfl⟩
abbrev main_v195 : Ref sig .tc := ⟨.hbm, 223, rfl⟩
abbrev main_v196 : Ref sig .tc := ⟨.hbm, 224, rfl⟩
abbrev main_v197 : Ref sig .tc := ⟨.hbm, 225, rfl⟩
abbrev main_v198 : Ref sig .tc := ⟨.hbm, 226, rfl⟩
abbrev main_cst_20 : Ref sig .tc := ⟨.hbm, 227, rfl⟩
abbrev main_v199 : Ref sig .tc := ⟨.hbm, 228, rfl⟩
abbrev main_v200 : Ref sig .tc := ⟨.hbm, 229, rfl⟩
abbrev main_cst_21 : Ref sig .tc := ⟨.hbm, 230, rfl⟩
abbrev main_v201 : Ref sig .tc := ⟨.hbm, 231, rfl⟩
abbrev main_v202 : Ref sig .tc := ⟨.hbm, 232, rfl⟩
abbrev main_cst_22 : Ref sig .tc := ⟨.hbm, 233, rfl⟩
abbrev main_v203 : Ref sig .tc := ⟨.hbm, 234, rfl⟩
abbrev main_v204 : Ref sig .tc := ⟨.hbm, 235, rfl⟩
abbrev main_v205 : Ref sig .tc := ⟨.hbm, 236, rfl⟩
abbrev main_v206 : Ref sig .tc := ⟨.hbm, 237, rfl⟩
abbrev main_v207 : Ref sig .tc := ⟨.hbm, 238, rfl⟩
abbrev main_v208 : Ref sig .tc := ⟨.hbm, 239, rfl⟩
abbrev main_v209 : Ref sig .tc := ⟨.hbm, 240, rfl⟩
abbrev main_v210 : Ref sig .tc := ⟨.hbm, 241, rfl⟩
abbrev main_cst_23 : Ref sig .tc := ⟨.hbm, 242, rfl⟩
abbrev main_v211 : Ref sig .tc := ⟨.hbm, 243, rfl⟩
abbrev main_v212 : Ref sig .tc := ⟨.hbm, 244, rfl⟩
abbrev main_cst_24 : Ref sig .tc := ⟨.hbm, 245, rfl⟩
abbrev main_v213 : Ref sig .tc := ⟨.hbm, 246, rfl⟩
abbrev main_v214 : Ref sig .tc := ⟨.hbm, 247, rfl⟩
abbrev main_v215 : Ref sig .tc := ⟨.hbm, 248, rfl⟩
abbrev main_v216 : Ref sig .tc := ⟨.hbm, 249, rfl⟩
abbrev main_cst_25 : Ref sig .tc := ⟨.hbm, 250, rfl⟩
abbrev main_v217 : Ref sig .tc := ⟨.hbm, 251, rfl⟩
abbrev main_v218 : Ref sig .tc := ⟨.hbm, 252, rfl⟩
abbrev main_cst_26 : Ref sig .tc := ⟨.hbm, 253, rfl⟩
abbrev main_v219 : Ref sig .tc := ⟨.hbm, 254, rfl⟩
abbrev main_v220 : Ref sig .tc := ⟨.hbm, 255, rfl⟩
abbrev main_cst_27 : Ref sig .tc := ⟨.hbm, 256, rfl⟩
abbrev main_v221 : Ref sig .tc := ⟨.hbm, 257, rfl⟩
abbrev main_v222 : Ref sig .tc := ⟨.hbm, 258, rfl⟩
abbrev main_v223 : Ref sig .tc := ⟨.hbm, 259, rfl⟩
abbrev main_v224 : Ref sig .tc := ⟨.hbm, 260, rfl⟩
abbrev main_v225 : Ref sig .tc := ⟨.hbm, 261, rfl⟩
abbrev main_v226 : Ref sig .tc := ⟨.hbm, 262, rfl⟩
abbrev main_v227 : Ref sig .tc := ⟨.hbm, 263, rfl⟩
abbrev main_v228 : Ref sig .tc := ⟨.hbm, 264, rfl⟩
abbrev main_v229 : Ref sig .tc := ⟨.hbm, 265, rfl⟩
abbrev main_v230 : Ref sig .tc := ⟨.hbm, 266, rfl⟩
abbrev main_v231 : Ref sig .tc := ⟨.hbm, 267, rfl⟩
abbrev main_v232 : Ref sig .tc := ⟨.hbm, 268, rfl⟩
abbrev main_v233 : Ref sig .tc := ⟨.hbm, 269, rfl⟩
abbrev main_v234 : Ref sig .tc := ⟨.hbm, 270, rfl⟩
abbrev main_v235 : Ref sig .tc := ⟨.hbm, 271, rfl⟩
abbrev main_v236 : Ref sig .tc := ⟨.hbm, 272, rfl⟩
abbrev main_v237 : Ref sig .tc := ⟨.hbm, 273, rfl⟩
abbrev main_v238 : Ref sig .tc := ⟨.hbm, 274, rfl⟩
abbrev main_v239 : Ref sig .tc := ⟨.hbm, 275, rfl⟩
abbrev main_v240 : Ref sig .tc := ⟨.hbm, 276, rfl⟩
abbrev main_v241 : Ref sig .tc := ⟨.hbm, 277, rfl⟩
abbrev main_v242 : Ref sig .tc := ⟨.hbm, 278, rfl⟩
abbrev main_v243 : Ref sig .tc := ⟨.hbm, 279, rfl⟩
abbrev main_v244 : Ref sig .tc := ⟨.hbm, 280, rfl⟩
abbrev main_v245 : Ref sig .tc := ⟨.hbm, 281, rfl⟩
abbrev main_v246 : Ref sig .tc := ⟨.hbm, 282, rfl⟩
abbrev main_cst_28 : Ref sig .tc := ⟨.hbm, 283, rfl⟩
abbrev main_v247 : Ref sig .tc := ⟨.hbm, 284, rfl⟩
abbrev main_v248 : Ref sig .tc := ⟨.hbm, 285, rfl⟩
abbrev main_v249 : Ref sig .tc := ⟨.hbm, 286, rfl⟩
abbrev main_v250 : Ref sig .tc := ⟨.hbm, 287, rfl⟩
abbrev main_v251 : Ref sig .tc := ⟨.hbm, 288, rfl⟩
abbrev main_v252 : Ref sig .tc := ⟨.hbm, 289, rfl⟩
abbrev main_cst_29 : Ref sig .tc := ⟨.hbm, 290, rfl⟩
abbrev main_v253 : Ref sig .tc := ⟨.hbm, 291, rfl⟩
abbrev main_v254 : Ref sig .tc := ⟨.hbm, 292, rfl⟩

abbrev nD : Nat := 1
abbrev τ : Topo := Topo.v7x

variable {F : FTy → Type} [FloatOps F]
-- ==== Proof.Tile.lean ====
/-
  One key tile of the online softmax, as the kernel computes it on its eight blocks of 128 query rows:
  the vector operations named once for a block, what they are at an index, and the three scratch
  arrays after the tile at an index.
-/
module

public import proofs.«01_k».proof.Proof.Gen.KernelIdeal.Skeleton
public import Idealize.ShloMosaic.Lib.Pointwise
public import Idealize.ShloMosaic.Lib.Pipeline.Value

@[expose] public section

set_option maxRecDepth 16384

noncomputable section

namespace Cert.Tile

open Idealize.ShloMosaic Cert.KernelIdeal Cert.KernelIdeal.Gen

/-! ### One block of 128 query rows -/

/-- Rows `o` to `o + 127` of the scores. -/
def blkS (o : ℕ) (h : S1024x512.Slices ![o, 0] S128x512) (s : FVec Ideal S1024x512 .f32) : FVec Ideal S128x512 .f32 :=
  extractStridedSlice S128x512 ![o, 0] s h

/-- Rows `o` to `o + 127` of a scratch array. -/
def blkV (o : ℕ) (h : S1024x128.Slices ![o, 0] S128x128) (m : FVec Ideal S1024x128 .f32) : FVec Ideal S128x128 .f32 :=
  extractStridedSlice S128x128 ![o, 0] m h

/-- The block's new maximum. -/
def newMax (s : FVec Ideal S128x512 .f32) (m : FVec Ideal S128x128 .f32) : FVec Ideal S128x128 .f32 :=
  maximumf m (broadcastTo S128x128 (shapeCast S128x1
    (multiReduction .maximumf [1] S128 s 0xFF800000#32 reduces_S128x512_S128 (.inl rfl) rfl)
    shapeCasts_S128_S128x1) broadcasts_S128x1_S128x128)

/-- The block's weights against the new maximum. -/
def newE (s : FVec Ideal S128x512 .f32) (m : FVec Ideal S128x128 .f32) : FVec Ideal S128x512 .f32 :=
  exp2 (subf s (concatenate S128x512 1
    [⟨S128x128, newMax s m⟩, ⟨S128x128, newMax s m⟩, ⟨S128x128, newMax s m⟩, ⟨S128x128, newMax s m⟩]
    concatenates_S128x128_S128x128_S128x128_S128x128_S128x512_d1))

/-- The factor from the old maximum to the new one. -/
def newAl (s : FVec Ideal S128x512 .f32) (m : FVec Ideal S128x128 .f32) : FVec Ideal S128x128 .f32 :=
  exp2 (subf m (newMax s m))

/-- The block's new denominator. -/
def newL (s : FVec Ideal S128x512 .f32) (m l : FVec Ideal S128x128 .f32) : FVec Ideal S128x128 .f32 :=
  addf (mulf (newAl s m) l) (broadcastTo S128x128 (shapeCast S128x1
    (multiReduction .add [1] S128 (newE s m) 0x00000000#32 reduces_S128x512_S128 (.inl rfl) rfl)
    shapeCasts_S128_S128x1) broadcasts_S128x1_S128x128)

/-- The word of minus infinity. -/
theorem ofBits_neg_inf : Ideal.ofBits .f32 0xFF800000#32 = ⊥ := by simp [Ideal.ofBits, Ideal.ieee]

/-- A row's new maximum: the old one against its scores. -/
theorem newMax_apply (s : FVec Ideal S128x512 .f32) (m : FVec Ideal S128x128 .f32) (r c : Fin 128) :
    newMax s m (ix2 r c) = max (m (ix2 r c)) (Finset.univ.sup fun k : Fin 512 => s (ix2 r k)) := by
  pointwise [newMax]
  rw [ofBits_neg_inf]
  rfl

/-- A weight: the score against the maximum that stands in its lane. -/
theorem newE_apply (s : FVec Ideal S128x512 .f32) (m : FVec Ideal S128x128 .f32) (r : Fin 128) (k : Fin 512) :
    newE s m (ix2 r k) = Ideal.exp2 (s (ix2 r k) - newMax s m (ix2 r ⟨k.val % 128, Nat.mod_lt _ (by decide)⟩)) := by
  pointwise [newE]
  change Ideal.exp2 _ = _
  congr 2
  split_ifs <;> (congr 2; apply Fin.ext; simp only []; omega)

/-- A row's new denominator: the old one rescaled, and its weights. -/
theorem newL_apply (s : FVec Ideal S128x512 .f32) (m l : FVec Ideal S128x128 .f32) (r c : Fin 128) :
    newL s m l (ix2 r c) = Ideal.exp2 (m (ix2 r c) - newMax s m (ix2 r c)) * l (ix2 r c)
      + ∑ k : Fin 512, newE s m (ix2 r k) := by
  pointwise [newL, newAl]
  rfl

/-! ### The eight blocks side by side -/

/-- Eight blocks of a scratch array on top of each other. -/
def cat8 (f : Fin 8 → FVec Ideal S128x128 .f32) : FVec Ideal S1024x128 .f32 :=
  concatenate S1024x128 0 [⟨S128x128, f 0⟩, ⟨S128x128, f 1⟩, ⟨S128x128, f 2⟩, ⟨S128x128, f 3⟩, ⟨S128x128, f 4⟩,
    ⟨S128x128, f 5⟩, ⟨S128x128, f 6⟩, ⟨S128x128, f 7⟩]
    concatenates_S128x128_S128x128_S128x128_S128x128_S128x128_S128x128_S128x128_S128x128_S1024x128_d0

/-- Eight blocks of weights on top of each other. -/
def catE (f : Fin 8 → FVec Ideal S128x512 .bf16) : FVec Ideal S1024x512 .bf16 :=
  concatenate S1024x512 0 [⟨S128x512, f 0⟩, ⟨S128x512, f 1⟩, ⟨S128x512, f 2⟩, ⟨S128x512, f 3⟩, ⟨S128x512, f 4⟩,
    ⟨S128x512, f 5⟩, ⟨S128x512, f 6⟩, ⟨S128x512, f 7⟩]
    concatenates_S128x512_S128x512_S128x512_S128x512_S128x512_S128x512_S128x512_S128x512_S1024x512_d0

/-- The block a row lies in, and its place there. -/
def hi (r : Fin 1024) : Fin 8 := ⟨r.val / 128, by omega⟩
def lo (r : Fin 1024) : Fin 128 := ⟨r.val % 128, by omega⟩

theorem cat8_apply (f : Fin 8 → FVec Ideal S128x128 .f32) (r : Fin 1024) (c : Fin 128) :
    cat8 f (ix2 r c) = f (hi r) (ix2 (lo r) c) :=
  concatenate_ofFn_apply (t := S1024x128) (s₁ := S128x128) 0 f _ rfl 128 rfl (ix2 r c) (hi r) rfl (ix2 (lo r) c) rfl
    (fun b hb => by fin_cases b; exact absurd rfl hb; rfl)

theorem catE_apply (f : Fin 8 → FVec Ideal S128x512 .bf16) (r : Fin 1024) (c : Fin 512) :
    catE f (ix2 r c) = f (hi r) (ix2 (lo r) c) :=
  concatenate_ofFn_apply (t := S1024x512) (s₁ := S128x512) 0 f _ rfl 128 rfl (ix2 r c) (hi r) rfl (ix2 (lo r) c) rfl
    (fun b hb => by fin_cases b; exact absurd rfl hb; rfl)

/-- The eight blocks of a scratch array. -/
def rows (m : FVec Ideal S1024x128 .f32) : Fin 8 → FVec Ideal S128x128 .f32 :=
  ![blkV 0 slices_S1024x128_o0_0_S128x128 m, blkV 128 slices_S1024x128_o128_0_S128x128 m,
    blkV 256 slices_S1024x128_o256_0_S128x128 m, blkV 384 slices_S1024x128_o384_0_S128x128 m,
    blkV 512 slices_S1024x128_o512_0_S128x128 m, blkV 640 slices_S1024x128_o640_0_S128x128 m,
    blkV 768 slices_S1024x128_o768_0_S128x128 m, blkV 896 slices_S1024x128_o896_0_S128x128 m]

/-- The eight blocks of the scores. -/
def scores (s : FVec Ideal S1024x512 .f32) : Fin 8 → FVec Ideal S128x512 .f32 :=
  ![blkS 0 slices_S1024x512_o0_0_S128x512 s, blkS 128 slices_S1024x512_o128_0_S128x512 s,
    blkS 256 slices_S1024x512_o256_0_S128x512 s, blkS 384 slices_S1024x512_o384_0_S128x512 s,
    blkS 512 slices_S1024x512_o512_0_S128x512 s, blkS 640 slices_S1024x512_o640_0_S128x512 s,
    blkS 768 slices_S1024x512_o768_0_S128x512 s, blkS 896 slices_S1024x512_o896_0_S128x512 s]

theorem rows_apply (m : FVec Ideal S1024x128 .f32) (r : Fin 1024) (c : Fin 128) :
    rows m (hi r) (ix2 (lo r) c) = m (ix2 r c) := by
  have h : ∀ q : Fin 8, ∀ a : Fin 128, rows m q (ix2 a c) = m (ix2 ⟨128 * q.val + a.val, by omega⟩ c) := by
    intro q a
    fin_cases q <;> simp [rows] <;> pointwise [blkV] <;> simp
  rw [h]; congr 2; apply Fin.ext; simp only [hi, lo]; omega

theorem scores_apply' (s : FVec Ideal S1024x512 .f32) (q : Fin 8) (a : Fin 128) (c : Fin 512) :
    scores s q (ix2 a c) = s (ix2 ⟨128 * q.val + a.val, by omega⟩ c) := by
  fin_cases q <;> simp [scores] <;> pointwise [blkS] <;> simp

theorem scores_apply (s : FVec Ideal S1024x512 .f32) (r : Fin 1024) (c : Fin 512) :
    scores s (hi r) (ix2 (lo r) c) = s (ix2 r c) := by
  rw [scores_apply']; congr 2; apply Fin.ext; simp only [hi, lo]; omega

/-! ### The scratch arrays after a tile -/

/-- The running maximum after a tile. -/
def stepM (s : Fin 8 → FVec Ideal S128x512 .f32) (m : FVec Ideal S1024x128 .f32) : FVec Ideal S1024x128 .f32 :=
  cat8 fun q => newMax (s q) (rows m q)

/-- The running denominator after a tile. -/
def stepL (s : Fin 8 → FVec Ideal S128x512 .f32) (m l : FVec Ideal S1024x128 .f32) : FVec Ideal S1024x128 .f32 :=
  cat8 fun q => newL (s q) (rows m q) (rows l q)

/-- The running numerator after a tile. -/
def stepA (s : Fin 8 → FVec Ideal S128x512 .f32) (v : FVec Ideal S512x128 .bf16) (m a : FVec Ideal S1024x128 .f32) :
    FVec Ideal S1024x128 .f32 :=
  addf (mulf (cat8 fun q => newAl (s q) (rows m q)) a)
    (matmul dot_S1024x512_S512x128_S1024x128_1_0_0_1_n_n none
      (catE fun q => truncf .bf16 (newE (s q) (rows m q)) bitsLt_bf16_f32) v (constant S1024x128 .f32 0x00000000#32))

end Cert.Tile

end
-- ==== Proof.Run.lean ====
/-
  The kernel's run at one point of the grid: what a trip of the loop over the earlier key tiles stores,
  the loop's invariant for any property the tile step keeps, and the block the run writes.
-/
module

public import proofs.«01_k».proof.Proof.Tile
public import proofs.«01_k».proof.Proof.Gen.KernelIdeal.Frame

@[expose] public section

set_option maxRecDepth 65536

noncomputable section

namespace Cert.Tile

open Idealize.ShloMosaic Cert.KernelIdeal Cert.KernelIdeal.Gen Idealize.SL.Sem

/-- All of a scratch array. -/
abbrev whole : Rect S1024x128 := Rect.unit ![0, 0] S1024x128.size inb_S1024x128_S1024x128_0_0

theorem zero_off : (![0, 0] : Fin 2 → ℕ) = fun _ => 0 := by funext a; fin_cases a <;> rfl

/-- Reading all of a scratch array is reading it. -/
theorem whole_read (w : Memref sig .tc .vmem S1024x128 .f32) (f : BufTy.Contents (Elt Ideal) w.view.ty) :
    View.readAt (Elt Ideal) w.view whole.toLoadRect f = w.view.read (Elt Ideal) f := by
  rw [View.readAt_eq_ld, View.ld_unit_zero zero_off]

/-- A whole scratch array just stored reads as what was stored. -/
theorem read_store (w : Memref sig .tc .vmem S1024x128 .f32) (f : BufTy.Contents (Elt Ideal) w.view.ty)
    (x : FVec Ideal S1024x128 .f32) (L : List (View.Piece (Elt Ideal) S1024x128 .f32)) :
    w.view.read (Elt Ideal) (w.view.writes (Elt Ideal) f (⟨whole, x⟩ :: L)) = x := by
  rw [View.read_writes_eq_canon _ _ _ fun y => ⟨_, List.mem_cons_self, View.mem_set_unit_zero zero_off inb_S1024x128_S1024x128_0_0 y⟩,
    View.canon_cons_unit_zero zero_off]

/-- The keys of the tile at an offset. -/
abbrev keyTile (x1 : Vec Ideal S1x4096x256 .f32) (off : Fin 3 → ℕ) (inb : ∀ a, off a + S1x512x256.size a ≤ S1x4096x256.size a) :
    Vec Ideal S1x512x256 .f32 :=
  View.ld x1 (Rect.unit (s := S1x4096x256) off S1x512x256.size inb)

/-- The scores of a key tile. -/
abbrev tileS (v19 : FVec Ideal S1024x256 .bf16) (kt : Vec Ideal S1x512x256 .f32) : Fin 8 → FVec Ideal S128x512 .f32 :=
  scores (k0_pay4 v19 kt)

/-- The scores of the tile on the diagonal: minus infinity where the key is later than the query. -/
abbrev diagS (i : grid0.Coords) (v19 : FVec Ideal S1024x256 .bf16) (kt : Vec Ideal S1x512x256 .f32) : Fin 8 → FVec Ideal S128x512 .f32 :=
  fun q => select (k0_pay127 (BitVec.ofNat 32 (i 1).val)) (scores (k0_pay4 v19 kt) q)
    (broadcast S128x512 (Named.named κ "mask" 0xF149F2CA#32))

section Loop

variable (𝒱 : Variants) (c : Dev nD) (bd : Option 𝒱.V) (i : grid0.Coords)
    (arg2 : Memref sig .tc .vmem S1x128x2048 .f32) (harg2 : arg2.IsWhole) (arg3 : Memref sig .tc .vmem S1x4096x256 .f32)
    (harg3 : arg3.IsWhole) (arg4 : Memref sig .tc .vmem S1x128x1024 .f32) (harg4 : arg4.IsWhole) (arg5 : Memref sig .tc
    .vmem S1024x128 .f32) (harg5 : arg5.IsWhole) (arg6 : Memref sig .tc .vmem S1024x128 .f32) (harg6 : arg6.IsWhole) (arg7
    : Memref sig .tc .vmem S1024x128 .f32) (harg7 : arg7.IsWhole) (v19 : FVec Ideal S1024x256 .bf16) (v49 : BitVec 32)
    (v65 : FVec Ideal S512x128 .bf16) (v67 : Vec Ideal S1024x128 .f32) (v76 : FVec Ideal S128x128 .f32) (v81 : FVec Ideal
    S128x128 .f32) (v87 : FVec Ideal S128x128 .f32) (v88 : FVec Ideal S128x512 .bf16) (v96 : FVec Ideal S128x128 .f32)
    (v101 : FVec Ideal S128x128 .f32) (v107 : FVec Ideal S128x128 .f32) (v108 : FVec Ideal S128x512 .bf16) (v116 : FVec
    Ideal S128x128 .f32) (v121 : FVec Ideal S128x128 .f32) (v127 : FVec Ideal S128x128 .f32) (v128 : FVec Ideal S128x512
    .bf16) (v136 : FVec Ideal S128x128 .f32) (v141 : FVec Ideal S128x128 .f32) (v147 : FVec Ideal S128x128 .f32) (v148 :
    FVec Ideal S128x512 .bf16) (v156 : FVec Ideal S128x128 .f32) (v161 : FVec Ideal S128x128 .f32) (v167 : FVec Ideal
    S128x128 .f32) (v168 : FVec Ideal S128x512 .bf16) (v176 : FVec Ideal S128x128 .f32) (v181 : FVec Ideal S128x128 .f32)
    (v187 : FVec Ideal S128x128 .f32) (v188 : FVec Ideal S128x512 .bf16) (v196 : FVec Ideal S128x128 .f32) (v201 : FVec
    Ideal S128x128 .f32) (v207 : FVec Ideal S128x128 .f32) (v208 : FVec Ideal S128x512 .bf16) (v212 : FVec Ideal S128x128
    .f32) (v216 : FVec Ideal S128x128 .f32) (v219 : FVec Ideal S128x512 .f32) (X_arg3 : BufTy.Contents (Elt Ideal)
    arg3.view.ty)

/-- What a trip of the loop over the earlier tiles stores: the scratch arrays after the trip's tile. -/
theorem trip_t1 (k : Fin (k0_t1_loop i).trips) (f5 : BufTy.Contents (Elt Ideal) arg5.view.ty)
    (f6 : BufTy.Contents (Elt Ideal) arg6.view.ty) (f7 : BufTy.Contents (Elt Ideal) arg7.view.ty) :
    tripL_k0_t1 (F := Ideal) 𝒱 c bd i arg2 harg2 arg3 harg3 arg4 harg4 arg5 harg5 arg6 harg6 arg7 harg7 v19 v49 v65 v67 v76 v81 v87 v88 v96 v101
      v107 v108 v116 v121 v127 v128 v136 v141 v147 v148 v156 v161 v167 v168 v176 v181 v187 v188 v196 v201 v207 v208
      v212 v216 v219 X_arg3
      k f5 f6 f7 =
      (let K := keyTile (arg3.view.read (Elt Ideal) X_arg3) (k0_off2 i k) (k0_off2_inb i k)
       let m := arg5.view.read (Elt Ideal) f5
       ([⟨whole, stepM (tileS v19 K) m⟩], [⟨whole, stepL (tileS v19 K) m (arg6.view.read (Elt Ideal) f6)⟩],
         [⟨whole, stepA (tileS v19 K) (k0_pay3 K) m (arg7.view.read (Elt Ideal) f7)⟩])) := by
  unfold tripL_k0_t1 trip_k0_t1
  dsimp only
  simp only [← whole_read, ← View.readAt_eq_ld]
  unfold k0_pay189 k0_pay190 k0_pay192
  simp only [shapeCast_self]
  rfl

/-- A property of the scratch arrays that each trip's tile keeps holds before every trip, if it holds at entry. -/
theorem loop_t1 (G5 : BufTy.Contents (Elt Ideal) arg5.view.ty)
    (G6 : BufTy.Contents (Elt Ideal) arg6.view.ty) (G7 : BufTy.Contents (Elt Ideal) arg7.view.ty)
    (P : ℕ → FVec Ideal S1024x128 .f32 → FVec Ideal S1024x128 .f32 → FVec Ideal S1024x128 .f32 → Prop)
    (h0 : P 0 (arg5.view.read (Elt Ideal) G5) (arg6.view.read (Elt Ideal) G6) (arg7.view.read (Elt Ideal) G7))
    (hs : ∀ (k : Fin (k0_t1_loop i).trips) (m l a : FVec Ideal S1024x128 .f32), P k.val m l a →
      P (k.val + 1) (stepM (tileS v19 (keyTile (arg3.view.read (Elt Ideal) X_arg3) (k0_off2 i k) (k0_off2_inb i k))) m)
        (stepL (tileS v19 (keyTile (arg3.view.read (Elt Ideal) X_arg3) (k0_off2 i k) (k0_off2_inb i k))) m l)
        (stepA (tileS v19 (keyTile (arg3.view.read (Elt Ideal) X_arg3) (k0_off2 i k) (k0_off2_inb i k)))
          (k0_pay3 (keyTile (arg3.view.read (Elt Ideal) X_arg3) (k0_off2 i k) (k0_off2_inb i k))) m a))
    (n : ℕ) (hn : n ≤ (k0_t1_loop i).trips) :
    let L := pb_k0_t1 (F := Ideal) 𝒱 c bd i arg2 harg2 arg3 harg3 arg4 harg4 arg5 harg5 arg6 harg6 arg7 harg7 v19 v49 v65 v67 v76 v81 v87 v88 v96 v101
      v107 v108 v116 v121 v127 v128 v136 v141 v147 v148 v156 v161 v167 v168 v176 v181 v187 v188 v196 v201 v207 v208
      v212 v216 v219 X_arg3
      G5 G6 G7 n
    P n (arg5.view.read (Elt Ideal) (arg5.view.writes (Elt Ideal) G5 L.1))
      (arg6.view.read (Elt Ideal) (arg6.view.writes (Elt Ideal) G6 L.2.1))
      (arg7.view.read (Elt Ideal) (arg7.view.writes (Elt Ideal) G7 L.2.2)) := by
  induction n with
  | zero => exact h0
  | succ n ih =>
    have h := hs ⟨n, hn⟩ _ _ _ (ih (by omega))
    have e := pb_k0_t1_succ (F := Ideal) 𝒱 c bd i arg2 harg2 arg3 harg3 arg4 harg4 arg5 harg5 arg6 harg6 arg7 harg7 v19 v49 v65 v67 v76 v81 v87 v88 v96 v101
      v107 v108 v116 v121 v127 v128 v136 v141 v147 v148 v156 v161 v167 v168 v176 v181 v187 v188 v196 v201 v207 v208
      v212 v216 v219 X_arg3
      G5 G6 G7 ⟨n, hn⟩
    rw [trip_t1] at e
    dsimp only at e ⊢
    rw [e]
    dsimp only [List.cons_append, List.nil_append]
    rw [read_store, read_store, read_store]
    exact h

end Loop

/-- The scaled queries of a block. -/
def qBlock (x0 : Vec Ideal S1x128x2048 .f32) : FVec Ideal S1024x256 .bf16 :=
  k0_pay122 (View.ld x0 (Rect.unit (s := S1x128x2048) ![0, 0, 0] S1x128x256.size inb_S1x128x2048_S1x128x256_0_0_0))
    (View.ld x0 (Rect.unit (s := S1x128x2048) ![0, 0, 256] S1x128x256.size inb_S1x128x2048_S1x128x256_0_0_256))
    (View.ld x0 (Rect.unit (s := S1x128x2048) ![0, 0, 512] S1x128x256.size inb_S1x128x2048_S1x128x256_0_0_512))
    (View.ld x0 (Rect.unit (s := S1x128x2048) ![0, 0, 768] S1x128x256.size inb_S1x128x2048_S1x128x256_0_0_768))
    (View.ld x0 (Rect.unit (s := S1x128x2048) ![0, 0, 1024] S1x128x256.size inb_S1x128x2048_S1x128x256_0_0_1024))
    (View.ld x0 (Rect.unit (s := S1x128x2048) ![0, 0, 1280] S1x128x256.size inb_S1x128x2048_S1x128x256_0_0_1280))
    (View.ld x0 (Rect.unit (s := S1x128x2048) ![0, 0, 1536] S1x128x256.size inb_S1x128x2048_S1x128x256_0_0_1536))
    (View.ld x0 (Rect.unit (s := S1x128x2048) ![0, 0, 1792] S1x128x256.size inb_S1x128x2048_S1x128x256_0_0_1792))

/-- The block written from the final denominator and numerator, at an index. -/
def outAt (l a : FVec Ideal S1024x128 .f32) (y : S1x128x1024.Idx) : EReal :=
  Ideal.div (a (ix2 (⟨(y 2).val / 128 * 128 + (y 1).val, by have := (y 2).isLt; have := (y 1).isLt; simp [S1x128x1024] at *; omega⟩ : Fin 1024)
      ⟨(y 2).val % 128, Nat.mod_lt _ (by decide)⟩))
    (max (l (ix2 (⟨(y 2).val / 128 * 128 + (y 1).val, by have := (y 2).isLt; have := (y 1).isLt; simp [S1x128x1024] at *; omega⟩ : Fin 1024)
      ⟨(y 2).val % 128, Nat.mod_lt _ (by decide)⟩)) (Ideal.ofBits .f32 0x0DA24260#32))

/-- The loop over the tiles up to the diagonal one is as long as the diagonal tile's number, and the
    loop after it makes no trip. -/
theorem trips_t1 : ∀ i : grid0.Coords, (k0_t1_loop i).trips = (i 1).val / 4 := by decide +kernel

/-- The diagonal tile starts at 512 times its number. -/
theorem off1_eq : ∀ i : grid0.Coords, k0_off1 i = ![0, 512 * ((i 1).val / 4), 0] := by decide +kernel

/-- The tile of trip `k` starts at `512 * k`. -/
theorem off2_eq : ∀ (i : grid0.Coords) (k : Fin (k0_t1_loop i).trips), k0_off2 i k = ![0, 512 * k.val, 0] := by decide +kernel

theorem trips_t2 (i : grid0.Coords) : (k0_t2_loop i).trips = 0 := Nat.le_zero.1 (k0_t2_abs i).2.1

end Cert.Tile

end
-- ==== Proof.Out.lean ====
/-
  What a point of the grid leaves: the scratch arrays after the diagonal tile, and the block written
  from the scratch arrays after the loop.
-/
module

public import proofs.«01_k».proof.Proof.Run

@[expose] public section

set_option maxRecDepth 65536

noncomputable section

namespace Cert.Tile

open Idealize.ShloMosaic Cert.KernelIdeal Cert.KernelIdeal.Gen Idealize.SL.Sem

section Out

variable (c : Dev nD) (i : grid0.Coords) (arg2 : Memref sig .tc .vmem S1x128x2048 .f32) (harg2 : arg2.IsWhole)
    (arg3 : Memref sig .tc .vmem S1x4096x256 .f32) (harg3 : arg3.IsWhole)
    (arg4 : Memref sig .tc .vmem S1x128x1024 .f32) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (x0 : Vec Ideal S1x128x2048 .f32) (x1 : Vec Ideal S1x4096x256 .f32)

/-- The scratch arrays after the diagonal tile. -/
abbrev diagM : FVec Ideal S1024x128 .f32 :=
  stepM (diagS i (qBlock x0) (keyTile x1 (k0_off1 i) (k0_off1_inb i))) k0_pay123
abbrev diagL : FVec Ideal S1024x128 .f32 :=
  stepL (diagS i (qBlock x0) (keyTile x1 (k0_off1 i) (k0_off1_inb i))) k0_pay123 (k0_pay125 k0_pay124)
abbrev diagA : FVec Ideal S1024x128 .f32 :=
  stepA (diagS i (qBlock x0) (keyTile x1 (k0_off1 i) (k0_off1_inb i)))
    (k0_pay129 (keyTile x1 (k0_off1 i) (k0_off1_inb i))) k0_pay123 k0_pay126

theorem q_eq : kernelRun0_A.sl.r (F := Ideal) c arg2 harg2 x0 = qBlock x0 := by
  unfold kernelRun0_A.sl.r
  simp only [View.readAt_eq_ld, harg2.read_unread]
  rfl

theorem v66_eq : kernelRun0_A.sl.v66 (F := Ideal) c arg5 = (k0_pay123 : FVec Ideal S1024x128 .f32) := by
  unfold kernelRun0_A.sl.v66 kernelRun0_A.sl.HS0_1
  exact View.readCov_unit_zero _ zero_off _ _

/-- What the diagonal tile leaves in the scratch arrays. -/
theorem HS0_eq : kernelRun0_A.sl.HS0_2 (F := Ideal) c i arg2 harg2 arg3 harg3 arg5 x0 x1 =
    ⟨whole, diagM i x0 x1⟩ :: kernelRun0_A.sl.HS0_1 := by
  unfold kernelRun0_A.sl.HS0_2 k0_pay186
  simp only [shapeCast_self]
  unfold diagM
  rw [← v66_eq c arg5, ← q_eq c arg2 harg2]
  conv_rhs => rw [← harg3.read_unread (Val := Elt Ideal) x1]
  rfl

theorem HS1_eq : kernelRun0_A.sl.HS1_2 (F := Ideal) c i arg2 harg2 arg3 harg3 arg5 arg6 x0 x1 =
    ⟨whole, diagL i x0 x1⟩ :: kernelRun0_A.sl.HS1_1 := by
  unfold kernelRun0_A.sl.HS1_2 k0_pay187
  simp only [shapeCast_self]
  unfold diagL
  rw [← v66_eq c arg5, ← q_eq c arg2 harg2]
  conv_rhs => rw [← harg3.read_unread (Val := Elt Ideal) x1]
  have e : kernelRun0_A.sl.v67 (F := Ideal) c arg6 = (k0_pay125 k0_pay124 : FVec Ideal S1024x128 .f32) := by
    unfold kernelRun0_A.sl.v67 kernelRun0_A.sl.HS1_1
    exact View.readCov_unit_zero _ zero_off _ _
  rw [← e]
  rfl

theorem HS2_eq : kernelRun0_A.sl.HS2_2 (F := Ideal) c i arg2 harg2 arg3 harg3 arg5 arg7 x0 x1 =
    ⟨whole, diagA i x0 x1⟩ :: kernelRun0_A.sl.HS2_1 := by
  unfold kernelRun0_A.sl.HS2_2 k0_pay188
  simp only [shapeCast_self]
  unfold diagA
  rw [← v66_eq c arg5, ← q_eq c arg2 harg2]
  conv_rhs => rw [← harg3.read_unread (Val := Elt Ideal) x1]
  have e : kernelRun0_A.sl.v238 (F := Ideal) c arg7 = (k0_pay126 : FVec Ideal S1024x128 .f32) := by
    unfold kernelRun0_A.sl.v238 kernelRun0_A.sl.HS2_1
    exact View.readCov_unit_zero _ zero_off _ _
  rw [← e]
  rfl

end Out

end Cert.Tile

end
-- ==== Proof.Block.lean ====
/-
  The block a point of the grid writes, from scratch arrays that have any property the tile steps keep.
-/
module

public import proofs.«01_k».proof.Proof.Out

@[expose] public section

set_option maxRecDepth 65536

noncomputable section

namespace Cert.Tile

open Idealize.ShloMosaic Cert.KernelIdeal Cert.KernelIdeal.Gen Idealize.SL.Sem

section Out

variable (c : Dev nD) (i : grid0.Coords) (arg2 : Memref sig .tc .vmem S1x128x2048 .f32) (harg2 : arg2.IsWhole)
    (arg3 : Memref sig .tc .vmem S1x4096x256 .f32) (harg3 : arg3.IsWhole)
    (arg4 : Memref sig .tc .vmem S1x128x1024 .f32) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (x0 : Vec Ideal S1x128x2048 .f32) (x1 : Vec Ideal S1x4096x256 .f32)

theorem outAt_eq (l a : FVec Ideal S1024x128 .f32) (y : S1x128x1024.Idx) (r : Fin 1024) (d : Fin 128)
    (hr : r.val = (y 2).val / 128 * 128 + (y 1).val) (hd : d.val = (y 2).val % 128) :
    outAt l a y = Ideal.div (a (ix2 r d)) (max (l (ix2 r d)) (Ideal.ofBits .f32 0x0DA24260#32)) := by
  obtain ⟨r, hr'⟩ := r
  obtain ⟨d, hd'⟩ := d
  simp only [] at hr hd
  subst hr hd
  rfl

/-- The slice stored at a head's lanes is the function `outAt` there. -/
theorem piece_eq (l a : FVec Ideal S1024x128 .f32) (o : ℕ) (h : Fin 8) (ho : o = 128 * h.val) (hs : S1024x128.Slices ![o, 0] S128x128)
    (inb : ∀ b, (![0, 0, o] : Fin 3 → ℕ) b + S1x128x128.size b ≤ S1x128x1024.size b) (x : S1x128x128.Idx) :
    shapeCast S1x128x128 (extractStridedSlice S128x128 ![o, 0] (k0_pay198 (F := Ideal) a (k0_pay197 l)) hs) shapeCasts_S128x128_S1x128x128 x
      = outAt l a ((Rect.unit (s := S1x128x1024) ![0, 0, o] S1x128x128.size inb).emb x) := by
  subst ho
  idx_vars x
  pointwise [k0_pay198, k0_pay197]
  have e1 : (((Rect.unit (s := S1x128x1024) ![0, 0, 128 * h.val] ![1, 128, 128] inb).emb (ix3 x0 x1 x2)) 1).val = x1.val := by
    rw [Rect.emb_apply]; simp [ix3]
  have e2 : (((Rect.unit (s := S1x128x1024) ![0, 0, 128 * h.val] ![1, 128, 128] inb).emb (ix3 x0 x1 x2)) 2).val = 128 * h.val + x2.val := by
    rw [Rect.emb_apply]; simp [ix3]
  refine (outAt_eq l a _ ⟨128 * h.val + x1.val, by omega⟩ x2 ?_ ?_).symm
  · rw [e1, e2]; simp only []; omega
  · rw [e2]; omega

/-- The pieces the run stores are slices of one function of the final scratch arrays. -/
theorem out_pieces (l a : FVec Ideal S1024x128 .f32)
    (hl : kernelRun0_A.sl.v252 (F := Ideal) c i arg2 harg2 arg3 harg3 arg4 harg4 arg5 harg5 arg6 harg6 arg7 harg7 x0 x1 = l)
    (ha : kernelRun0_A.sl.v251 (F := Ideal) c i arg2 harg2 arg3 harg3 arg4 harg4 arg5 harg5 arg6 harg6 arg7 harg7 x0 x1 = a)
    (y : S1x128x1024.Idx) :
    out0_A_2 (F := Ideal) c i arg2 harg2 arg3 harg3 arg4 harg4 arg5 harg5 arg6 harg6 arg7 harg7 x0 x1 y = outAt l a y := by
  unfold out0_A_2
  rw [View.read_writes_junk_eq_canon]
  refine View.canon_apply_of_pieces (outAt l a) _ ?_ y (cover0_A_2 (F := Ideal) c i arg2 harg2 arg3 harg3 arg4 harg4 arg5 harg5 arg6 harg6 arg7 harg7 x0 x1 y)
  unfold kernelRun0_A
  dsimp only
  unfold kernelRun0_A.sl.r_42 kernelRun0_A.sl.r_41
  rw [hl, ha]
  intro p hp x
  fin_cases hp
  · exact piece_eq l a 896 7 rfl slices_S1024x128_o896_0_S128x128 inb_S1x128x1024_S1x128x128_0_0_896 x
  · exact piece_eq l a 768 6 rfl slices_S1024x128_o768_0_S128x128 inb_S1x128x1024_S1x128x128_0_0_768 x
  · exact piece_eq l a 640 5 rfl slices_S1024x128_o640_0_S128x128 inb_S1x128x1024_S1x128x128_0_0_640 x
  · exact piece_eq l a 512 4 rfl slices_S1024x128_o512_0_S128x128 inb_S1x128x1024_S1x128x128_0_0_512 x
  · exact piece_eq l a 384 3 rfl slices_S1024x128_o384_0_S128x128 inb_S1x128x1024_S1x128x128_0_0_384 x
  · exact piece_eq l a 256 2 rfl slices_S1024x128_o256_0_S128x128 inb_S1x128x1024_S1x128x128_0_0_256 x
  · exact piece_eq l a 128 1 rfl slices_S1024x128_o128_0_S128x128 inb_S1x128x1024_S1x128x128_0_0_128 x
  · exact piece_eq l a 0 0 rfl slices_S1024x128_o0_0_S128x128 inb_S1x128x1024_S1x128x128_0_0_0 x

/-- What the loop over the earlier tiles stores. -/
abbrev loopPieces := pb_k0_t1 (F := Ideal) Variants.none c none i arg2 harg2 arg3 harg3 arg4 harg4 arg5 harg5 arg6 harg6 arg7 harg7
    (kernelRun0_A.sl.r c arg2 harg2 x0) (kernelRun0_A.sl.v49 i) (kernelRun0_A.sl.r_4 c i arg3 harg3 x1) (kernelRun0_A.sl.v67 c arg6)
    (kernelRun0_A.sl.r_6 c i arg2 harg2 arg3 harg3 arg5 x0 x1) (kernelRun0_A.sl.r_7 c i arg2 harg2 arg3 harg3 arg5 x0 x1)
    (kernelRun0_A.sl.r_8 c i arg2 harg2 arg3 harg3 arg5 arg6 x0 x1) (kernelRun0_A.sl.r_9 c i arg2 harg2 arg3 harg3 arg5 x0 x1)
    (kernelRun0_A.sl.r_10 c i arg2 harg2 arg3 harg3 arg5 x0 x1) (kernelRun0_A.sl.r_11 c i arg2 harg2 arg3 harg3 arg5 x0 x1)
    (kernelRun0_A.sl.r_12 c i arg2 harg2 arg3 harg3 arg5 arg6 x0 x1) (kernelRun0_A.sl.r_13 c i arg2 harg2 arg3 harg3 arg5 x0 x1)
    (kernelRun0_A.sl.r_17 c i arg2 harg2 arg3 harg3 arg5 x0 x1) (kernelRun0_A.sl.r_18 c i arg2 harg2 arg3 harg3 arg5 x0 x1)
    (kernelRun0_A.sl.r_19 c i arg2 harg2 arg3 harg3 arg5 arg6 x0 x1) (kernelRun0_A.sl.r_20 c i arg2 harg2 arg3 harg3 arg5 x0 x1)
    (kernelRun0_A.sl.r_21 c i arg2 harg2 arg3 harg3 arg5 x0 x1) (kernelRun0_A.sl.r_22 c i arg2 harg2 arg3 harg3 arg5 x0 x1)
    (kernelRun0_A.sl.r_23 c i arg2 harg2 arg3 harg3 arg5 arg6 x0 x1) (kernelRun0_A.sl.r_24 c i arg2 harg2 arg3 harg3 arg5 x0 x1)
    (kernelRun0_A.sl.r_25 c i arg2 harg2 arg3 harg3 arg5 x0 x1) (kernelRun0_A.sl.r_27 c i arg2 harg2 arg3 harg3 arg5 x0 x1)
    (kernelRun0_A.sl.r_28 c i arg2 harg2 arg3 harg3 arg5 arg6 x0 x1) (kernelRun0_A.sl.r_29 c i arg2 harg2 arg3 harg3 arg5 x0 x1)
    (kernelRun0_A.sl.r_30 c i arg2 harg2 arg3 harg3 arg5 x0 x1) (kernelRun0_A.sl.r_31 c i arg2 harg2 arg3 harg3 arg5 x0 x1)
    (kernelRun0_A.sl.r_32 c i arg2 harg2 arg3 harg3 arg5 arg6 x0 x1) (kernelRun0_A.sl.r_33 c i arg2 harg2 arg3 harg3 arg5 x0 x1)
    (kernelRun0_A.sl.r_34 c i arg2 harg2 arg3 harg3 arg5 x0 x1) (kernelRun0_A.sl.r_35 c i arg2 harg2 arg3 harg3 arg5 x0 x1)
    (kernelRun0_A.sl.r_36 c i arg2 harg2 arg3 harg3 arg5 arg6 x0 x1) (kernelRun0_A.sl.r_37 c i arg2 harg2 arg3 harg3 arg5 x0 x1)
    (kernelRun0_A.sl.r_38 c arg5) (kernelRun0_A.sl.r_39 c i arg2 harg2 arg3 harg3 arg5 x0 x1) (kernelRun0_A.sl.r_40 c i arg2 harg2 arg3 harg3 arg5 x0 x1) (harg3.unread x1)
    (arg5.view.writes (Elt Ideal) arg5.view.junk (kernelRun0_A.sl.HS0_2 c i arg2 harg2 arg3 harg3 arg5 x0 x1))
    (arg6.view.writes (Elt Ideal) arg6.view.junk (kernelRun0_A.sl.HS1_2 c i arg2 harg2 arg3 harg3 arg5 arg6 x0 x1))
    (arg7.view.writes (Elt Ideal) arg7.view.junk (kernelRun0_A.sl.HS2_2 c i arg2 harg2 arg3 harg3 arg5 arg7 x0 x1))
    (k0_t1_loop i).trips

theorem trips_t2' : Scf.trips (k0_t2_loop i).lb (k0_t2_loop i).ub (k0_t2_loop i).st = 0 := trips_t2 i

/-- The final numerator is what the diagonal tile and the loop leave. -/
theorem v251_eq : kernelRun0_A.sl.v251 (F := Ideal) c i arg2 harg2 arg3 harg3 arg4 harg4 arg5 harg5 arg6 harg6 arg7 harg7 x0 x1 =
    arg7.view.read (Elt Ideal) (arg7.view.writes (Elt Ideal) (arg7.view.writes (Elt Ideal) arg7.view.junk
      (kernelRun0_A.sl.HS2_2 c i arg2 harg2 arg3 harg3 arg5 arg7 x0 x1))
      (loopPieces c i arg2 harg2 arg3 harg3 arg4 harg4 arg5 harg5 arg6 harg6 arg7 harg7 x0 x1).2.2) := by
  unfold kernelRun0_A.sl.v251
  rw [trips_t2' i, View.readCov, whole_read]
  simp only [pb_k0_t2, List.nil_append, View.writes_append]

/-- The final denominator is what the diagonal tile and the loop leave. -/
theorem v252_eq : kernelRun0_A.sl.v252 (F := Ideal) c i arg2 harg2 arg3 harg3 arg4 harg4 arg5 harg5 arg6 harg6 arg7 harg7 x0 x1 =
    arg6.view.read (Elt Ideal) (arg6.view.writes (Elt Ideal) (arg6.view.writes (Elt Ideal) arg6.view.junk
      (kernelRun0_A.sl.HS1_2 c i arg2 harg2 arg3 harg3 arg5 arg6 x0 x1))
      (loopPieces c i arg2 harg2 arg3 harg3 arg4 harg4 arg5 harg5 arg6 harg6 arg7 harg7 x0 x1).2.1) := by
  unfold kernelRun0_A.sl.v252
  rw [trips_t2' i, View.readCov, whole_read]
  simp only [pb_k0_t2, List.nil_append, View.writes_append]

/-- The block written, for a property of the scratch arrays that holds after the diagonal tile and that each
    earlier tile keeps. -/
theorem out_of (P : ℕ → FVec Ideal S1024x128 .f32 → FVec Ideal S1024x128 .f32 → FVec Ideal S1024x128 .f32 → Prop)
    (h0 : P 0 (diagM i x0 x1) (diagL i x0 x1) (diagA i x0 x1))
    (hs : ∀ (k : Fin (k0_t1_loop i).trips) (m l a : FVec Ideal S1024x128 .f32), P k.val m l a →
      P (k.val + 1) (stepM (tileS (qBlock x0) (keyTile x1 (k0_off2 i k) (k0_off2_inb i k))) m)
        (stepL (tileS (qBlock x0) (keyTile x1 (k0_off2 i k) (k0_off2_inb i k))) m l)
        (stepA (tileS (qBlock x0) (keyTile x1 (k0_off2 i k) (k0_off2_inb i k)))
          (k0_pay3 (keyTile x1 (k0_off2 i k) (k0_off2_inb i k))) m a)) :
    ∃ m l a : FVec Ideal S1024x128 .f32, P ((i 1).val / 4) m l a ∧ ∀ y,
      out0_A_2 (F := Ideal) c i arg2 harg2 arg3 harg3 arg4 harg4 arg5 harg5 arg6 harg6 arg7 harg7 x0 x1 y = outAt l a y := by
  refine ⟨arg5.view.read (Elt Ideal) (arg5.view.writes (Elt Ideal) (arg5.view.writes (Elt Ideal) arg5.view.junk
      (kernelRun0_A.sl.HS0_2 c i arg2 harg2 arg3 harg3 arg5 x0 x1))
      (loopPieces c i arg2 harg2 arg3 harg3 arg4 harg4 arg5 harg5 arg6 harg6 arg7 harg7 x0 x1).1), _, _, ?_,
    out_pieces c i arg2 harg2 arg3 harg3 arg4 harg4 arg5 harg5 arg6 harg6 arg7 harg7 x0 x1 _ _
      (v252_eq c i arg2 harg2 arg3 harg3 arg4 harg4 arg5 harg5 arg6 harg6 arg7 harg7 x0 x1)
      (v251_eq c i arg2 harg2 arg3 harg3 arg4 harg4 arg5 harg5 arg6 harg6 arg7 harg7 x0 x1)⟩
  · rw [← trips_t1]
    refine loop_t1 (𝒱 := Variants.none) (c := c) (bd := none) (i := i) arg2 harg2 arg3 harg3 arg4 harg4 arg5 harg5 arg6 harg6 arg7 harg7
      _ _ _ _ _ _ _ _ _ _ _ _ _ _ _ _ _ _ _ _ _ _ _ _ _ _ _ _ _ _ _ _ _ _ _ _ _ _ _ P ?_ ?_ _ le_rfl
    · rw [HS0_eq, HS1_eq, HS2_eq, read_store, read_store, read_store]
      exact h0
    · rw [q_eq]
      simp only [harg3.read_unread]
      exact hs

end Out

end Cert.Tile

end
-- ==== Proof.Online.lean ====
/-
  The online softmax over the extended reals, free of any program: the running maximum, the running
  denominator and the running weighted sum of a set of key tiles, how one more tile updates them, and
  what they are once every tile that can carry weight is in.
-/
module

public import Idealize.ShloMosaic.PureOps.Ideal
public import Mathlib.Algebra.Order.BigOperators.Group.Finset
public import Mathlib.Analysis.SpecialFunctions.Pow.Real

@[expose] public section

noncomputable section

namespace Cert.Online

open Idealize.ShloMosaic

/-! ### Exponentials -/

theorem exp_nonneg (x : EReal) : 0 ≤ Ideal.exp x := by
  induction x with
  | bot => simp
  | top => simp
  | coe r => rw [Ideal.exp_coe]; exact_mod_cast (Real.exp_pos r).le

/-- The exponential of a difference never above zero is at most one. -/
theorem exp_sub_le_one {x y : EReal} (h : x ≤ y) : Ideal.exp (x - y) ≤ 1 := by
  induction y with
  | bot => obtain rfl : x = ⊥ := le_bot_iff.mp h; simp [sub_eq_add_neg]
  | top => simp [sub_eq_add_neg]
  | coe b =>
    induction x with
    | bot => simp [sub_eq_add_neg]
    | top => exact absurd h (by simp)
    | coe a =>
      rw [← EReal.coe_sub, Ideal.exp_coe]
      have : a ≤ b := by exact_mod_cast h
      exact_mod_cast Real.exp_le_one_iff.mpr (by linarith)

theorem exp_sub_ne_top {x y : EReal} (h : x ≤ y) : Ideal.exp (x - y) ≠ ⊤ :=
  ne_top_of_le_ne_top (EReal.coe_ne_top 1) (exp_sub_le_one h)

/-- Rescaling a weight taken against an older maximum `M` to a newer one `M'`. -/
theorem exp_rescale {x M M' : EReal} (h : x ≤ M) (h' : M ≤ M') :
    Ideal.exp (M - M') * Ideal.exp (x - M) = Ideal.exp (x - M') := by
  induction M' with
  | bot =>
    obtain rfl : M = ⊥ := le_bot_iff.mp h'
    obtain rfl : x = ⊥ := le_bot_iff.mp h
    simp [sub_eq_add_neg]
  | top => simp [sub_eq_add_neg]
  | coe c =>
    induction M with
    | bot => obtain rfl : x = ⊥ := le_bot_iff.mp h; simp [sub_eq_add_neg]
    | top => exact absurd h' (by simp)
    | coe b =>
      induction x with
      | bot => simp [sub_eq_add_neg]
      | top => exact absurd h (by simp)
      | coe a =>
        rw [← EReal.coe_sub, ← EReal.coe_sub, ← EReal.coe_sub, Ideal.exp_coe, Ideal.exp_coe, Ideal.exp_coe,
          ← EReal.coe_mul, ← Real.exp_add]
        congr 2; ring

/-- The scale from natural to binary logarithms. -/
def lg : EReal := ((Real.log 2)⁻¹ : ℝ)

theorem lg_pos : (0 : ℝ) < (Real.log 2)⁻¹ := inv_pos.mpr (Real.log_pos (by norm_num))

/-- A binary exponential of scores in binary logarithms is the natural exponential of the scores. -/
theorem exp2_lg (x y : EReal) : Ideal.exp2 (x * lg - y * lg) = Ideal.exp (x - y) := by
  unfold lg
  have hp := lg_pos
  have hpe : (0 : EReal) < (((Real.log 2)⁻¹ : ℝ) : EReal) := by exact_mod_cast hp
  induction y with
  | bot => rw [EReal.bot_mul_of_pos hpe]; induction x <;>
      simp [sub_eq_add_neg, EReal.bot_mul_of_pos hpe, EReal.top_mul_of_pos hpe, ← EReal.coe_mul]
  | top => rw [EReal.top_mul_of_pos hpe]; simp [sub_eq_add_neg]
  | coe b =>
    induction x with
    | bot => rw [EReal.bot_mul_of_pos hpe]; simp [sub_eq_add_neg]
    | top => rw [EReal.top_mul_of_pos hpe, ← EReal.coe_mul, EReal.top_sub_coe, EReal.top_sub_coe]; simp
    | coe a =>
      rw [← EReal.coe_mul, ← EReal.coe_mul, ← EReal.coe_sub, ← EReal.coe_sub, Ideal.exp2_coe, Ideal.exp_coe]
      congr 1
      change Real.rpow 2 (a * (Real.log 2)⁻¹ - b * (Real.log 2)⁻¹) = Real.exp (a - b)
      rw [Real.rpow_eq_pow, Real.rpow_def_of_pos (by norm_num)]
      congr 1
      have : Real.log 2 ≠ 0 := (Real.log_pos (by norm_num)).ne'
      field_simp

theorem mul_lg_max (x y : EReal) : max x y * lg = max (x * lg) (y * lg) := by
  have hpe : (0 : EReal) ≤ lg := by unfold lg; exact_mod_cast lg_pos.le
  rcases le_total x y with h | h
  · rw [max_eq_right h, max_eq_right (mul_le_mul_of_nonneg_right h hpe)]
  · rw [max_eq_left h, max_eq_left (mul_le_mul_of_nonneg_right h hpe)]

theorem bot_mul_lg : (⊥ : EReal) * lg = ⊥ :=
  EReal.bot_mul_of_pos (by unfold lg; exact_mod_cast lg_pos)

theorem mul_lg_sup {ι : Type} (s : Finset ι) (f : ι → EReal) : s.sup (fun i => f i * lg) = s.sup f * lg := by
  classical
  induction s using Finset.induction_on with
  | empty => simp [bot_mul_lg]
  | insert a s ha ih => rw [Finset.sup_insert, Finset.sup_insert, ih]; exact (mul_lg_max _ _).symm

/-! ### Sums -/

/-- A finite nonnegative factor distributes over a sum of extended reals. -/
theorem mul_sum {ι : Type} (s : Finset ι) (f : ι → EReal) {a : EReal} (h0 : 0 ≤ a) (ht : a ≠ ⊤) :
    a * ∑ i ∈ s, f i = ∑ i ∈ s, a * f i := by
  classical
  induction s using Finset.induction_on with
  | empty => simp
  | insert i s hi ih =>
    rw [Finset.sum_insert hi, Finset.sum_insert hi, EReal.left_distrib_of_nonneg_of_ne_top h0 ht, ih]

theorem sum_mul {ι : Type} (s : Finset ι) (f : ι → EReal) {a : EReal} (h0 : 0 ≤ a) (ht : a ≠ ⊤) :
    (∑ i ∈ s, f i) * a = ∑ i ∈ s, f i * a := by
  rw [mul_comm, mul_sum s f h0 ht]; exact Finset.sum_congr rfl fun i _ => mul_comm _ _

/-! ### The running maximum, denominator and weighted sum -/

variable {K : Type} [Fintype K]

/-- The greatest score in the tiles `T`. -/
def runMax (S : ℕ → K → EReal) (T : Finset ℕ) : EReal := T.sup fun t => Finset.univ.sup (S t)

/-- The tiles' weights, each taken against the greatest score, with `v` weighted by them. -/
def runSum (S v : ℕ → K → EReal) (T : Finset ℕ) : EReal :=
  ∑ t ∈ T, ∑ k, Ideal.exp (S t k - runMax S T) * v t k

theorem le_runMax (S : ℕ → K → EReal) {T : Finset ℕ} {t : ℕ} (ht : t ∈ T) (k : K) : S t k ≤ runMax S T :=
  (Finset.le_sup (f := S t) (Finset.mem_univ k)).trans (Finset.le_sup (f := fun t => Finset.univ.sup (S t)) ht)

theorem runMax_insert (S : ℕ → K → EReal) (T : Finset ℕ) (t : ℕ) :
    runMax S (insert t T) = max (runMax S T) (Finset.univ.sup (S t)) := by
  unfold runMax; rw [Finset.sup_insert]; exact max_comm _ _

/-- One more tile: the running sum is rescaled to the new maximum and the tile's own weights are added. -/
theorem runSum_insert (S v : ℕ → K → EReal) {T : Finset ℕ} {t : ℕ} (ht : t ∉ T) :
    runSum S v (insert t T) = Ideal.exp (runMax S T - runMax S (insert t T)) * runSum S v T
      + ∑ k, Ideal.exp (S t k - runMax S (insert t T)) * v t k := by
  have hle : runMax S T ≤ runMax S (insert t T) := by rw [runMax_insert]; exact le_max_left _ _
  have h0 := exp_nonneg (runMax S T - runMax S (insert t T))
  have hT := exp_sub_ne_top hle
  conv_lhs => unfold runSum
  rw [Finset.sum_insert ht, add_comm]
  congr 1
  unfold runSum
  rw [mul_sum _ _ h0 hT]
  refine Finset.sum_congr rfl fun u hu => ?_
  rw [mul_sum _ _ h0 hT]
  refine Finset.sum_congr rfl fun k _ => ?_
  rw [← mul_assoc, exp_rescale (le_runMax S hu k) hle]

theorem runMax_empty (S : ℕ → K → EReal) : runMax S ∅ = ⊥ := rfl
theorem runSum_empty (S v : ℕ → K → EReal) : runSum S v ∅ = 0 := rfl

/-- Tiles whose scores are all `⊥` change nothing: the maximum. -/
theorem runMax_eq_of_bot (S : ℕ → K → EReal) {T U : Finset ℕ} (h : T ⊆ U) (hb : ∀ t ∈ U, t ∉ T → ∀ k, S t k = ⊥) :
    runMax S U = runMax S T := by
  refine le_antisymm (Finset.sup_le fun t ht => Finset.sup_le fun k _ => ?_) (Finset.sup_mono h)
  by_cases hT : t ∈ T
  · exact le_runMax S hT k
  · rw [hb t ht hT k]; exact bot_le

/-- Tiles whose scores are all `⊥` change nothing: the weighted sum. -/
theorem runSum_eq_of_bot (S v : ℕ → K → EReal) {T U : Finset ℕ} (h : T ⊆ U)
    (hb : ∀ t ∈ U, t ∉ T → ∀ k, S t k = ⊥) : runSum S v U = runSum S v T := by
  unfold runSum
  rw [runMax_eq_of_bot S h hb]
  symm
  refine Finset.sum_subset h fun t ht hT => Finset.sum_eq_zero fun k _ => ?_
  rw [hb t ht hT k]
  simp [sub_eq_add_neg]

end Cert.Online

end
-- ==== Proof.Step.lean ====
/-
  One key tile of the kernel is one step of the online softmax: the scratch arrays hold the running
  maximum (in binary logarithms), the running denominator and the running numerator of the tiles seen.
-/
module

public import proofs.«01_k».proof.Proof.Tile
public import proofs.«01_k».proof.Proof.Online

@[expose] public section

set_option maxRecDepth 16384

noncomputable section

namespace Cert.Tile

open Idealize.ShloMosaic Cert.KernelIdeal Cert.KernelIdeal.Gen Cert.Online

theorem stepM_apply (s : Fin 8 → FVec Ideal S128x512 .f32) (m : FVec Ideal S1024x128 .f32) (r : Fin 1024) (c : Fin 128) :
    stepM s m (ix2 r c) = max (m (ix2 r c)) (Finset.univ.sup fun k : Fin 512 => s (hi r) (ix2 (lo r) k)) := by
  rw [stepM, cat8_apply, newMax_apply, rows_apply]

/-- The weight of a row's key in a tile, against the new maximum that stands in the key's lane. -/
theorem weight_apply (s : Fin 8 → FVec Ideal S128x512 .f32) (m : FVec Ideal S1024x128 .f32) (r : Fin 1024) (k : Fin 512) :
    newE (s (hi r)) (rows m (hi r)) (ix2 (lo r) k) =
      Ideal.exp2 (s (hi r) (ix2 (lo r) k) - stepM s m (ix2 r ⟨k.val % 128, Nat.mod_lt _ (by decide)⟩)) := by
  rw [newE_apply, stepM, cat8_apply]

theorem stepL_apply (s : Fin 8 → FVec Ideal S128x512 .f32) (m l : FVec Ideal S1024x128 .f32) (r : Fin 1024) (c : Fin 128) :
    stepL s m l (ix2 r c) = Ideal.exp2 (m (ix2 r c) - stepM s m (ix2 r c)) * l (ix2 r c)
      + ∑ k : Fin 512, Ideal.exp2 (s (hi r) (ix2 (lo r) k) - stepM s m (ix2 r ⟨k.val % 128, Nat.mod_lt _ (by decide)⟩)) := by
  rw [stepL, cat8_apply, newL_apply, rows_apply, rows_apply, stepM, cat8_apply]
  simp only [weight_apply]
  rfl

theorem stepA_apply (s : Fin 8 → FVec Ideal S128x512 .f32) (v : FVec Ideal S512x128 .bf16) (m a : FVec Ideal S1024x128 .f32)
    (r : Fin 1024) (c : Fin 128) :
    stepA s v m a (ix2 r c) = Ideal.exp2 (m (ix2 r c) - stepM s m (ix2 r c)) * a (ix2 r c)
      + ∑ k : Fin 512, Ideal.exp2 (s (hi r) (ix2 (lo r) k) - stepM s m (ix2 r ⟨k.val % 128, Nat.mod_lt _ (by decide)⟩)) * v (ix2 k c) := by
  pointwise [stepA]
  rw [cat8_apply]
  simp only [catE_apply]
  have hA : newAl (s (hi r)) (rows m (hi r)) (ix2 (lo r) c) = Ideal.exp2 (m (ix2 r c) - stepM s m (ix2 r c)) := by
    change Ideal.exp2 (rows m (hi r) (ix2 (lo r) c) - newMax (s (hi r)) (rows m (hi r)) (ix2 (lo r) c)) = _
    rw [rows_apply, stepM, cat8_apply]
  rw [hA]
  congr 1
  refine Finset.sum_congr rfl fun k _ => ?_
  change newE (s (hi r)) (rows m (hi r)) (ix2 (lo r) k) * _ = _
  rw [weight_apply]

/-- The scratch arrays hold, for each row, the running values of its tiles `T`. -/
def Inv (S : Fin 1024 → ℕ → Fin 512 → EReal) (V : ℕ → Fin 512 → Fin 128 → EReal) (T : Finset ℕ)
    (m l a : FVec Ideal S1024x128 .f32) : Prop :=
  ∀ (r : Fin 1024) (c : Fin 128), m (ix2 r c) = runMax (S r) T * lg ∧ l (ix2 r c) = runSum (S r) (fun _ _ => 1) T
    ∧ a (ix2 r c) = runSum (S r) (fun t k => V t k c) T

/-- A tile that was not seen yet is added to the running values. -/
theorem Inv.step {S : Fin 1024 → ℕ → Fin 512 → EReal} {V : ℕ → Fin 512 → Fin 128 → EReal} {T : Finset ℕ}
    {m l a : FVec Ideal S1024x128 .f32} (h : Inv S V T m l a) {t : ℕ} (ht : t ∉ T)
    {s : Fin 8 → FVec Ideal S128x512 .f32} (hS : ∀ r k, s (hi r) (ix2 (lo r) k) = S r t k * lg)
    {v : FVec Ideal S512x128 .bf16} (hV : ∀ k c, v (ix2 k c) = V t k c) :
    Inv S V (insert t T) (stepM s m) (stepL s m l) (stepA s v m a) := by
  have hM : ∀ r c, stepM s m (ix2 r c) = runMax (S r) (insert t T) * lg := by
    intro r c
    rw [stepM_apply, (h r c).1, runMax_insert, mul_lg_max, ← mul_lg_sup]
    simp only [hS]
  intro r c
  refine ⟨hM r c, ?_, ?_⟩
  · rw [stepL_apply, runSum_insert _ _ ht, (h r c).1, (h r c).2.1, hM, exp2_lg]
    simp only [hM, hS, exp2_lg, mul_one]
  · rw [stepA_apply, runSum_insert _ _ ht, (h r c).1, (h r c).2.2, hM, exp2_lg]
    simp only [hM, hS, hV, exp2_lg]

end Cert.Tile

end
-- ==== Proof.Reads.lean ====
/-
  What the kernel's vector operations around the tile step are at an index: the scaled queries, a key
  tile and its scores, the causal mask and the initial scratch arrays.
-/
module

public import proofs.«01_k».proof.Proof.Run
public import proofs.«01_k».proof.Proof.Online
public import Idealize.ShloMosaic.Lib.WordCmp

@[expose] public section

set_option maxRecDepth 65536

noncomputable section

namespace Cert.Tile

open Idealize.ShloMosaic Cert.KernelIdeal Cert.KernelIdeal.Gen Cert.Online

theorem mask_eq : (Named.named κ "mask" 0xF149F2CA#32 : Ideal .f32) = ⊥ := by
  exact IdealRules.named_const.ideal_named_scalar _ _ _ _ rfl

theorem qscale_eq : (Named.named κ "qscale" 0x3E16C740#32 : Ideal .f32) = ((3424635 / 33554432 : ℝ) : EReal) * lg := by
  refine (IdealRules.named_const.ideal_named_scalar _ _ _ _ rfl).trans ?_
  rw [lg, ← EReal.coe_mul]

/-- A key tile at an index. -/
theorem keyTile_apply (x1 : Vec Ideal S1x4096x256 .f32) (off : Fin 3 → ℕ) (o : ℕ) (ho : off = ![0, o, 0])
    (inb : ∀ a, off a + S1x512x256.size a ≤ S1x4096x256.size a) (k : Fin 512) (c : Fin 256) (hk : o + k.val < 4096) :
    keyTile x1 off inb (ix3 0 k c) = x1 (ix3 0 ⟨o + k.val, hk⟩ c) := by
  subst ho
  pointwise [keyTile]

/-- The scores of a key tile at an index. -/
theorem tileS_apply (v19 : FVec Ideal S1024x256 .bf16) (kt : Vec Ideal S1x512x256 .f32) (r : Fin 1024) (k : Fin 512) :
    k0_pay4 v19 kt (ix2 r k) = ∑ d : Fin 256, v19 (ix2 r d) * kt (ix3 0 k d) := by
  pointwise [k0_pay4, k0_pay2]

/-- The values of a key tile are its first 128 lanes. -/
theorem valTile_apply (kt : Vec Ideal S1x512x256 .f32) (k : Fin 512) (c : Fin 128) :
    k0_pay3 kt (ix2 k c) = kt (ix3 0 k ⟨c.val, by omega⟩) := by
  pointwise [k0_pay3, k0_pay2]

theorem diagVal_apply (kt : Vec Ideal S1x512x256 .f32) (k : Fin 512) (c : Fin 128) :
    k0_pay129 kt (ix2 k c) = kt (ix3 0 k ⟨c.val, by omega⟩) := by
  pointwise [k0_pay129, k0_pay128]

/-- The queries of a head in a block. -/
def qHead (x0 : Vec Ideal S1x128x2048 .f32) (o : ℕ) (inb : ∀ a, (![0, 0, o] : Fin 3 → ℕ) a + S1x128x256.size a ≤ S1x128x2048.size a) :
    FVec Ideal S128x256 .f32 :=
  shapeCast S128x256 (View.ld x0 (Rect.unit (s := S1x128x2048) ![0, 0, o] S1x128x256.size inb)) shapeCasts_S1x128x256_S128x256

theorem qHead_apply (x0 : Vec Ideal S1x128x2048 .f32) (o : ℕ)
    (inb : ∀ a, (![0, 0, o] : Fin 3 → ℕ) a + S1x128x256.size a ≤ S1x128x2048.size a) (a : Fin 128) (d : Fin 256)
    (hd : o + d.val < 2048) : qHead x0 o inb (ix2 a d) = x0 (ix3 0 a ⟨o + d.val, hd⟩) := by
  refine (shapeCast_dropUnit_apply ![128, 256] _ _ (ix2 a d)).trans ?_
  refine congrArg x0 (funext fun b => Fin.ext ?_)
  fin_cases b
  · rfl
  · simp [Rect.emb_apply, ix3]
    rfl
  · simp [Rect.emb_apply, ix3]
    rfl

/-- The eight heads' queries of a block. -/
def qHeads (x0 : Vec Ideal S1x128x2048 .f32) : Fin 8 → FVec Ideal S128x256 .f32 :=
  ![qHead x0 0 inb_S1x128x2048_S1x128x256_0_0_0, qHead x0 256 inb_S1x128x2048_S1x128x256_0_0_256,
    qHead x0 512 inb_S1x128x2048_S1x128x256_0_0_512, qHead x0 768 inb_S1x128x2048_S1x128x256_0_0_768,
    qHead x0 1024 inb_S1x128x2048_S1x128x256_0_0_1024, qHead x0 1280 inb_S1x128x2048_S1x128x256_0_0_1280,
    qHead x0 1536 inb_S1x128x2048_S1x128x256_0_0_1536, qHead x0 1792 inb_S1x128x2048_S1x128x256_0_0_1792]

theorem qHeads_apply (x0 : Vec Ideal S1x128x2048 .f32) (h : Fin 8) (a : Fin 128) (d : Fin 256) :
    qHeads x0 h (ix2 a d) = x0 (ix3 0 a ⟨256 * h.val + d.val, by omega⟩) := by
  fin_cases h
  · exact qHead_apply x0 0 _ a d _
  · exact qHead_apply x0 256 _ a d _
  · exact qHead_apply x0 512 _ a d _
  · exact qHead_apply x0 768 _ a d _
  · exact qHead_apply x0 1024 _ a d _
  · exact qHead_apply x0 1280 _ a d _
  · exact qHead_apply x0 1536 _ a d _
  · exact qHead_apply x0 1792 _ a d _

/-- The scaled queries at an index: row `r` is query `r % 128` of the block for head `r / 128`. -/
theorem qBlock_apply (x0 : Vec Ideal S1x128x2048 .f32) (r : Fin 1024) (d : Fin 256) :
    qBlock x0 (ix2 r d) =
      x0 (ix3 0 (lo r) ⟨256 * (hi r).val + d.val, by omega⟩) * (Named.named κ "qscale" 0x3E16C740#32 : Ideal .f32) := by
  have e := concatenate_ofFn_apply (t := S1024x256) (s₁ := S128x256) 0 (qHeads x0)
    concatenates_S128x256_S128x256_S128x256_S128x256_S128x256_S128x256_S128x256_S128x256_S1024x256_d0
    rfl 128 rfl (ix2 r d) (hi r) rfl (ix2 (lo r) d) rfl
    (fun b hb => by fin_cases b; exact absurd rfl hb; rfl)
  rw [qHeads_apply] at e
  rw [← e]
  rfl

theorem init_M (j : S1024x128.Idx) : (k0_pay123 : FVec Ideal S1024x128 .f32) j = ⊥ := by
  pointwise [k0_pay123]
  exact mask_eq

theorem init_L (j : S1024x128.Idx) : (k0_pay125 k0_pay124 : FVec Ideal S1024x128 .f32) j = 0 := by
  pointwise [k0_pay125, k0_pay124]

theorem init_A (j : S1024x128.Idx) : (k0_pay126 : FVec Ideal S1024x128 .f32) j = 0 := by
  pointwise [k0_pay126]

/-- The first key of the diagonal tile and the first query of the block, as the program's words. -/
theorem words_eq : ∀ p : Fin 32, Scalar.muli
          (Scalar.select
            (Scalar.andi
              (Scalar.cmpi CmpIPredicate.ne
                (Scalar.subi
                  (Scalar.extui (Scalar.cmpi CmpIPredicate.sgt (Scalar.muli (BitVec.ofNat 32 p.val) 128#32) 0#32))
                  (Scalar.extui (Scalar.cmpi CmpIPredicate.slt (Scalar.muli (BitVec.ofNat 32 p.val) 128#32) 0#32)))
                (Scalar.subi (Scalar.extui (Scalar.cmpi CmpIPredicate.sgt 512#32 0#32))
                  (Scalar.extui (Scalar.cmpi CmpIPredicate.slt 512#32 0#32))))
              (Scalar.cmpi CmpIPredicate.ne (Scalar.remsi (Scalar.muli (BitVec.ofNat 32 p.val) 128#32) 512#32) 0#32))
            (Scalar.subi (Scalar.divsi (Scalar.muli (BitVec.ofNat 32 p.val) 128#32) 512#32) 1#32)
            (Scalar.divsi (Scalar.muli (BitVec.ofNat 32 p.val) 128#32) 512#32))
          512#32 = BitVec.ofNat 32 (512 * (p.val / 4))
      ∧ Scalar.muli (BitVec.ofNat 32 p.val) 128#32 = BitVec.ofNat 32 (128 * p.val) := by decide +kernel

/-- The causal mask of the diagonal tile: whether the key is no later than the query. -/
theorem mask_apply (i : grid0.Coords) (a : Fin 128) (k : Fin 512) :
    k0_pay127 (BitVec.ofNat 32 (i 1).val) (ix2 a k) =
      if 512 * ((i 1).val / 4) + k.val ≤ 128 * (i 1).val + a.val then 1#1 else 0#1 := by
  pointwise [k0_pay127]
  have hp : (i 1).val < 32 := (i 1).isLt
  obtain ⟨h1, h2⟩ := words_eq ⟨(i 1).val, hp⟩
  simp only [] at h1 h2
  rw [h1, h2]
  simp only [IntOp.addi, ← BitVec.ofNat_add]
  rw [WordCmp.cmpi_sle_ofNat (by omega) (by omega)]
  by_cases h : 512 * ((i 1).val / 4) + k.val ≤ 128 * (i 1).val + a.val <;> simp [h]

end Cert.Tile

end
-- ==== Proof.Attend.lean ====
/-
  The value of a block of the kernel: the plain masked softmax of its queries over all keys, and the
  passage from the running values over key tiles to the values over keys.
-/
module

public import proofs.«01_k».proof.Proof.Block
public import proofs.«01_k».proof.Proof.Step
public import proofs.«01_k».proof.Proof.Reads

@[expose] public section

set_option maxRecDepth 65536

noncomputable section

namespace Cert.Tile

open Idealize.ShloMosaic Cert.KernelIdeal Cert.KernelIdeal.Gen Cert.Online

/-- The guard of a denominator. -/
abbrev guard : EReal := Ideal.ofBits .f32 0x0DA24260#32

/-- Attention from the scores of all keys and one lane of their values. -/
def attend (s v : Fin 4096 → EReal) : EReal :=
  Ideal.div (∑ j, Ideal.exp (s j - Finset.univ.sup s) * v j) (max (∑ j, Ideal.exp (s j - Finset.univ.sup s)) guard)

/-- A key's place among the tiles. -/
abbrev key (t : Fin 8) (k : Fin 512) : Fin 4096 := ⟨512 * t.val + k.val, by omega⟩

theorem sum_keys (f : Fin 4096 → EReal) (g : ℕ → Fin 512 → EReal) (h : ∀ (t : Fin 8) k, g t.val k = f (key t k)) :
    ∑ t ∈ Finset.range 8, ∑ k, g t k = ∑ j, f j := by
  rw [Finset.sum_range, ← Fintype.sum_prod_type']
  refine Fintype.sum_equiv (finProdFinEquiv (m := 8) (n := 512)) _ f fun x => ?_
  rw [h]
  refine congrArg f (Fin.ext ?_)
  change 512 * x.1.val + x.2.val = x.2.val + 512 * x.1.val
  omega

theorem runMax_keys (s : Fin 4096 → EReal) (S : ℕ → Fin 512 → EReal) (h : ∀ (t : Fin 8) k, S t.val k = s (key t k)) :
    runMax S (Finset.range 8) = Finset.univ.sup s := by
  refine le_antisymm (Finset.sup_le fun t ht => Finset.sup_le fun k _ => ?_) (Finset.sup_le fun j _ => ?_)
  · have := h ⟨t, Finset.mem_range.mp ht⟩ k
    simp only [] at this
    rw [this]
    exact Finset.le_sup (Finset.mem_univ _)
  · have e := h ⟨j.val / 512, by omega⟩ ⟨j.val % 512, by omega⟩
    have ej : key ⟨j.val / 512, by omega⟩ ⟨j.val % 512, by omega⟩ = j := Fin.ext (by simp only []; omega)
    rw [ej] at e
    rw [← e]
    exact le_runMax S (Finset.mem_range.mpr (by simp only []; omega)) _

theorem runSum_keys (s f : Fin 4096 → EReal) (S v : ℕ → Fin 512 → EReal) (h : ∀ (t : Fin 8) k, S t.val k = s (key t k))
    (hv : ∀ (t : Fin 8) k, v t.val k = f (key t k)) :
    runSum S v (Finset.range 8) = ∑ j, Ideal.exp (s j - Finset.univ.sup s) * f j := by
  unfold runSum
  rw [runMax_keys s S h]
  exact sum_keys (fun j => Ideal.exp (s j - Finset.univ.sup s) * f j) _ fun t k => by rw [h, hv]

/-- The scores' scale. -/
def q0 : EReal := ((3424635 / 33554432 : ℝ) : EReal)

/-- The score of row `r`'s query and key `j`, masked: query `128 * p + r % 128` sees no later key. -/
def score (p : ℕ) (x0 : Vec Ideal S1x128x2048 .f32) (x1 : Vec Ideal S1x4096x256 .f32) (r : Fin 1024) (j : Fin 4096) : EReal :=
  if j.val ≤ 128 * p + (lo r).val then
    (∑ d : Fin 256, x0 (ix3 0 (lo r) ⟨256 * (hi r).val + d.val, by omega⟩) * x1 (ix3 0 j d)) * q0
  else ⊥

/-- The scores by tiles. -/
def tileScore (p : ℕ) (x0 : Vec Ideal S1x128x2048 .f32) (x1 : Vec Ideal S1x4096x256 .f32) (r : Fin 1024) (t : ℕ) (k : Fin 512) :
    EReal :=
  if h : 512 * t + k.val < 4096 then score p x0 x1 r ⟨512 * t + k.val, h⟩ else ⊥

/-- The values by tiles. -/
def tileVal (x1 : Vec Ideal S1x4096x256 .f32) (t : ℕ) (k : Fin 512) (c : Fin 128) : EReal :=
  if h : 512 * t + k.val < 4096 then x1 (ix3 0 ⟨512 * t + k.val, h⟩ ⟨c.val, by omega⟩) else 0

theorem q0_pos : 0 < q0 := by
  unfold q0
  exact_mod_cast (by norm_num : (0 : ℝ) < 3424635 / 33554432)

/-- A score of the kernel: the plain one in binary logarithms. -/
theorem rawScore (x0 : Vec Ideal S1x128x2048 .f32) (kt : Vec Ideal S1x512x256 .f32) (r : Fin 1024) (k : Fin 512) :
    k0_pay4 (qBlock x0) kt (ix2 r k) =
      (∑ d : Fin 256, x0 (ix3 0 (lo r) ⟨256 * (hi r).val + d.val, by omega⟩) * kt (ix3 0 k d)) * q0 * lg := by
  have e : q0 * lg = ((3424635 / 33554432 * (Real.log 2)⁻¹ : ℝ) : EReal) := by rw [q0, lg, ← EReal.coe_mul]
  rw [tileS_apply, mul_assoc, sum_mul _ _ (by rw [e]; exact_mod_cast (mul_pos (by norm_num) lg_pos).le)
    (by rw [e]; exact EReal.coe_ne_top _)]
  refine Finset.sum_congr rfl fun d _ => ?_
  rw [qBlock_apply, qscale_eq]
  change _ * (q0 * lg) * _ = _
  rw [mul_assoc, mul_comm (q0 * lg), ← mul_assoc]

section

variable (i : grid0.Coords) (x0 : Vec Ideal S1x128x2048 .f32) (x1 : Vec Ideal S1x4096x256 .f32)

theorem qpos_lt : (i 1).val < 32 := (i 1).isLt

/-- A tile before the diagonal one is seen whole. -/
theorem tileS_score (k : Fin (k0_t1_loop i).trips) (r : Fin 1024) (c : Fin 512) :
    tileS (qBlock x0) (keyTile x1 (k0_off2 i k) (k0_off2_inb i k)) (hi r) (ix2 (lo r) c) =
      tileScore (i 1).val x0 x1 r k.val c * lg := by
  have hk : k.val < (i 1).val / 4 := k.isLt.trans_eq (trips_t1 i)
  have hp := qpos_lt i
  rw [tileScore, dif_pos (by omega), score, if_pos (by simp only []; omega)]
  change scores _ (hi r) (ix2 (lo r) c) = _
  rw [scores_apply, rawScore]
  congr 2
  refine Finset.sum_congr rfl fun d _ => ?_
  rw [keyTile_apply x1 _ (512 * k.val) (off2_eq i k) _ c d (by omega)]

/-- The diagonal tile is masked. -/
theorem diagS_score (r : Fin 1024) (c : Fin 512) :
    diagS i (qBlock x0) (keyTile x1 (k0_off1 i) (k0_off1_inb i)) (hi r) (ix2 (lo r) c) =
      tileScore (i 1).val x0 x1 r ((i 1).val / 4) c * lg := by
  have hp := qpos_lt i
  rw [tileScore, dif_pos (by omega), score]
  change (if k0_pay127 (BitVec.ofNat 32 (i 1).val) (ix2 (lo r) c) = 1#1 then scores _ (hi r) (ix2 (lo r) c)
    else (Named.named κ "mask" 0xF149F2CA#32 : Ideal .f32)) = _
  rw [mask_apply, mask_eq]
  by_cases h : 512 * ((i 1).val / 4) + c.val ≤ 128 * (i 1).val + (lo r).val
  · rw [if_pos h, if_pos rfl, if_pos h, scores_apply, rawScore]
    congr 2
    refine Finset.sum_congr rfl fun d _ => ?_
    rw [keyTile_apply x1 _ (512 * ((i 1).val / 4)) (off1_eq i) _ c d (by omega)]
  · rw [if_neg h, if_neg (by decide), if_neg h, bot_mul_lg]

theorem inv_init (S : Fin 1024 → ℕ → Fin 512 → EReal) (V : ℕ → Fin 512 → Fin 128 → EReal) :
    Inv S V ∅ (k0_pay123 : FVec Ideal S1024x128 .f32) (k0_pay125 k0_pay124) k0_pay126 := by
  intro r c
  rw [init_M, init_L, init_A, runMax_empty, runSum_empty, runSum_empty, bot_mul_lg]
  exact ⟨rfl, rfl, rfl⟩

/-- A tile beyond the diagonal one has no seen key. -/
theorem tileScore_bot (r : Fin 1024) (t : ℕ) (h : (i 1).val / 4 < t) (k : Fin 512) :
    tileScore (i 1).val x0 x1 r t k = ⊥ := by
  rw [tileScore]
  split_ifs
  · have : (lo r).val < 128 := (lo r).isLt
    rw [score, if_neg (by simp only []; omega)]
  · rfl

end

/-- The block at an index is the masked attention of the index's query and head. -/
theorem out_attend (c : Dev nD) (i : grid0.Coords) (arg2 : Memref sig .tc .vmem S1x128x2048 .f32) (harg2 : arg2.IsWhole)
    (arg3 : Memref sig .tc .vmem S1x4096x256 .f32) (harg3 : arg3.IsWhole)
    (arg4 : Memref sig .tc .vmem S1x128x1024 .f32) (harg4 : arg4.IsWhole)
    (arg5 : Memref sig .tc .vmem S1024x128 .f32) (harg5 : arg5.IsWhole)
    (arg6 : Memref sig .tc .vmem S1024x128 .f32) (harg6 : arg6.IsWhole)
    (arg7 : Memref sig .tc .vmem S1024x128 .f32) (harg7 : arg7.IsWhole)
    (x0 : Vec Ideal S1x128x2048 .f32) (x1 : Vec Ideal S1x4096x256 .f32) (y : S1x128x1024.Idx)
    (r : Fin 1024) (d : Fin 128) (hr : r.val = (y 2).val / 128 * 128 + (y 1).val) (hd : d.val = (y 2).val % 128) :
    out0_A_2 (F := Ideal) c i arg2 harg2 arg3 harg3 arg4 harg4 arg5 harg5 arg6 harg6 arg7 harg7 x0 x1 y =
      attend (score (i 1).val x0 x1 r) (fun j => x1 (ix3 0 j ⟨d.val, by omega⟩)) := by
  have hp := qpos_lt i
  set p := (i 1).val with hpdef
  set D := p / 4 with hD
  obtain ⟨m, l, a, hI, ho⟩ := out_of c i arg2 harg2 arg3 harg3 arg4 harg4 arg5 harg5 arg6 harg6 arg7 harg7 x0 x1
    (fun n m l a => Inv (tileScore p x0 x1) (tileVal x1) (insert D (Finset.range n)) m l a)
    ((inv_init _ _).step (Finset.notMem_empty _) (diagS_score i x0 x1) (fun k c => by
      rw [diagVal_apply, keyTile_apply x1 _ (512 * (p / 4)) (off1_eq i) _ k _ (by omega), tileVal, dif_pos (by omega)]))
    (fun k m l a h => by
      have hk : k.val < D := k.isLt.trans_eq (trips_t1 i)
      rw [Finset.range_add_one, Finset.insert_comm]
      refine h.step ?_ (tileS_score i x0 x1 k) (fun k' c => by
        rw [valTile_apply, keyTile_apply x1 _ (512 * k.val) (off2_eq i k) _ k' _ (by omega), tileVal, dif_pos (by omega)])
      simp only [Finset.mem_insert, Finset.mem_range]
      omega)
  rw [ho y, outAt_eq l a y r d hr hd]
  obtain ⟨-, hl, ha⟩ := hI r d
  have hsub : insert D (Finset.range D) ⊆ Finset.range 8 := by
    intro t ht
    simp only [Finset.mem_insert, Finset.mem_range] at ht ⊢
    omega
  have hbot : ∀ t ∈ Finset.range 8, t ∉ insert D (Finset.range D) → ∀ k, tileScore p x0 x1 r t k = ⊥ := by
    intro t _ ht k
    refine tileScore_bot i x0 x1 r t ?_ k
    simp only [Finset.mem_insert, Finset.mem_range] at ht
    omega
  have hS : ∀ (t : Fin 8) k, tileScore p x0 x1 r t.val k = score p x0 x1 r (key t k) := fun t k => by
    rw [tileScore, dif_pos (by omega)]
  rw [hl, ha, ← runSum_eq_of_bot _ _ hsub hbot, ← runSum_eq_of_bot _ _ hsub hbot,
    runSum_keys _ (fun _ => 1) _ (fun _ _ => 1) hS (fun _ _ => rfl),
    runSum_keys _ (fun j => x1 (ix3 0 j ⟨d.val, by omega⟩)) _ _ hS (fun t k => by rw [tileVal, dif_pos (by omega)])]
  simp only [mul_one]
  rfl

end Cert.Tile

end
-- ==== Proof.Spec.lean ====
/-
  The attention over the prompt as a function of its three arguments, index by index: what the kernel and
  the reference are both shown to compute.
-/
module

public import proofs.«01_k».proof.Proof.Attend

@[expose] public section

noncomputable section

namespace Cert.Mla

open Idealize.ShloMosaic Cert.Online Cert.Tile

/-- Arrays of the arguments: latent queries, rotary queries and latent rows. -/
abbrev ArrQ : Type := (⟨4, ![4, 4096, 8, 128]⟩ : Shape).Idx → EReal
abbrev ArrR : Type := (⟨4, ![4, 4096, 8, 32]⟩ : Shape).Idx → EReal
abbrev ArrK : Type := (⟨3, ![4, 4096, 160]⟩ : Shape).Idx → EReal

/-- The product of a head's query `t` with key `j`: the latent part and the rotary part. -/
def dots (q : ArrQ) (r : ArrR) (k : ArrK) (b : Fin 4) (t : Fin 4096) (h : Fin 8) (j : Fin 4096) : EReal :=
  (∑ d : Fin 128, q (ix4 b t h d) * k (ix3 b j ⟨d.val, by omega⟩))
    + ∑ d : Fin 32, r (ix4 b t h d) * k (ix3 b j ⟨128 + d.val, by omega⟩)

/-- The masked, scaled score. -/
def scoreOf (q : ArrQ) (r : ArrR) (k : ArrK) (b : Fin 4) (t : Fin 4096) (h : Fin 8) (j : Fin 4096) : EReal :=
  if j.val ≤ t.val then dots q r k b t h j * q0 else ⊥

/-- The attention's result for a query, a head and a latent lane. -/
def mla (q : ArrQ) (r : ArrR) (k : ArrK) (b : Fin 4) (t : Fin 4096) (h : Fin 8) (c : Fin 128) : EReal :=
  attend (scoreOf q r k b t h) fun j => k (ix3 b j ⟨c.val, by omega⟩)

end Cert.Mla

end
-- ==== Proof.Host.lean ====
/-
  The arrays that the kernel's call reads, at an index: queries and rows side by side with zeros.
-/
module

public import proofs.«01_k».proof.Proof.Spec
public import proofs.«01_k».proof.Proof.Gen.KernelIdeal.Value
public import Idealize.ShloMosaic.Lib.StableHlo.Run

@[expose] public section

set_option maxRecDepth 65536

noncomputable section

namespace Cert.Mla

open Idealize.ShloMosaic Idealize.ShloMosaic.TcCoe Cert.KernelIdeal Cert.KernelIdeal.Gen Cert.Online Cert.Tile

/-- The queries' layout. -/
def qcat (q : FVec Ideal S4x4096x8x128 .f32) (r : FVec Ideal S4x4096x8x32 .f32) : FVec Ideal S4x4096x2048 .f32 :=
  shapeCast S4x4096x2048 (concatenate S4x4096x8x256 3 [⟨S4x4096x8x128, q⟩, ⟨S4x4096x8x32, r⟩,
    ⟨S4x4096x8x96, broadcastInDim S4x4096x8x96 ![] bcast_S_S4x4096x8x96 (constant (F := Ideal) S_ .f32 0x00000000#32)⟩]
    concatenates_S4x4096x8x128_S4x4096x8x32_S4x4096x8x96_S4x4096x8x256_d3) shapeCasts_S4x4096x8x256_S4x4096x2048

/-- The rows' layout. -/
def kcat (k : FVec Ideal S4x4096x160 .f32) : FVec Ideal S4x4096x256 .f32 :=
  concatenate S4x4096x256 2 [⟨S4x4096x160, k⟩,
    ⟨S4x4096x96, broadcastInDim S4x4096x96 ![] bcast_S_S4x4096x96 (constant (F := Ideal) S_ .f32 0x00000000#32)⟩]
    concatenates_S4x4096x160_S4x4096x96_S4x4096x256_d2

theorem V_v2 (m : (ℓ : Loc nD τ sig) → Buf (Elt Ideal) ℓ) (c : Dev nD) :
    V m c main_v2 = qcat (m ((c : Thread nD τ).loc main_arg0)) (m ((c : Thread nD τ).loc main_arg1)) := by
  unfold V hostOps0
  after_results_simp <;> rfl

theorem V_v4 (m : (ℓ : Loc nD τ sig) → Buf (Elt Ideal) ℓ) (c : Dev nD) :
    V m c main_v4 = kcat (m ((c : Thread nD τ).loc main_arg2)) := by
  unfold V hostOps0
  after_results_simp <;> rfl

theorem qcat_apply (q : FVec Ideal S4x4096x8x128 .f32) (r : FVec Ideal S4x4096x8x32 .f32) (b : Fin 4) (t : Fin 4096) (h : Fin 8) (d : Fin 256) :
    qcat q r (ix3 b t ⟨256 * h.val + d.val, by omega⟩) =
      if h1 : d.val < 128 then q (ix4 b t h ⟨d.val, h1⟩) else
        if h2 : d.val < 160 then r (ix4 b t h ⟨d.val - 128, by omega⟩) else 0 := by
  pointwise [qcat]
  by_cases h1 : d.val < 128
  · rw [dif_pos h1, dif_pos h1]
  · rw [dif_neg h1, dif_neg h1]
    by_cases h2 : d.val < 160
    · rw [dif_pos (by omega), dif_pos h2]
    · rw [dif_neg (by omega), dif_neg h2]

theorem kcat_apply (k : FVec Ideal S4x4096x160 .f32) (b : Fin 4) (j : Fin 4096) (d : Fin 256) :
    kcat k (ix3 b j d) = if h : d.val < 160 then k (ix3 b j ⟨d.val, h⟩) else 0 := by
  pointwise [kcat]

theorem idx_facts : ∀ t : Fin cfg0.N, (win0_0.index t (0 : Fin 3) = (grid0.coords t 0).val ∧ win0_0.index t (1 : Fin 3) = (grid0.coords t 1).val
      ∧ win0_0.index t (2 : Fin 3) = 0)
    ∧ (win0_1.index t (0 : Fin 3) = (grid0.coords t 0).val ∧ win0_1.index t (1 : Fin 3) = 0 ∧ win0_1.index t (2 : Fin 3) = 0)
    ∧ (win0_2.index t (0 : Fin 3) = (grid0.coords t 0).val ∧ win0_2.index t (1 : Fin 3) = (grid0.coords t 1).val
      ∧ win0_2.index t (2 : Fin 3) = 0) :=
  (by decide +kernel : ∀ t : Fin grid0.N, _)

/-- Every batch and query block is a grid point. -/
theorem point_of : ∀ (b : Fin 4) (p : Fin 32), ∃ t : Fin cfg0.N, (grid0.coords t 0).val = b.val ∧ (grid0.coords t 1).val = p.val :=
  (by decide +kernel : ∀ (b : Fin 4) (p : Fin 32), ∃ t : Fin grid0.N, _)

/-- A sum over 256 lanes by its latent, rotary and padding parts. -/
theorem sum_lanes (f : Fin 256 → EReal) :
    ∑ d, f d = (∑ d : Fin 128, f ⟨d.val, by omega⟩) + (∑ d : Fin 32, f ⟨128 + d.val, by omega⟩)
      + ∑ d : Fin 96, f ⟨160 + d.val, by omega⟩ := by
  rw [show ∑ d, f d = _ from Fin.sum_univ_add (a := 160) (b := 96) f]
  congr 1
  exact Fin.sum_univ_add (a := 128) (b := 32) fun i => f (Fin.castAdd 96 i)

/-- A padded product is the latent product and the rotary product. -/
theorem padded_dots (q : FVec Ideal S4x4096x8x128 .f32) (r : FVec Ideal S4x4096x8x32 .f32) (k : FVec Ideal S4x4096x160 .f32)
    (b : Fin 4) (t : Fin 4096) (h : Fin 8) (j : Fin 4096) :
    ∑ d : Fin 256, qcat q r (ix3 b t ⟨256 * h.val + d.val, by omega⟩) * kcat k (ix3 b j d) = dots q r k b t h j := by
  simp only [qcat_apply, kcat_apply]
  rw [sum_lanes, dots]
  have e1 : ∀ d : Fin 128, d.val < 160 := fun d => by omega
  have e2 : ∀ d : Fin 32, ¬ 128 + d.val < 128 := fun d => by omega
  have e3 : ∀ d : Fin 32, 128 + d.val < 160 := fun d => by omega
  have e4 : ∀ d : Fin 96, ¬ 160 + d.val < 160 := fun d => by omega
  simp only [Fin.is_lt, dif_pos, e1, e2, e3, e4, dif_neg, not_false_eq_true, mul_zero, Finset.sum_const_zero, add_zero]
  congr 1

variable (m : (ℓ : Loc nD τ sig) → Buf (Elt Ideal) ℓ) (c : Dev nD)

theorem emb0 (t : Fin cfg0.N) (a : Fin 128) (l : Fin 2048) (b : Fin 4) (T : Fin 4096) (hb : (grid0.coords t 0).val = b.val)
    (hT : T.val = 128 * (grid0.coords t 1).val + a.val) :
    ((cfg0.win 0).blk t).view.emb (ix3 (0 : Fin 1) a l) = (ix3 b T l : S4x4096x2048.Idx) := by
  obtain ⟨⟨e0, e1, e2⟩, -, -⟩ := idx_facts t
  refine funext fun x => Fin.ext ?_
  match x with
  | ⟨0, _⟩ => show win0_0.index t (0 : Fin 3) * 1 + 1 * 0 = b.val; omega
  | ⟨1, _⟩ => show win0_0.index t (1 : Fin 3) * 128 + 1 * a.val = T.val; omega
  | ⟨2, _⟩ => show win0_0.index t (2 : Fin 3) * 2048 + 1 * l.val = l.val; omega

theorem emb1 (t : Fin cfg0.N) (j : Fin 4096) (d : Fin 256) (b : Fin 4) (hb : (grid0.coords t 0).val = b.val) :
    ((cfg0.win 1).blk t).view.emb (ix3 (0 : Fin 1) j d) = (ix3 b j d : S4x4096x256.Idx) := by
  obtain ⟨-, ⟨e0, e1, e2⟩, -⟩ := idx_facts t
  refine funext fun x => Fin.ext ?_
  match x with
  | ⟨0, _⟩ => show win0_1.index t (0 : Fin 3) * 1 + 1 * 0 = b.val; omega
  | ⟨1, _⟩ => show win0_1.index t (1 : Fin 3) * 4096 + 1 * j.val = j.val; omega
  | ⟨2, _⟩ => show win0_1.index t (2 : Fin 3) * 256 + 1 * d.val = d.val; omega

theorem emb2 (t : Fin cfg0.N) (a : Fin 128) (w : Fin 1024) (b : Fin 4) (T : Fin 4096) (hb : (grid0.coords t 0).val = b.val)
    (hT : T.val = 128 * (grid0.coords t 1).val + a.val) :
    ((cfg0.win 2).blk t).view.emb (ix3 (0 : Fin 1) a w) = (ix3 b T w : S4x4096x1024.Idx) := by
  obtain ⟨-, -, e0, e1, e2⟩ := idx_facts t
  refine funext fun x => Fin.ext ?_
  match x with
  | ⟨0, _⟩ => show win0_2.index t (0 : Fin 3) * 1 + 1 * 0 = b.val; omega
  | ⟨1, _⟩ => show win0_2.index t (1 : Fin 3) * 128 + 1 * a.val = T.val; omega
  | ⟨2, _⟩ => show win0_2.index t (2 : Fin 3) * 1024 + 1 * w.val = w.val; omega

theorem read0 (X : S4x4096x2048.Idx → EReal) (t : Fin cfg0.N) (a : Fin 128) (l : Fin 2048) (b : Fin 4) (T : Fin 4096)
    (hb : (grid0.coords t 0).val = b.val) (hT : T.val = 128 * (grid0.coords t 1).val + a.val) :
    ((cfg0.win 0).blk t).view.read (Elt Ideal) X (ix3 (0 : Fin 1) a l) = X (ix3 b T l) :=
  congrArg X (emb0 t a l b T hb hT)

theorem read1 (X : S4x4096x256.Idx → EReal) (t : Fin cfg0.N) (j : Fin 4096) (d : Fin 256) (b : Fin 4)
    (hb : (grid0.coords t 0).val = b.val) :
    ((cfg0.win 1).blk t).view.read (Elt Ideal) X (ix3 (0 : Fin 1) j d) = X (ix3 b j d) :=
  congrArg X (emb1 t j d b hb)

/-- The query block of a grid point. -/
theorem iblk0_apply (t : Fin cfg0.N) (a : Fin 128) (l : Fin 2048) (b : Fin 4) (T : Fin 4096) (hb : (grid0.coords t 0).val = b.val)
    (hT : T.val = 128 * (grid0.coords t 1).val + a.val) :
    iblk m c 0 t (ix3 (0 : Fin 1) a l) = qcat (m ((c : Thread nD τ).loc main_arg0)) (m ((c : Thread nD τ).loc main_arg1)) (ix3 b T l) :=
  (read0 (V m c main_v2) t a l b T hb hT).trans (congrFun (V_v2 m c) (ix3 b T l))

/-- The rows of a grid point's batch. -/
theorem iblk1_apply (t : Fin cfg0.N) (j : Fin 4096) (d : Fin 256) (b : Fin 4) (hb : (grid0.coords t 0).val = b.val) :
    iblk m c 1 t (ix3 (0 : Fin 1) j d) = kcat (m ((c : Thread nD τ).loc main_arg2)) (ix3 b j d) :=
  (read1 (V m c main_v4) t j d b hb).trans (congrFun (V_v4 m c) (ix3 b j d))

/-- The kernel's result at an index. -/
theorem kernel_apply (b : Fin 4) (T : Fin 4096) (w : Fin 1024) :
    (dats m 0 c).arrAt 2 cfg0.N (ix3 b T w : S4x4096x1024.Idx) =
      mla (m ((c : Thread nD τ).loc main_arg0)) (m ((c : Thread nD τ).loc main_arg1)) (m ((c : Thread nD τ).loc main_arg2))
        b T ⟨w.val / 128, by omega⟩ ⟨w.val % 128, by omega⟩ := by
  obtain ⟨t, hb, hp⟩ := point_of b ⟨T.val / 128, by omega⟩
  simp only [] at hp
  have hT : T.val = 128 * (grid0.coords t 1).val + (⟨T.val % 128, by omega⟩ : Fin 128).val := by
    simp only []; omega
  have e := congrFun (Cert.KernelIdeal.Value.blocks2 m c t (flush0_2 t)) (ix3 (0 : Fin 1) (⟨T.val % 128, by omega⟩ : Fin 128) w)
  rw [Cert.KernelIdeal.Value.flushed2_A] at e
  have e' : (dats m 0 c).arrAt 2 cfg0.N (((cfg0.win 2).blk t).view.emb (ix3 (0 : Fin 1) (⟨T.val % 128, by omega⟩ : Fin 128) w)) = _ := e
  rw [emb2 t _ w b T hb hT] at e'
  refine e'.trans ?_
  refine (out_attend c (grid0.coords t) _ _ _ _ _ _ _ _ _ _ _ _ (iblk m c 0 t) (iblk m c 1 t)
    (ix3 (0 : Fin 1) (⟨T.val % 128, by omega⟩ : Fin 128) w) ⟨w.val / 128 * 128 + T.val % 128, by omega⟩ ⟨w.val % 128, by omega⟩ rfl rfl).trans ?_
  have hlo : lo ⟨w.val / 128 * 128 + T.val % 128, by omega⟩ = ⟨T.val % 128, by omega⟩ := Fin.ext (by simp only [lo]; omega)
  have hhi : hi ⟨w.val / 128 * 128 + T.val % 128, by omega⟩ = ⟨w.val / 128, by omega⟩ := Fin.ext (by simp only [hi]; omega)
  rw [mla]
  congr 1
  · funext j
    rw [score, scoreOf]
    simp only [hlo, hhi, iblk0_apply m c t _ _ b T hb hT, iblk1_apply m c t _ _ b hb, ← padded_dots, ← hT]
  · funext j
    rw [iblk1_apply m c t _ _ b hb, kcat_apply, dif_pos (by simp only []; omega)]

end Cert.Mla

end
-- ==== Proof.Ref.lean ====
/-
  The reference at an index: the plain masked softmax of `Spec.lean`.
-/
module

public import proofs.«01_k».proof.Proof.Spec
public import proofs.«01_k».proof.Proof.Gen.ReferenceIdeal.Run
public import Idealize.ShloMosaic.Lib.IdealHost

@[expose] public section

set_option maxRecDepth 65536

noncomputable section

namespace Cert.Mla

open Idealize.ShloMosaic Cert.ReferenceIdeal Cert.ReferenceIdeal.Gen Cert.Online Cert.Tile

section

variable (q : FVec Ideal S4x4096x8x128 .f32) (r : FVec Ideal S4x4096x8x32 .f32) (k : FVec Ideal S4x4096x160 .f32)

/-- Whether a key is no later than a query. -/
def rMask : IVec S4x8x4096x4096 1 :=
  broadcastInDim S4x8x4096x4096 ![0, 1, 2, 3] bcast_S1x1x4096x4096_S4x8x4096x4096_0_1_2_3 (broadcastInDim S1x1x4096x4096 ![2, 3] bcast_S4096x4096_S1x1x4096x4096_2_3 (cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))))

/-- The scores before the mask. -/
def rRaw : FVec Ideal S4x8x4096x4096 .f32 :=
  mulf (addf (transpose S4x8x4096x4096 [0, 3, 2, 1] (Host.dotGeneral dot_S4x4096x128_S4x4096x8x128_S4x4096x4096x8_2_3_1_12_0_0 none (extractStridedSlice S4x4096x128 ![0, 0, 0] k slices_S4x4096x160_S4x4096x128_0_0_0) q) transposes_S4x4096x4096x8_S4x8x4096x4096_0_3_2_1) (transpose S4x8x4096x4096 [0, 3, 2, 1] (Host.dotGeneral dot_S4x4096x32_S4x4096x8x32_S4x4096x4096x8_2_3_1_12_0_0 none (extractStridedSlice S4x4096x32 ![0, 0, 128] k slices_S4x4096x160_S4x4096x32_0_0_128) r) transposes_S4x4096x4096x8_S4x8x4096x4096_0_3_2_1)) (broadcastInDim S4x8x4096x4096 ![] bcast_S_S4x8x4096x4096 (constant S_ .f32 0x3DD105EC#32))

/-- The masked scores. -/
def rScore : FVec Ideal S4x8x4096x4096 .f32 :=
  select rMask (rRaw q r k) (broadcastInDim S4x8x4096x4096 ![] bcast_S_S4x8x4096x4096 (id (constant S_ .f32 0xFF800000#32)))

/-- The exponentials, zero under the mask, of scores `s`. -/
def rExp (s : FVec Ideal S4x8x4096x4096 .f32) : FVec Ideal S4x8x4096x4096 .f32 :=
  select rMask (Host.exp (subf s (broadcastInDim S4x8x4096x4096 ![0, 1, 2, 3] bcast_S4x8x4096x1_S4x8x4096x4096_0_1_2_3 (broadcastInDim S4x8x4096x1 ![0, 1, 2] bcast_S4x8x4096_S4x8x4096x1_0_1_2 (Host.reduce FloatOps.maximumf s (constant S_ .f32 0xFF800000#32) reducesTo_S4x8x4096x4096_S4x8x4096_d3 h_S_))))) (broadcastInDim S4x8x4096x4096 ![] bcast_S_S4x8x4096x4096 (id (constant S_ .f32 0x00000000#32)))

/-- The guarded denominators of exponentials `e`. -/
def rDen (e : FVec Ideal S4x8x4096x4096 .f32) : FVec Ideal S4x8x4096x1 .f32 :=
  maximumf (broadcastInDim S4x8x4096x1 ![0, 1, 2] bcast_S4x8x4096_S4x8x4096x1_0_1_2 (Host.reduceAdd e (constant S_ .f32 0x00000000#32) reducesTo_S4x8x4096x4096_S4x8x4096_d3 h_S_)) (broadcastInDim S4x8x4096x1 ![] bcast_S_S4x8x4096x1 (constant S_ .f32 0x0DA24260#32))

/-- The result from the exponentials `e` and denominators `l`. -/
def rOut (e : FVec Ideal S4x8x4096x4096 .f32) (l : FVec Ideal S4x8x4096x1 .f32) : FVec Ideal S4x4096x1024 .f32 :=
  shapeCast _ (transpose S4x4096x8x128 [0, 3, 2, 1] (Host.dotGeneral dot_S4x4096x128_S4x8x4096x4096_S4x128x8x4096_1_3_2_12_0_0 none (extractStridedSlice S4x4096x128 ![0, 0, 0] k slices_S4x4096x160_S4x4096x128_0_0_0) (Host.divf e (broadcastInDim S4x8x4096x4096 ![0, 1, 2, 3] bcast_S4x8x4096x1_S4x8x4096x4096_0_1_2_3 l))) transposes_S4x128x8x4096_S4x4096x8x128_0_3_2_1) shapeCasts_S4x4096x8x128_S4x4096x1024

theorem res_eq (m : (ℓ : Loc nD τ sig) → Buf (Elt Ideal) ℓ) (c : Dev nD) :
    Cert.ReferenceIdeal.Value.res_main_v31 (F := Ideal) m c =
      rOut (m ((c.tc : Thread nD τ).loc main_arg2))
        (rExp (rScore (m ((c.tc : Thread nD τ).loc main_arg0)) (m ((c.tc : Thread nD τ).loc main_arg1)) (m ((c.tc : Thread nD τ).loc main_arg2))))
        (rDen (rExp (rScore (m ((c.tc : Thread nD τ).loc main_arg0)) (m ((c.tc : Thread nD τ).loc main_arg1)) (m ((c.tc : Thread nD τ).loc main_arg2))))) := rfl

theorem rMask_apply (b : Fin 4) (h : Fin 8) (t j : Fin 4096) :
    rMask (ix4 b h t j) = if j.val ≤ t.val then 1#1 else 0#1 := by
  pointwise [rMask]
  rw [WordCmp.cmpi_sle_ofNat (by omega) (by omega)]
  by_cases h : j.val ≤ t.val <;> simp [h]

theorem scale_eq : Ideal.ofBits .f32 0x3DD105EC#32 = q0 := by
  simp [Ideal.ofBits, Ideal.ieee, q0, -EReal.coe_mul]
  norm_num

theorem rRaw_apply (b : Fin 4) (h : Fin 8) (t j : Fin 4096) :
    rRaw q r k (ix4 b h t j) = dots q r k b t h j * q0 := by
  pointwise [rRaw, dots]
  rw [scale_eq]
  simp only [mul_comm]

theorem rScore_apply (b : Fin 4) (h : Fin 8) (t j : Fin 4096) :
    rScore q r k (ix4 b h t j) = scoreOf q r k b t h j := by
  change (if rMask (ix4 b h t j) = 1#1 then rRaw q r k (ix4 b h t j) else Ideal.ofBits .f32 0xFF800000#32) = _
  rw [rMask_apply, rRaw_apply, ofBits_neg_inf, scoreOf]
  by_cases hj : j.val ≤ t.val
  · rw [if_pos hj, if_pos rfl, if_pos hj]
  · rw [if_neg hj, if_neg (by decide), if_neg hj]

theorem rOut_apply (e : FVec Ideal S4x8x4096x4096 .f32) (l : FVec Ideal S4x8x4096x1 .f32) (b : Fin 4) (t : Fin 4096) (w : Fin 1024) :
    rOut k e l (ix3 b t w) = ∑ j : Fin 4096, k (ix3 b j ⟨w.val % 128, by omega⟩) *
      Ideal.div (e (ix4 b ⟨w.val / 128, by omega⟩ t j)) (l (ix4 b ⟨w.val / 128, by omega⟩ t 0)) := by
  pointwise [rOut]

theorem rDen_apply (e : FVec Ideal S4x8x4096x4096 .f32) (b : Fin 4) (h : Fin 8) (t : Fin 4096) :
    rDen e (ix4 b h t 0) = max (∑ j : Fin 4096, e (ix4 b h t j)) guard := by
  pointwise [rDen]

theorem rExp_apply (s : FVec Ideal S4x8x4096x4096 .f32) (b : Fin 4) (h : Fin 8) (t j : Fin 4096) :
    rExp s (ix4 b h t j) = if j.val ≤ t.val then Ideal.exp (s (ix4 b h t j) - Finset.univ.sup fun j' => s (ix4 b h t j')) else 0 := by
  pointwise [rExp]
  rw [rMask_apply, ofBits_neg_inf]
  by_cases hj : j.val ≤ t.val
  · rw [if_pos hj, if_pos hj]
    rfl
  · rw [if_neg hj, if_neg hj]
    exact Ideal.ofBits_zero .f32

/-- The masked exponential is the exponential of the masked score. -/
theorem weight_ref (b : Fin 4) (h : Fin 8) (t j : Fin 4096) :
    rExp (rScore q r k) (ix4 b h t j) = Ideal.exp (scoreOf q r k b t h j - Finset.univ.sup (scoreOf q r k b t h)) := by
  rw [rExp_apply]
  simp only [rScore_apply]
  split_ifs with hj
  · rfl
  · rw [scoreOf, if_neg hj]
    simp [sub_eq_add_neg]

theorem guard_pos : 0 < guard := by
  change (0 : EReal) < Ideal.ofBits .f32 0x0DA24260#32
  simp [Ideal.ofBits, Ideal.ieee, -EReal.coe_mul]
  try norm_num

/-- Dividing every weight by a positive denominator is dividing the weighted sum. -/
theorem sum_div {ι : Type} (s : Finset ι) (f g : ι → EReal) {y : EReal} (hy : 0 < y) :
    ∑ i ∈ s, g i * Ideal.div (f i) y = Ideal.div (∑ i ∈ s, f i * g i) y := by
  have hd : ∀ x, Ideal.div x y = x * y⁻¹ := fun x => by rw [Ideal.div, if_neg hy.ne']
  have ht : y⁻¹ ≠ ⊤ := by
    induction y with
    | bot => simp
    | top => simp
    | coe a => rw [← EReal.coe_inv]; exact EReal.coe_ne_top _
  rw [hd, sum_mul _ _ (EReal.inv_nonneg_of_nonneg hy.le) ht]
  refine Finset.sum_congr rfl fun i _ => ?_
  rw [hd, ← mul_assoc, mul_comm (g i)]

/-- The reference's result at an index. -/
theorem ref_apply (b : Fin 4) (t : Fin 4096) (w : Fin 1024) :
    rOut k (rExp (rScore q r k)) (rDen (rExp (rScore q r k))) (ix3 b t w) =
      mla q r k b t ⟨w.val / 128, by omega⟩ ⟨w.val % 128, by omega⟩ := by
  rw [rOut_apply, rDen_apply, sum_div _ _ _ (lt_max_of_lt_right guard_pos)]
  simp only [weight_ref]
  rfl

end

end Cert.Mla

end
-- ==== Proof.Row.lean ====
/-
  One row of the layer's row-wise calls, as a function of the row: the normalisation by the root of the mean square,
  the feed-forward block with its squared positive part, and a sum over 4096 hidden units in four parts.
-/
module

public import Idealize.ShloMosaic.Lib.Pointwise

@[expose] public section

noncomputable section

namespace Cert.Row

open Idealize.ShloMosaic

/-- A row over the root of its mean square, with a gain for each column. -/
def rms (x g : Fin 1024 → EReal) (i : Fin 1024) : EReal :=
  x i * Ideal.rsqrt (Ideal.div (∑ j, x j * x j) (Ideal.ofBits .f32 0x44800000#32) + Ideal.ofBits .f32 0x358637BD#32) * g i

/-- The squared positive part of a hidden unit with input weights `w`. -/
def unit (h : Fin 1024 → EReal) (w : Fin 1024 → EReal) : EReal :=
  max (∑ i, h i * w i) 0 * max (∑ i, h i * w i) 0

/-- A row and its feed-forward block. -/
def ffn (x g : Fin 1024 → EReal) (w1 : Fin 1024 → Fin 4096 → EReal) (w2 : Fin 4096 → Fin 1024 → EReal) (j : Fin 1024) : EReal :=
  x j + ∑ f, unit (rms x g) (fun i => w1 i f) * w2 f j

/-- What 1024 hidden units add to a column. -/
def part (h : Fin 1024 → EReal) (w : Fin 1024 → Fin 1024 → EReal) (v : Fin 1024 → Fin 1024 → EReal) (j : Fin 1024) : EReal :=
  ∑ f, unit h (fun i => w i f) * v f j

/-- A sum over 4096 indices in four parts of 1024. -/
theorem sum_parts (F : Fin 4096 → EReal) :
    ∑ f, F f = (∑ f : Fin 1024, F ⟨f.val, by omega⟩) + (∑ f : Fin 1024, F ⟨1024 + f.val, by omega⟩)
      + (∑ f : Fin 1024, F ⟨2048 + f.val, by omega⟩) + ∑ f : Fin 1024, F ⟨3072 + f.val, by omega⟩ := by
  rw [show ∑ f, F f = _ from Fin.sum_univ_add (a := 3072) (b := 1024) F]
  congr 1
  rw [show ∑ f, F (Fin.castAdd 1024 f) = _ from Fin.sum_univ_add (a := 2048) (b := 1024) fun f => F (Fin.castAdd 1024 f)]
  congr 1
  exact Fin.sum_univ_add (a := 1024) (b := 1024) fun f => F (Fin.castAdd 1024 (Fin.castAdd 1024 f))

/-- The four parts added one after the other to the row are the feed-forward block. -/
theorem ffn_parts (x g : Fin 1024 → EReal) (w1 : Fin 1024 → Fin 4096 → EReal) (w2 : Fin 4096 → Fin 1024 → EReal) (j : Fin 1024) :
    x j + part (rms x g) (fun i f => w1 i ⟨f.val, by omega⟩) (fun f j => w2 ⟨f.val, by omega⟩ j) j
      + part (rms x g) (fun i f => w1 i ⟨1024 + f.val, by omega⟩) (fun f j => w2 ⟨1024 + f.val, by omega⟩ j) j
      + part (rms x g) (fun i f => w1 i ⟨2048 + f.val, by omega⟩) (fun f j => w2 ⟨2048 + f.val, by omega⟩ j) j
      + part (rms x g) (fun i f => w1 i ⟨3072 + f.val, by omega⟩) (fun f j => w2 ⟨3072 + f.val, by omega⟩ j) j
      = ffn x g w1 w2 j := by
  rw [ffn, sum_parts]
  simp only [part, add_assoc]

end Cert.Row

end
-- ==== Proof.FfnFinal.lean ====
/-
  The feed-forward kernel with the final normalisation, at an index.
-/
module

public import proofs.«01_k».proof.Proof.Row
public import proofs.«01_k».proof.Proof.Gen.Kernel2Ideal.Value
public import Idealize.ShloMosaic.Lib.StableHlo.Run

@[expose] public section

set_option maxRecDepth 65536

noncomputable section

namespace Cert.FfnFinal

open Idealize.ShloMosaic Idealize.ShloMosaic.TcCoe Cert.Kernel2Ideal Cert.Kernel2Ideal.Gen Cert.Row

theorem zero_off : (![0, 0] : Fin 2 → ℕ) = fun _ => 0 := by
  funext a
  match a with
  | ⟨0, _⟩ => rfl
  | ⟨1, _⟩ => rfl

/-! ### The vector expressions of the body -/

section

variable (x y : FVec Ideal S256x1024 .f32) (h : FVec Ideal S256x1024 .bf16) (g : FVec Ideal S1x1024 .f32)
  (w v w' v' : FVec Ideal S1024x1024 .bf16) (a : Fin 256) (d : Fin 1024)

theorem normed_apply : k0_pay1 (F := Ideal) x g (ix2 a d) = rms (fun i => x (ix2 a i)) (fun i => g (ix2 0 i)) d := by
  pointwise [k0_pay1, rms]

theorem first_apply : k0_pay2 (F := Ideal) x g w v w' v' (ix2 a d) =
    x (ix2 a d) + part (rms (fun i => x (ix2 a i)) fun i => g (ix2 0 i)) (fun i f => w (ix2 i f)) (fun f j => v (ix2 f j)) d
      + part (rms (fun i => x (ix2 a i)) fun i => g (ix2 0 i)) (fun i f => w' (ix2 i f)) (fun f j => v' (ix2 f j)) d := by
  pointwise [k0_pay2]
  simp only [normed_apply]
  rfl

/-- The sum after all four parts. -/
def total : FVec Ideal S256x1024 .f32 := fun z =>
  y z + part (fun i => h (ix2 (z 0) i)) (fun i f => w (ix2 i f)) (fun f j => v (ix2 f j)) (z 1)
    + part (fun i => h (ix2 (z 0) i)) (fun i f => w' (ix2 i f)) (fun f j => v' (ix2 f j)) (z 1)

theorem last_apply : k0_pay3 (F := Ideal) h y w v w' v' g (ix2 a d) =
    rms (fun i => total y h w v w' v' (ix2 a i)) (fun i => g (ix2 0 i)) d := by
  pointwise [k0_pay3]
  rfl

end

/-! ### The block that a point writes -/

section

variable (x0 : FVec Ideal S256x1024 .f32) (x1 x4 : FVec Ideal S1x1024 .f32) (x2 : FVec Ideal S1024x4096 .bf16)
  (x3 : FVec Ideal S4096x1024 .bf16)

theorem ld_cols (o : ℕ) (inb) (i f : Fin 1024) (f' : Fin 4096) (hf : f'.val = o + f.val) :
    View.ld (Val := Elt Ideal) (e' := .bf16) x2 (Rect.unit (s := S1024x4096) ![0, o] S1024x1024.size inb) (ix2 i f) = x2 (ix2 i f') := by
  refine congrArg x2 (funext fun x => Fin.ext ?_)
  match x with
  | ⟨0, _⟩ => show 0 + 1 * i.val = i.val; omega
  | ⟨1, _⟩ => show o + 1 * f.val = f'.val; omega

theorem ld_rows (o : ℕ) (inb) (f j : Fin 1024) (f' : Fin 4096) (hf : f'.val = o + f.val) :
    View.ld (Val := Elt Ideal) (e' := .bf16) x3 (Rect.unit (s := S4096x1024) ![o, 0] S1024x1024.size inb) (ix2 f j) = x3 (ix2 f' j) := by
  refine congrArg x3 (funext fun x => Fin.ext ?_)
  match x with
  | ⟨0, _⟩ => show o + 1 * f.val = f'.val; omega
  | ⟨1, _⟩ => show 0 + 1 * j.val = j.val; omega

/-- The block that a point writes, at an index. -/
theorem out_apply (a : Fin 256) (d : Fin 1024) : out0_5 (F := Ideal) x0 x1 x2 x3 x4 (ix2 a d) =
    rms (ffn (fun i => x0 (ix2 a i)) (fun i => x1 (ix2 0 i)) (fun i f => x2 (ix2 i f)) fun f j => x3 (ix2 f j))
      (fun i => x4 (ix2 0 i)) d := by
  unfold out0_5
  rw [View.canon_unit_zero zero_off, View.ld_unit_zero zero_off, View.ld_unit_zero zero_off, View.ld_unit_zero zero_off, last_apply]
  congr 1
  funext j
  change k0_pay2 (F := Ideal) _ _ _ _ _ _ (ix2 a j) + part (fun i => k0_pay1 (F := Ideal) _ _ (ix2 a i)) _ _ j
    + part (fun i => k0_pay1 (F := Ideal) _ _ (ix2 a i)) _ _ j = _
  simp only [first_apply, normed_apply]
  rw [← ffn_parts]
  congr 1
  · congr 1
    · congr 1
      · congr 1
        congr 1
        · funext i f; exact ld_cols x2 0 _ i f _ (Nat.zero_add _).symm
        · funext f j; exact ld_rows x3 0 _ f j _ (Nat.zero_add _).symm
      · congr 1
        · funext i f; exact ld_cols x2 1024 _ i f _ rfl
        · funext f j; exact ld_rows x3 1024 _ f j _ rfl
    · congr 1
      · funext i f; exact ld_cols x2 2048 _ i f _ rfl
      · funext f j; exact ld_rows x3 2048 _ f j _ rfl
  · congr 1
    · funext i f; exact ld_cols x2 3072 _ i f _ rfl
    · funext f j; exact ld_rows x3 3072 _ f j _ rfl

end

/-! ### The arrays that the call reads, and its result -/

variable (m : (ℓ : Loc nD τ sig) → Buf (Elt Ideal) ℓ) (c : Dev nD)

theorem V_v0 : V m c main_v0 = shapeCast S1x1024 (m ((c : Thread nD τ).loc main_arg1)) shapeCasts_S1024_S1x1024 := by
  unfold V hostOps0
  after_results_simp <;> rfl

theorem V_v1 : V m c main_v1 = (truncf .bf16 (m ((c : Thread nD τ).loc main_arg2)) bitsLt_bf16_f32 : FVec Ideal S1024x4096 .bf16) := by
  unfold V hostOps0
  after_results_simp <;> rfl

theorem V_v2 : V m c main_v2 = (truncf .bf16 (m ((c : Thread nD τ).loc main_arg3)) bitsLt_bf16_f32 : FVec Ideal S4096x1024 .bf16) := by
  unfold V hostOps0
  after_results_simp <;> rfl

theorem V_v3 : V m c main_v3 = shapeCast S1x1024 (m ((c : Thread nD τ).loc main_arg4)) shapeCasts_S1024_S1x1024 := by
  unfold V hostOps0
  after_results_simp <;> rfl

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

theorem read0 (X : S16384x1024.Idx → EReal) (t : Fin cfg0.N) (a : Fin 256) (l : Fin 1024) (T : Fin 16384)
    (hT : T.val = 256 * t.val + a.val) : ((cfg0.win 0).blk t).view.read (Elt Ideal) X (ix2 a l) = X (ix2 T l) := by
  obtain ⟨⟨e0, e1⟩, -⟩ := idx_facts t
  refine congrArg X (funext fun x => Fin.ext ?_)
  match x with
  | ⟨0, _⟩ => show win0_0.index t (0 : Fin 2) * 256 + 1 * a.val = T.val; omega
  | ⟨1, _⟩ => show win0_0.index t (1 : Fin 2) * 1024 + 1 * l.val = l.val; omega

theorem read1 (X : S1x1024.Idx → EReal) (t : Fin cfg0.N) (l : Fin 1024) :
    ((cfg0.win 1).blk t).view.read (Elt Ideal) X (ix2 0 l) = X (ix2 0 l) := by
  obtain ⟨-, ⟨e0, e1⟩, -⟩ := idx_facts t
  refine congrArg X (funext fun x => Fin.ext ?_)
  match x with
  | ⟨0, _⟩ => show win0_1.index t (0 : Fin 2) * 1 + 1 * 0 = 0; omega
  | ⟨1, _⟩ => show win0_1.index t (1 : Fin 2) * 1024 + 1 * l.val = l.val; omega

theorem read2 (X : S1024x4096.Idx → EReal) (t : Fin cfg0.N) (i : Fin 1024) (f : Fin 4096) :
    ((cfg0.win 2).blk t).view.read (Elt Ideal) X (ix2 i f) = X (ix2 i f) := by
  obtain ⟨-, -, ⟨e0, e1⟩, -⟩ := idx_facts t
  refine congrArg X (funext fun x => Fin.ext ?_)
  match x with
  | ⟨0, _⟩ => show win0_2.index t (0 : Fin 2) * 1024 + 1 * i.val = i.val; omega
  | ⟨1, _⟩ => show win0_2.index t (1 : Fin 2) * 4096 + 1 * f.val = f.val; omega

theorem read3 (X : S4096x1024.Idx → EReal) (t : Fin cfg0.N) (f : Fin 4096) (j : Fin 1024) :
    ((cfg0.win 3).blk t).view.read (Elt Ideal) X (ix2 f j) = X (ix2 f j) := by
  obtain ⟨-, -, -, ⟨e0, e1⟩, -⟩ := idx_facts t
  refine congrArg X (funext fun x => Fin.ext ?_)
  match x with
  | ⟨0, _⟩ => show win0_3.index t (0 : Fin 2) * 4096 + 1 * f.val = f.val; omega
  | ⟨1, _⟩ => show win0_3.index t (1 : Fin 2) * 1024 + 1 * j.val = j.val; omega

theorem read4 (X : S1x1024.Idx → EReal) (t : Fin cfg0.N) (l : Fin 1024) :
    ((cfg0.win 4).blk t).view.read (Elt Ideal) X (ix2 0 l) = X (ix2 0 l) := by
  obtain ⟨-, -, -, -, ⟨e0, e1⟩, -⟩ := idx_facts t
  refine congrArg X (funext fun x => Fin.ext ?_)
  match x with
  | ⟨0, _⟩ => show win0_4.index t (0 : Fin 2) * 1 + 1 * 0 = 0; omega
  | ⟨1, _⟩ => show win0_4.index t (1 : Fin 2) * 1024 + 1 * l.val = l.val; omega

theorem emb5 (t : Fin cfg0.N) (a : Fin 256) (l : Fin 1024) (T : Fin 16384) (hT : T.val = 256 * t.val + a.val) :
    ((cfg0.win 5).blk t).view.emb (ix2 a l) = (ix2 T l : S16384x1024.Idx) := by
  obtain ⟨-, -, -, -, -, e0, e1⟩ := idx_facts t
  refine funext fun x => Fin.ext ?_
  match x with
  | ⟨0, _⟩ => show win0_5.index t (0 : Fin 2) * 256 + 1 * a.val = T.val; omega
  | ⟨1, _⟩ => show win0_5.index t (1 : Fin 2) * 1024 + 1 * l.val = l.val; omega

theorem iblk0_apply (t : Fin cfg0.N) (a : Fin 256) (l : Fin 1024) (T : Fin 16384) (hT : T.val = 256 * t.val + a.val) :
    iblk m c 0 t (ix2 a l) = m ((c : Thread nD τ).loc main_arg0) (ix2 T l) :=
  (read0 (V m c main_arg0) t a l T hT).trans (congrFun (V_main_arg0 m c) (ix2 T l))

theorem row_apply (g : FVec Ideal S1024 .f32) (l : Fin 1024) : shapeCast S1x1024 g shapeCasts_S1024_S1x1024 (ix2 0 l) = g (ix1 l) := by
  pointwise []

theorem iblk1_apply (t : Fin cfg0.N) (l : Fin 1024) :
    iblk m c 1 t (ix2 (0 : Fin 1) l) = m ((c : Thread nD τ).loc main_arg1) (ix1 l) :=
  ((read1 (V m c main_v0) t l).trans (congrFun (V_v0 m c) (ix2 (0 : Fin 1) l))).trans (row_apply _ l)

theorem iblk2_apply (t : Fin cfg0.N) (i : Fin 1024) (f : Fin 4096) :
    iblk m c 2 t (ix2 i f) = m ((c : Thread nD τ).loc main_arg2) (ix2 i f) :=
  (read2 (V m c main_v1) t i f).trans (congrFun (V_v1 m c) (ix2 i f))

theorem iblk3_apply (t : Fin cfg0.N) (f : Fin 4096) (j : Fin 1024) :
    iblk m c 3 t (ix2 f j) = m ((c : Thread nD τ).loc main_arg3) (ix2 f j) :=
  (read3 (V m c main_v2) t f j).trans (congrFun (V_v2 m c) (ix2 f j))

theorem iblk4_apply (t : Fin cfg0.N) (l : Fin 1024) :
    iblk m c 4 t (ix2 (0 : Fin 1) l) = m ((c : Thread nD τ).loc main_arg4) (ix1 l) :=
  ((read4 (V m c main_v3) t l).trans (congrFun (V_v3 m c) (ix2 (0 : Fin 1) l))).trans (row_apply _ l)

/-- The kernel's result at an index. -/
theorem kernel_apply (T : Fin 16384) (d : Fin 1024) :
    (dats m 0 c).arrAt 5 cfg0.N (ix2 T d : S16384x1024.Idx) =
      rms (ffn (fun i => m ((c : Thread nD τ).loc main_arg0) (ix2 T i)) (fun i => m ((c : Thread nD τ).loc main_arg1) (ix1 i))
        (fun i f => m ((c : Thread nD τ).loc main_arg2) (ix2 i f)) fun f j => m ((c : Thread nD τ).loc main_arg3) (ix2 f j))
        (fun i => m ((c : Thread nD τ).loc main_arg4) (ix1 i)) d := by
  have hN : cfg0.N = 64 := by decide
  have ht : T.val / 256 < cfg0.N := by omega
  have hT : T.val = 256 * (⟨T.val / 256, ht⟩ : Fin cfg0.N).val + (⟨T.val % 256, by omega⟩ : Fin 256).val := by
    simp only []; omega
  have e := congrFun (Cert.Kernel2Ideal.Value.blocks5 m c ⟨T.val / 256, ht⟩ (flush0_5 _)) (ix2 (⟨T.val % 256, by omega⟩ : Fin 256) d)
  rw [Cert.Kernel2Ideal.Value.flushed5] at e
  have e' : (dats m 0 c).arrAt 5 cfg0.N (((cfg0.win 5).blk ⟨T.val / 256, ht⟩).view.emb (ix2 (⟨T.val % 256, by omega⟩ : Fin 256) d)) = _ := e
  rw [emb5 _ _ d T hT] at e'
  refine e'.trans ((out_apply _ _ _ _ _ (⟨T.val % 256, by omega⟩ : Fin 256) d).trans ?_)
  simp only [iblk0_apply m c _ _ _ T hT, iblk1_apply, iblk2_apply, iblk3_apply, iblk4_apply]

end Cert.FfnFinal

end
-- ==== Proof.FfnFinalRef.lean ====
/-
  The feed-forward reference with the final normalisation, at an index.
-/
module

public import proofs.«01_k».proof.Proof.Row
public import proofs.«01_k».proof.Proof.Gen.Reference2Ideal.Run
public import Idealize.ShloMosaic.Lib.IdealHost

@[expose] public section

set_option maxRecDepth 65536

noncomputable section

namespace Cert.FfnFinal

open Idealize.ShloMosaic Cert.Reference2Ideal Cert.Reference2Ideal.Gen Cert.Row

variable (x : FVec Ideal S16384x1024 .f32) (g gf : FVec Ideal S1024 .f32) (w1 : FVec Ideal S1024x4096 .f32)
  (w2 : FVec Ideal S4096x1024 .f32)

/-- The normalised rows. -/
def rNorm : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The hidden units' positive parts of normalised rows `h`. -/
def rHidden (h : FVec Ideal S16384x1024 .f32) : FVec Ideal S16384x4096 .f32 :=
  maximumf (Host.dotGeneral dot_S16384x1024_S1024x4096_S16384x4096_1_0_0_1_n_n none h w1) (broadcastInDim S16384x4096 ![] bcast_S_S16384x4096 (constant S_ .f32 0x00000000#32))

/-- The rows and what hidden units `u` add to them. -/
def rSum (u : FVec Ideal S16384x4096 .f32) : FVec Ideal S16384x1024 .f32 :=
  addf x (Host.dotGeneral dot_S16384x4096_S4096x1024_S16384x1024_1_0_0_1_n_n none (mulf u u) w2)

theorem res_eq (m : (ℓ : Loc nD τ sig) → Buf (Elt Ideal) ℓ) (c : Dev nD) :
    Cert.Reference2Ideal.Value.res_main_v30 (F := Ideal) m c =
      rNorm (rSum (m ((c.tc : Thread nD τ).loc main_arg0)) (m ((c.tc : Thread nD τ).loc main_arg3))
        (rHidden (m ((c.tc : Thread nD τ).loc main_arg2)) (rNorm (m ((c.tc : Thread nD τ).loc main_arg0)) (m ((c.tc : Thread nD τ).loc main_arg1)))))
        (m ((c.tc : Thread nD τ).loc main_arg4)) := rfl

theorem rNorm_apply (T : Fin 16384) (d : Fin 1024) :
    rNorm x g (ix2 T d) = rms (fun i => x (ix2 T i)) (fun i => g (ix1 i)) d := by
  pointwise [rNorm, rms]

theorem rHidden_apply (h : FVec Ideal S16384x1024 .f32) (T : Fin 16384) (f : Fin 4096) :
    rHidden w1 h (ix2 T f) = max (∑ i, h (ix2 T i) * w1 (ix2 i f)) 0 := by
  pointwise [rHidden]

theorem rSum_apply (u : FVec Ideal S16384x4096 .f32) (T : Fin 16384) (d : Fin 1024) :
    rSum x w2 u (ix2 T d) = x (ix2 T d) + ∑ f, u (ix2 T f) * u (ix2 T f) * w2 (ix2 f d) := by
  pointwise [rSum]

/-- The reference at an index. -/
theorem ref_apply (T : Fin 16384) (d : Fin 1024) :
    rNorm (rSum x w2 (rHidden w1 (rNorm x g))) gf (ix2 T d) =
      rms (ffn (fun i => x (ix2 T i)) (fun i => g (ix1 i)) (fun i f => w1 (ix2 i f)) fun f j => w2 (ix2 f j))
        (fun i => gf (ix1 i)) d := by
  rw [rNorm_apply]
  simp only [rSum_apply, rHidden_apply, rNorm_apply]
  rfl

end Cert.FfnFinal

end
-- ==== Proof.Ffn.lean ====
/-
  The feed-forward kernel of a layer before the last, at an index.
-/
module

public import proofs.«01_k».proof.Proof.Row
public import proofs.«01_k».proof.Proof.Gen.Kernel4Ideal.Value
public import Idealize.ShloMosaic.Lib.StableHlo.Run

@[expose] public section

set_option maxRecDepth 65536

noncomputable section

namespace Cert.Ffn

open Idealize.ShloMosaic Idealize.ShloMosaic.TcCoe Cert.Kernel4Ideal Cert.Kernel4Ideal.Gen Cert.Row

theorem zero_off : (![0, 0] : Fin 2 → ℕ) = fun _ => 0 := by
  funext a
  match a with
  | ⟨0, _⟩ => rfl
  | ⟨1, _⟩ => rfl

/-! ### The vector expressions of the body -/

section

variable (x y : FVec Ideal S256x1024 .f32) (h : FVec Ideal S256x1024 .bf16) (g : FVec Ideal S1x1024 .f32)
  (w v w' v' : FVec Ideal S1024x1024 .bf16) (a : Fin 256) (d : Fin 1024)

theorem normed_apply : k0_pay2 (F := Ideal) x g (ix2 a d) = rms (fun i => x (ix2 a i)) (fun i => g (ix2 0 i)) d := by
  pointwise [k0_pay2, rms]

theorem first_apply : k0_pay3 (F := Ideal) x g w v w' v' (ix2 a d) =
    x (ix2 a d) + part (rms (fun i => x (ix2 a i)) fun i => g (ix2 0 i)) (fun i f => w (ix2 i f)) (fun f j => v (ix2 f j)) d
      + part (rms (fun i => x (ix2 a i)) fun i => g (ix2 0 i)) (fun i f => w' (ix2 i f)) (fun f j => v' (ix2 f j)) d := by
  pointwise [k0_pay3]
  simp only [normed_apply]
  rfl

theorem last_apply : k0_pay1 (F := Ideal) h y w v w' v' (ix2 a d) =
    y (ix2 a d) + part (fun i => h (ix2 a i)) (fun i f => w (ix2 i f)) (fun f j => v (ix2 f j)) d
      + part (fun i => h (ix2 a i)) (fun i f => w' (ix2 i f)) (fun f j => v' (ix2 f j)) d := by
  pointwise [k0_pay1]
  rfl

end

/-! ### The block that a point writes -/

section

variable (x0 : FVec Ideal S256x1024 .f32) (x1 x4 : FVec Ideal S1x1024 .f32) (x2 : FVec Ideal S1024x4096 .bf16)
  (x3 : FVec Ideal S4096x1024 .bf16)

theorem ld_cols (o : ℕ) (inb) (i f : Fin 1024) (f' : Fin 4096) (hf : f'.val = o + f.val) :
    View.ld (Val := Elt Ideal) (e' := .bf16) x2 (Rect.unit (s := S1024x4096) ![0, o] S1024x1024.size inb) (ix2 i f) = x2 (ix2 i f') := by
  refine congrArg x2 (funext fun x => Fin.ext ?_)
  match x with
  | ⟨0, _⟩ => show 0 + 1 * i.val = i.val; omega
  | ⟨1, _⟩ => show o + 1 * f.val = f'.val; omega

theorem ld_rows (o : ℕ) (inb) (f j : Fin 1024) (f' : Fin 4096) (hf : f'.val = o + f.val) :
    View.ld (Val := Elt Ideal) (e' := .bf16) x3 (Rect.unit (s := S4096x1024) ![o, 0] S1024x1024.size inb) (ix2 f j) = x3 (ix2 f' j) := by
  refine congrArg x3 (funext fun x => Fin.ext ?_)
  match x with
  | ⟨0, _⟩ => show o + 1 * f.val = f'.val; omega
  | ⟨1, _⟩ => show 0 + 1 * j.val = j.val; omega

/-- The block that a point writes, at an index. -/
theorem out_apply (a : Fin 256) (d : Fin 1024) : out0_5 (F := Ideal) x0 x1 x2 x3 x4 (ix2 a d) =
    ffn (fun i => x0 (ix2 a i)) (fun i => x1 (ix2 0 i)) (fun i f => x2 (ix2 i f)) (fun f j => x3 (ix2 f j)) d := by
  unfold out0_5
  rw [View.canon_unit_zero zero_off, View.ld_unit_zero zero_off, View.ld_unit_zero zero_off, last_apply]
  simp only [first_apply, normed_apply]
  rw [← ffn_parts]
  congr 1
  · congr 1
    · congr 1
      · congr 1
        congr 1
        · funext i f; exact ld_cols x2 0 _ i f _ (Nat.zero_add _).symm
        · funext f j; exact ld_rows x3 0 _ f j _ (Nat.zero_add _).symm
      · congr 1
        · funext i f; exact ld_cols x2 1024 _ i f _ rfl
        · funext f j; exact ld_rows x3 1024 _ f j _ rfl
    · congr 1
      · funext i f; exact ld_cols x2 2048 _ i f _ rfl
      · funext f j; exact ld_rows x3 2048 _ f j _ rfl
  · congr 1
    · funext i f; exact ld_cols x2 3072 _ i f _ rfl
    · funext f j; exact ld_rows x3 3072 _ f j _ rfl

end

/-! ### The arrays that the call reads, and its result -/

variable (m : (ℓ : Loc nD τ sig) → Buf (Elt Ideal) ℓ) (c : Dev nD)

theorem V_v0 : V m c main_v0 = shapeCast S1x1024 (m ((c : Thread nD τ).loc main_arg1)) shapeCasts_S1024_S1x1024 := by
  unfold V hostOps0
  after_results_simp <;> rfl

theorem V_v1 : V m c main_v1 = (truncf .bf16 (m ((c : Thread nD τ).loc main_arg2)) bitsLt_bf16_f32 : FVec Ideal S1024x4096 .bf16) := by
  unfold V hostOps0
  after_results_simp <;> rfl

theorem V_v2 : V m c main_v2 = (truncf .bf16 (m ((c : Thread nD τ).loc main_arg3)) bitsLt_bf16_f32 : FVec Ideal S4096x1024 .bf16) := by
  unfold V hostOps0
  after_results_simp <;> rfl

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

theorem read0 (X : S16384x1024.Idx → EReal) (t : Fin cfg0.N) (a : Fin 256) (l : Fin 1024) (T : Fin 16384)
    (hT : T.val = 256 * t.val + a.val) : ((cfg0.win 0).blk t).view.read (Elt Ideal) X (ix2 a l) = X (ix2 T l) := by
  obtain ⟨⟨e0, e1⟩, -⟩ := idx_facts t
  refine congrArg X (funext fun x => Fin.ext ?_)
  match x with
  | ⟨0, _⟩ => show win0_0.index t (0 : Fin 2) * 256 + 1 * a.val = T.val; omega
  | ⟨1, _⟩ => show win0_0.index t (1 : Fin 2) * 1024 + 1 * l.val = l.val; omega

theorem read1 (X : S1x1024.Idx → EReal) (t : Fin cfg0.N) (l : Fin 1024) :
    ((cfg0.win 1).blk t).view.read (Elt Ideal) X (ix2 0 l) = X (ix2 0 l) := by
  obtain ⟨-, ⟨e0, e1⟩, -⟩ := idx_facts t
  refine congrArg X (funext fun x => Fin.ext ?_)
  match x with
  | ⟨0, _⟩ => show win0_1.index t (0 : Fin 2) * 1 + 1 * 0 = 0; omega
  | ⟨1, _⟩ => show win0_1.index t (1 : Fin 2) * 1024 + 1 * l.val = l.val; omega

theorem read2 (X : S1024x4096.Idx → EReal) (t : Fin cfg0.N) (i : Fin 1024) (f : Fin 4096) :
    ((cfg0.win 2).blk t).view.read (Elt Ideal) X (ix2 i f) = X (ix2 i f) := by
  obtain ⟨-, -, ⟨e0, e1⟩, -⟩ := idx_facts t
  refine congrArg X (funext fun x => Fin.ext ?_)
  match x with
  | ⟨0, _⟩ => show win0_2.index t (0 : Fin 2) * 1024 + 1 * i.val = i.val; omega
  | ⟨1, _⟩ => show win0_2.index t (1 : Fin 2) * 4096 + 1 * f.val = f.val; omega

theorem read3 (X : S4096x1024.Idx → EReal) (t : Fin cfg0.N) (f : Fin 4096) (j : Fin 1024) :
    ((cfg0.win 3).blk t).view.read (Elt Ideal) X (ix2 f j) = X (ix2 f j) := by
  obtain ⟨-, -, -, ⟨e0, e1⟩, -⟩ := idx_facts t
  refine congrArg X (funext fun x => Fin.ext ?_)
  match x with
  | ⟨0, _⟩ => show win0_3.index t (0 : Fin 2) * 4096 + 1 * f.val = f.val; omega
  | ⟨1, _⟩ => show win0_3.index t (1 : Fin 2) * 1024 + 1 * j.val = j.val; omega

theorem emb5 (t : Fin cfg0.N) (a : Fin 256) (l : Fin 1024) (T : Fin 16384) (hT : T.val = 256 * t.val + a.val) :
    ((cfg0.win 5).blk t).view.emb (ix2 a l) = (ix2 T l : S16384x1024.Idx) := by
  obtain ⟨-, -, -, -, -, e0, e1⟩ := idx_facts t
  refine funext fun x => Fin.ext ?_
  match x with
  | ⟨0, _⟩ => show win0_5.index t (0 : Fin 2) * 256 + 1 * a.val = T.val; omega
  | ⟨1, _⟩ => show win0_5.index t (1 : Fin 2) * 1024 + 1 * l.val = l.val; omega

theorem iblk0_apply (t : Fin cfg0.N) (a : Fin 256) (l : Fin 1024) (T : Fin 16384) (hT : T.val = 256 * t.val + a.val) :
    iblk m c 0 t (ix2 a l) = m ((c : Thread nD τ).loc main_arg0) (ix2 T l) :=
  (read0 (V m c main_arg0) t a l T hT).trans (congrFun (V_main_arg0 m c) (ix2 T l))

theorem row_apply (g : FVec Ideal S1024 .f32) (l : Fin 1024) : shapeCast S1x1024 g shapeCasts_S1024_S1x1024 (ix2 0 l) = g (ix1 l) := by
  pointwise []

theorem iblk1_apply (t : Fin cfg0.N) (l : Fin 1024) :
    iblk m c 1 t (ix2 (0 : Fin 1) l) = m ((c : Thread nD τ).loc main_arg1) (ix1 l) :=
  ((read1 (V m c main_v0) t l).trans (congrFun (V_v0 m c) (ix2 (0 : Fin 1) l))).trans (row_apply _ l)

theorem iblk2_apply (t : Fin cfg0.N) (i : Fin 1024) (f : Fin 4096) :
    iblk m c 2 t (ix2 i f) = m ((c : Thread nD τ).loc main_arg2) (ix2 i f) :=
  (read2 (V m c main_v1) t i f).trans (congrFun (V_v1 m c) (ix2 i f))

theorem iblk3_apply (t : Fin cfg0.N) (f : Fin 4096) (j : Fin 1024) :
    iblk m c 3 t (ix2 f j) = m ((c : Thread nD τ).loc main_arg3) (ix2 f j) :=
  (read3 (V m c main_v2) t f j).trans (congrFun (V_v2 m c) (ix2 f j))

/-- The kernel's result at an index. -/
theorem kernel_apply (T : Fin 16384) (d : Fin 1024) :
    (dats m 0 c).arrAt 5 cfg0.N (ix2 T d : S16384x1024.Idx) =
      ffn (fun i => m ((c : Thread nD τ).loc main_arg0) (ix2 T i)) (fun i => m ((c : Thread nD τ).loc main_arg1) (ix1 i))
        (fun i f => m ((c : Thread nD τ).loc main_arg2) (ix2 i f)) (fun f j => m ((c : Thread nD τ).loc main_arg3) (ix2 f j)) d := by
  have hN : cfg0.N = 64 := by decide
  have ht : T.val / 256 < cfg0.N := by omega
  have hT : T.val = 256 * (⟨T.val / 256, ht⟩ : Fin cfg0.N).val + (⟨T.val % 256, by omega⟩ : Fin 256).val := by
    simp only []; omega
  have e := congrFun (Cert.Kernel4Ideal.Value.blocks5 m c ⟨T.val / 256, ht⟩ (flush0_5 _)) (ix2 (⟨T.val % 256, by omega⟩ : Fin 256) d)
  rw [Cert.Kernel4Ideal.Value.flushed5] at e
  have e' : (dats m 0 c).arrAt 5 cfg0.N (((cfg0.win 5).blk ⟨T.val / 256, ht⟩).view.emb (ix2 (⟨T.val % 256, by omega⟩ : Fin 256) d)) = _ := e
  rw [emb5 _ _ d T hT] at e'
  refine e'.trans ((out_apply _ _ _ _ _ (⟨T.val % 256, by omega⟩ : Fin 256) d).trans ?_)
  simp only [iblk0_apply m c _ _ _ T hT, iblk1_apply, iblk2_apply, iblk3_apply]

end Cert.Ffn

end
-- ==== Proof.FfnRef.lean ====
/-
  The feed-forward reference of a layer before the last, at an index.
-/
module

public import proofs.«01_k».proof.Proof.Row
public import proofs.«01_k».proof.Proof.Gen.Reference4Ideal.Run
public import Idealize.ShloMosaic.Lib.IdealHost

@[expose] public section

set_option maxRecDepth 65536

noncomputable section

namespace Cert.Ffn

open Idealize.ShloMosaic Cert.Reference4Ideal Cert.Reference4Ideal.Gen Cert.Row

variable (x : FVec Ideal S16384x1024 .f32) (g : FVec Ideal S1024 .f32) (w1 : FVec Ideal S1024x4096 .f32)
  (w2 : FVec Ideal S4096x1024 .f32)

/-- The normalised rows. -/
def rNorm : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The hidden units' positive parts of normalised rows `h`. -/
def rHidden (h : FVec Ideal S16384x1024 .f32) : FVec Ideal S16384x4096 .f32 :=
  maximumf (Host.dotGeneral dot_S16384x1024_S1024x4096_S16384x4096_1_0_0_1_n_n none h w1) (broadcastInDim S16384x4096 ![] bcast_S_S16384x4096 (constant S_ .f32 0x00000000#32))

/-- The rows and what hidden units `u` add to them. -/
def rSum (u : FVec Ideal S16384x4096 .f32) : FVec Ideal S16384x1024 .f32 :=
  addf x (Host.dotGeneral dot_S16384x4096_S4096x1024_S16384x1024_1_0_0_1_n_n none (mulf u u) w2)

theorem rNorm_apply (T : Fin 16384) (d : Fin 1024) :
    rNorm x g (ix2 T d) = rms (fun i => x (ix2 T i)) (fun i => g (ix1 i)) d := by
  pointwise [rNorm, rms]

theorem rHidden_apply (h : FVec Ideal S16384x1024 .f32) (T : Fin 16384) (f : Fin 4096) :
    rHidden w1 h (ix2 T f) = max (∑ i, h (ix2 T i) * w1 (ix2 i f)) 0 := by
  pointwise [rHidden]

theorem rSum_apply (u : FVec Ideal S16384x4096 .f32) (T : Fin 16384) (d : Fin 1024) :
    rSum x w2 u (ix2 T d) = x (ix2 T d) + ∑ f, u (ix2 T f) * u (ix2 T f) * w2 (ix2 f d) := by
  pointwise [rSum]

/-- The reference at an index. -/
theorem ref_apply (T : Fin 16384) (d : Fin 1024) :
    rSum x w2 (rHidden w1 (rNorm x g)) (ix2 T d) =
      ffn (fun i => x (ix2 T i)) (fun i => g (ix1 i)) (fun i f => w1 (ix2 i f)) (fun f j => w2 (ix2 f j)) d := by
  simp only [rSum_apply, rHidden_apply, rNorm_apply]
  rfl

end Cert.Ffn

end
-- ==== Proof.MergeRow.lean ====
/-
  One row of the merge of the three branches as a function of the row, and the two sums that the kernel's weight layouts
  leave unchanged: rows of zeros beside the value lanes, and blocks of zeros beside the diagonal.
-/
module

public import proofs.«01_k».proof.Proof.Row

@[expose] public section

noncomputable section

namespace Cert.Row

open Idealize.ShloMosaic

/-- The logistic function of a row's product with a column of gate weights. -/
def gate (h w : Fin 1024 → EReal) : EReal := Ideal.div 1 (1 + Ideal.exp (-∑ i, h i * w i))

/-- A head's values are the upper 64 of its 128 lanes. -/
def values (o : Fin 1024 → EReal) (v : Fin 512) : EReal := o ⟨128 * (v.val / 64) + (64 + v.val % 64), by omega⟩

/-- The values of a head from its latent. -/
def up (o : Fin 1024 → EReal) (u : Fin 128 → Fin 512 → EReal) (v : Fin 512) : EReal :=
  ∑ l : Fin 128, o ⟨128 * (v.val / 64) + l.val, by omega⟩ * u l v

/-- The gated sum of the three branches' projections. -/
def merged (h : Fin 1024 → EReal) (wg : Fin 1024 → Fin 3072 → EReal) (va vb vc : Fin 512 → EReal)
    (wa wb wc : Fin 512 → Fin 1024 → EReal) (k : Fin 1024) : EReal :=
  gate h (fun i => wg i ⟨k.val, by omega⟩) * (∑ v, va v * wa v k) + gate h (fun i => wg i ⟨1024 + k.val, by omega⟩) * (∑ v, vb v * wb v k)
    + gate h (fun i => wg i ⟨2048 + k.val, by omega⟩) * ∑ v, vc v * wc v k

/-- A row and its merged branches. -/
def merge (x g : Fin 1024 → EReal) (wg : Fin 1024 → Fin 3072 → EReal) (oa ol oc : Fin 1024 → EReal) (u : Fin 128 → Fin 512 → EReal)
    (wa wb wc : Fin 512 → Fin 1024 → EReal) (wo : Fin 1024 → Fin 1024 → EReal) (j : Fin 1024) : EReal :=
  x j + ∑ k, merged (rms x g) wg (values oa) (up ol u) (values oc) wa wb wc k * wo k j

/-- A sum over the lanes of eight heads, head by head. -/
theorem sum_heads (k : ℕ) (F : Fin (8 * k) → EReal) :
    ∑ r, F r = ∑ h : Fin 8, ∑ l : Fin k, F ⟨k * h.val + l.val, by
      have := h.isLt; have := l.isLt; calc k * h.val + l.val < k * h.val + k := by omega
        _ = k * (h.val + 1) := by ring
        _ ≤ k * 8 := Nat.mul_le_mul_left k (by omega)
        _ = 8 * k := Nat.mul_comm k 8⟩ := by
  rw [← Fintype.sum_prod_type' (f := fun (h : Fin 8) (l : Fin k) => F ⟨k * h.val + l.val, _⟩)]
  exact (Fintype.sum_equiv finProdFinEquiv _ _ fun x => congrArg F (Fin.ext (Nat.add_comm _ _))).symm

/-- Weight rows of zeros in the lanes that hold no value add nothing. -/
theorem sum_padded (o p : Fin 1024 → EReal) (w : Fin 512 → EReal)
    (h0 : ∀ (h : Fin 8) (l : Fin 64), p ⟨128 * h.val + l.val, by omega⟩ = 0)
    (h1 : ∀ (h : Fin 8) (l : Fin 64), p ⟨128 * h.val + (64 + l.val), by omega⟩ = w ⟨64 * h.val + l.val, by omega⟩) :
    ∑ r, o r * p r = ∑ v, values o v * w v := by
  rw [show ∑ r, o r * p r = _ from sum_heads 128 fun r => o r * p r,
    show ∑ v, values o v * w v = _ from sum_heads 64 fun v => values o v * w v]
  refine Finset.sum_congr rfl fun h _ => ?_
  rw [show ∑ l : Fin 128, o ⟨128 * h.val + l.val, _⟩ * p ⟨128 * h.val + l.val, _⟩ = _ from
    Fin.sum_univ_add (a := 64) (b := 64) fun l : Fin 128 => o ⟨128 * h.val + l.val, by omega⟩ * p ⟨128 * h.val + l.val, by omega⟩]
  refine (congrArg₂ (· + ·) (Finset.sum_eq_zero fun l _ => ?_) (Finset.sum_congr rfl fun l _ => ?_)).trans (zero_add _)
  · show o _ * p ⟨128 * h.val + l.val, _⟩ = 0
    rw [h0, mul_zero]
  · show o ⟨128 * h.val + (64 + l.val), _⟩ * p ⟨128 * h.val + (64 + l.val), _⟩ = _
    rw [h1, values]
    refine congrArg (· * w _) (congrArg o (Fin.ext ?_))
    show 128 * h.val + (64 + l.val) = 128 * ((64 * h.val + l.val) / 64) + (64 + (64 * h.val + l.val) % 64)
    omega

/-- Blocks of zeros beside the diagonal add nothing. -/
theorem sum_diagonal (o p : Fin 1024 → EReal) (u : Fin 128 → Fin 512 → EReal) (v : Fin 512)
    (hp : ∀ (h : Fin 8) (l : Fin 128), p ⟨128 * h.val + l.val, by omega⟩ = u l v * if h.val = v.val / 64 then 1 else 0) :
    ∑ r, o r * p r = up o u v := by
  rw [show ∑ r, o r * p r = _ from sum_heads 128 fun r => o r * p r]
  rw [Finset.sum_eq_single (⟨v.val / 64, by omega⟩ : Fin 8)]
  · refine Finset.sum_congr rfl fun l _ => ?_
    rw [show p _ = _ from hp ⟨v.val / 64, by omega⟩ l, if_pos rfl, mul_one]
  · intro h _ hne
    refine Finset.sum_eq_zero fun l _ => ?_
    rw [show p _ = _ from hp h l, if_neg fun e => hne (Fin.ext e), mul_zero, mul_zero]
  · exact fun hn => absurd (Finset.mem_univ _) hn

end Cert.Row

end
-- ==== Proof.MergeHost.lean ====
/-
  The weights as the merge kernel's call reads them: the value up projection with its heads on the diagonal, and an output
  projection with rows of zeros in the lanes that hold no value.
-/
module

public import proofs.«01_k».proof.Proof.MergeRow
public import proofs.«01_k».proof.Proof.Gen.Kernel3Ideal.Skeleton
public import Idealize.ShloMosaic.Lib.WordCmp
public import Idealize.ShloMosaic.Lib.Pipeline.Value

@[expose] public section

set_option maxRecDepth 65536

noncomputable section

namespace Cert.Merge

open Idealize.ShloMosaic Cert.Kernel3Ideal Cert.Kernel3Ideal.Gen Cert.Row

/-- The value up projection with its heads on the diagonal. -/
def diagonal (w : FVec Ideal S128x512 .f32) : FVec Ideal S1024x512 .bf16 :=
  shapeCast S1024x512 (truncf .bf16 (shapeCast S1x1024x512 (mulf
    (broadcastInDim S1x8x128x8x64 ![0, 1, 2, 3, 4] bcast_S1x8x128x1x64_S1x8x128x8x64_0_1_2_3_4
      (broadcastInDim S1x8x128x1x64 ![0, 1, 2, 4] bcast_S1x8x128x64_S1x8x128x1x64_0_1_2_4
        (transpose S1x8x128x64 [0, 2, 1, 3] (shapeCast S1x128x8x64 (broadcastInDim S1x128x512 ![1, 2] bcast_S128x512_S1x128x512_1_2 w)
          shapeCasts_S1x128x512_S1x128x8x64) transposes_S1x128x8x64_S1x8x128x64_0_2_1_3)))
    (broadcastInDim S1x8x128x8x64 ![0, 1, 2, 3, 4] bcast_S1x8x1x8x1_S1x8x128x8x64_0_1_2_3_4
      (broadcastInDim S1x8x1x8x1 ![1, 3] bcast_S8x8_S1x8x1x8x1_1_3
        (uitofp .f32 (cmpi .eq (addi (iotaInDim S8x8 32 0) (broadcastInDim S8x8 ![] bcast_S_S8x8 (constantI S_ 32 0#32))) (iotaInDim S8x8 32 1)) : FVec Ideal S8x8 .f32))))
    shapeCasts_S1x8x128x8x64_S1x1024x512) bitsLt_bf16_f32) shapeCasts_S1x1024x512_S1024x512

/-- The identity matrix's entries. -/
theorem eye_apply (h h' : ℕ) (hh : h < 8) (hh' : h' < 8) :
    (FloatOps.uitofp FTy.f32 (IntOp.cmpi CmpIPredicate.eq (IntOp.addi (BitVec.ofNat 32 h) 0#32) (BitVec.ofNat 32 h')) : Ideal .f32)
      = if h = h' then (1 : EReal) else 0 := by
  have e : IntOp.cmpi CmpIPredicate.eq (IntOp.addi (BitVec.ofNat 32 h) 0#32) (BitVec.ofNat 32 h') = if h = h' then 1#1 else 0#1 := by
    interval_cases h <;> interval_cases h' <;> rfl
  rw [e]
  by_cases hq : h = h'
  · rw [if_pos hq, if_pos hq]
    change (((1 : ℕ) : ℝ) : EReal) = 1
    simp
  · rw [if_neg hq, if_neg hq]
    change (((0 : ℕ) : ℝ) : EReal) = 0
    simp

theorem diagonal_row (w : FVec Ideal S128x512 .f32) (r : Fin 1024) (v : Fin 512) :
    diagonal w (ix2 r v) = w (ix2 ⟨r.val % 128, by omega⟩ ⟨r.val / 128 * 64 + v.val % 64, by omega⟩) * if r.val / 128 = v.val / 64 then 1 else 0 := by
  pointwise [diagonal]
  exact congrArg (w _ * ·) (eye_apply (r.val / 128) (v.val / 64) (by omega) (by omega))

/-- A block off the diagonal is zero, one on it the head's projection. -/
theorem diagonal_apply (w : FVec Ideal S128x512 .f32) (h : Fin 8) (l : Fin 128) (v : Fin 512) :
    diagonal w (ix2 ⟨128 * h.val + l.val, by omega⟩ v) = w (ix2 l v) * if h.val = v.val / 64 then 1 else 0 := by
  have hd : (128 * h.val + l.val) / 128 = h.val := by omega
  refine (diagonal_row w _ v).trans ?_
  by_cases e : h.val = v.val / 64
  · rw [if_pos e, if_pos (hd.trans e)]
    refine congrArg (· * (1 : EReal)) (congrArg w (congrArg₂ ix2 (Fin.ext ?_) (Fin.ext ?_)))
    · show (128 * h.val + l.val) % 128 = l.val
      omega
    · show (128 * h.val + l.val) / 128 * 64 + v.val % 64 = v.val
      omega
  · rw [if_neg e, if_neg fun e' => e (hd.symm.trans e'), mul_zero, mul_zero]

/-- Sixty-four rows of zeros. -/
def zeros : FVec Ideal S1x64x1024 .f32 := broadcastInDim S1x64x1024 ![] bcast_S_S1x64x1024 (constant (F := Ideal) S_ .f32 0x00000000#32)

/-- Zeros and a head's rows in turn. -/
def pieces (w : FVec Ideal S1x512x1024 .f32) : Fin 16 → FVec Ideal S1x64x1024 .f32 :=
  ![zeros,
    extractStridedSlice S1x64x1024 ![0, 0, 0] w slices_S1x512x1024_S1x64x1024_0_0_0, zeros,
    extractStridedSlice S1x64x1024 ![0, 64, 0] w slices_S1x512x1024_S1x64x1024_0_64_0, zeros,
    extractStridedSlice S1x64x1024 ![0, 128, 0] w slices_S1x512x1024_S1x64x1024_0_128_0, zeros,
    extractStridedSlice S1x64x1024 ![0, 192, 0] w slices_S1x512x1024_S1x64x1024_0_192_0, zeros,
    extractStridedSlice S1x64x1024 ![0, 256, 0] w slices_S1x512x1024_S1x64x1024_0_256_0, zeros,
    extractStridedSlice S1x64x1024 ![0, 320, 0] w slices_S1x512x1024_S1x64x1024_0_320_0, zeros,
    extractStridedSlice S1x64x1024 ![0, 384, 0] w slices_S1x512x1024_S1x64x1024_0_384_0, zeros,
    extractStridedSlice S1x64x1024 ![0, 448, 0] w slices_S1x512x1024_S1x64x1024_0_448_0]

/-- Sixteen pieces below each other. -/
def stacked (f : Fin 16 → FVec Ideal S1x64x1024 .f32) : FVec Ideal S1x1024x1024 .f32 :=
  concatenate S1x1024x1024 1 [⟨S1x64x1024, f 0⟩, ⟨S1x64x1024, f 1⟩, ⟨S1x64x1024, f 2⟩, ⟨S1x64x1024, f 3⟩,
    ⟨S1x64x1024, f 4⟩, ⟨S1x64x1024, f 5⟩, ⟨S1x64x1024, f 6⟩, ⟨S1x64x1024, f 7⟩,
    ⟨S1x64x1024, f 8⟩, ⟨S1x64x1024, f 9⟩, ⟨S1x64x1024, f 10⟩, ⟨S1x64x1024, f 11⟩,
    ⟨S1x64x1024, f 12⟩, ⟨S1x64x1024, f 13⟩, ⟨S1x64x1024, f 14⟩, ⟨S1x64x1024, f 15⟩]
    concatenates_S1x64x1024_S1x64x1024_S1x64x1024_S1x64x1024_S1x64x1024_S1x64x1024_S1x64x1024_S1x64x1024_S1x64x1024_S1x64x1024_S1x64x1024_S1x64x1024_S1x64x1024_S1x64x1024_S1x64x1024_S1x64x1024_S1x1024x1024_d1

/-- An output projection with rows of zeros in the lanes that hold no value. -/
def padded (w : FVec Ideal S512x1024 .f32) : FVec Ideal S1024x1024 .bf16 :=
  shapeCast S1024x1024 (truncf .bf16 (stacked (pieces (broadcastInDim S1x512x1024 ![1, 2] bcast_S512x1024_S1x512x1024_1_2 w))) bitsLt_bf16_f32)
    shapeCasts_S1x1024x1024_S1024x1024

theorem stacked_apply (f : Fin 16 → FVec Ideal S1x64x1024 .f32) (n : Fin 16) (l : Fin 64) (r k : Fin 1024) (hr : r.val = 64 * n.val + l.val) :
    stacked f (ix3 0 r k) = f n (ix3 0 l k) :=
  concatenate_ofFn_apply (t := S1x1024x1024) (s₁ := S1x64x1024) 1 f _ rfl 64 rfl (ix3 0 r k) n
    (by show r.val / 64 = n.val; omega) (ix3 0 l k) (by show l.val = r.val % 64; omega)
    (fun b hb => by
      match b with
      | ⟨0, _⟩ => rfl
      | ⟨1, _⟩ => exact absurd rfl hb
      | ⟨2, _⟩ => rfl)

theorem zeros_apply (l : Fin 64) (k : Fin 1024) : zeros (ix3 0 l k) = 0 := Ideal.ofBits_zero .f32

theorem slice_apply (w : FVec Ideal S1x512x1024 .f32) (o : ℕ) (h : S1x512x1024.Slices ![0, o, 0] S1x64x1024) (l : Fin 64) (k : Fin 1024)
    (ho : o + l.val < 512) :
    extractStridedSlice S1x64x1024 ![0, o, 0] w h (ix3 0 l k) = w (ix3 0 ⟨o + l.val, ho⟩ k) := by
  refine congrArg w (funext fun x => Fin.ext ?_)
  match x with
  | ⟨0, _⟩ => rfl
  | ⟨1, _⟩ => rfl
  | ⟨2, _⟩ => exact Nat.zero_add _

theorem pieces_even (w : FVec Ideal S1x512x1024 .f32) (h : Fin 8) (l : Fin 64) (k : Fin 1024) :
    pieces w ⟨2 * h.val, by omega⟩ (ix3 0 l k) = 0 := by
  match h with
  | ⟨0, _⟩ => exact zeros_apply l k
  | ⟨1, _⟩ => exact zeros_apply l k
  | ⟨2, _⟩ => exact zeros_apply l k
  | ⟨3, _⟩ => exact zeros_apply l k
  | ⟨4, _⟩ => exact zeros_apply l k
  | ⟨5, _⟩ => exact zeros_apply l k
  | ⟨6, _⟩ => exact zeros_apply l k
  | ⟨7, _⟩ => exact zeros_apply l k

theorem pieces_odd (w : FVec Ideal S1x512x1024 .f32) (h : Fin 8) (l : Fin 64) (k : Fin 1024) :
    pieces w ⟨2 * h.val + 1, by omega⟩ (ix3 0 l k) = w (ix3 0 ⟨64 * h.val + l.val, by omega⟩ k) := by
  match h with
  | ⟨0, _⟩ => exact slice_apply w 0 slices_S1x512x1024_S1x64x1024_0_0_0 l k (by omega)
  | ⟨1, _⟩ => exact slice_apply w 64 slices_S1x512x1024_S1x64x1024_0_64_0 l k (by omega)
  | ⟨2, _⟩ => exact slice_apply w 128 slices_S1x512x1024_S1x64x1024_0_128_0 l k (by omega)
  | ⟨3, _⟩ => exact slice_apply w 192 slices_S1x512x1024_S1x64x1024_0_192_0 l k (by omega)
  | ⟨4, _⟩ => exact slice_apply w 256 slices_S1x512x1024_S1x64x1024_0_256_0 l k (by omega)
  | ⟨5, _⟩ => exact slice_apply w 320 slices_S1x512x1024_S1x64x1024_0_320_0 l k (by omega)
  | ⟨6, _⟩ => exact slice_apply w 384 slices_S1x512x1024_S1x64x1024_0_384_0 l k (by omega)
  | ⟨7, _⟩ => exact slice_apply w 448 slices_S1x512x1024_S1x64x1024_0_448_0 l k (by omega)

theorem padded_stacked (w : FVec Ideal S512x1024 .f32) (r k : Fin 1024) :
    padded w (ix2 r k) = stacked (pieces (broadcastInDim S1x512x1024 ![1, 2] bcast_S512x1024_S1x512x1024_1_2 w)) (ix3 0 r k) := by
  pointwise [padded]

theorem layer_apply (w : FVec Ideal S512x1024 .f32) (v : Fin 512) (k : Fin 1024) :
    broadcastInDim S1x512x1024 ![1, 2] bcast_S512x1024_S1x512x1024_1_2 w (ix3 0 v k) = w (ix2 v k) := by
  pointwise []

/-- The lower half of a head's lanes meets rows of zeros. -/
theorem padded_low (w : FVec Ideal S512x1024 .f32) (h : Fin 8) (l : Fin 64) (k : Fin 1024) :
    padded w (ix2 ⟨128 * h.val + l.val, by omega⟩ k) = 0 := by
  rw [padded_stacked, stacked_apply _ ⟨2 * h.val, by omega⟩ l _ k (by simp only []; omega), pieces_even]

/-- The upper half of a head's lanes meets the head's rows. -/
theorem padded_high (w : FVec Ideal S512x1024 .f32) (h : Fin 8) (l : Fin 64) (k : Fin 1024) :
    padded w (ix2 ⟨128 * h.val + (64 + l.val), by omega⟩ k) = w (ix2 ⟨64 * h.val + l.val, by omega⟩ k) := by
  rw [padded_stacked, stacked_apply _ ⟨2 * h.val + 1, by omega⟩ l _ k (by simp only []; omega), pieces_odd, layer_apply]

end Cert.Merge

end
-- ==== Proof.MergeArrays.lean ====
/-
  The arrays that the merge kernel's call reads, from the arguments.
-/
module

public import proofs.«01_k».proof.Proof.MergeHost
public import proofs.«01_k».proof.Proof.Gen.Kernel3Ideal.Value
public import Idealize.ShloMosaic.Lib.StableHlo.Run

@[expose] public section

set_option maxRecDepth 65536

noncomputable section

namespace Cert.Merge

open Idealize.ShloMosaic Idealize.ShloMosaic.TcCoe Cert.Kernel3Ideal Cert.Kernel3Ideal.Gen Cert.Row

variable (m : (ℓ : Loc nD τ sig) → Buf (Elt Ideal) ℓ) (c : Dev nD)

theorem V_v57 : V m c main_v57 = shapeCast S1x1024 (m ((c : Thread nD τ).loc main_arg1)) shapeCasts_S1024_S1x1024 := by
  unfold V hostOps0
  after_results_simp <;> rfl

theorem V_v58 : V m c main_v58 = (truncf .bf16 (m ((c : Thread nD τ).loc main_arg2)) bitsLt_bf16_f32 : FVec Ideal S1024x3072 .bf16) := by
  unfold V hostOps0
  after_results_simp <;> rfl

theorem V_v59 : V m c main_v59 = (truncf .bf16 (m ((c : Thread nD τ).loc main_arg8)) bitsLt_bf16_f32 : FVec Ideal S512x1024 .bf16) := by
  unfold V hostOps0
  after_results_simp <;> rfl

theorem V_v60 : V m c main_v60 = (truncf .bf16 (m ((c : Thread nD τ).loc main_arg10)) bitsLt_bf16_f32 : FVec Ideal S1024x1024 .bf16) := by
  unfold V hostOps0
  after_results_simp <;> rfl

theorem V_v16 : V m c main_v16 = diagonal (m ((c : Thread nD τ).loc main_arg6)) := by
  unfold V hostOps0
  after_results_simp <;> rfl

theorem V_v36 : V m c main_v36 = padded (m ((c : Thread nD τ).loc main_arg7)) := by
  unfold V hostOps0
  after_results_simp <;> rfl

theorem V_v56 : V m c main_v56 = padded (m ((c : Thread nD τ).loc main_arg9)) := by
  unfold V hostOps0
  after_results_simp <;> rfl

end Cert.Merge

end
-- ==== Proof.Merge.lean ====
/-
  The merge kernel at an index.
-/
module

public import proofs.«01_k».proof.Proof.MergeArrays

@[expose] public section

set_option maxRecDepth 65536

noncomputable section

namespace Cert.Merge

open Idealize.ShloMosaic Idealize.ShloMosaic.TcCoe Cert.Kernel3Ideal Cert.Kernel3Ideal.Gen Cert.Row

theorem zero_off : (![0, 0] : Fin 2 → ℕ) = fun _ => 0 := by
  funext a
  match a with
  | ⟨0, _⟩ => rfl
  | ⟨1, _⟩ => rfl

/-! ### The vector expressions of the body -/

section

variable (x y z p : FVec Ideal S256x1024 .f32) (h : FVec Ideal S256x1024 .bf16) (g : FVec Ideal S1x1024 .f32)
  (w v w' : FVec Ideal S1024x1024 .bf16) (o : FVec Ideal S256x512 .f32) (u : FVec Ideal S1024x512 .bf16)
  (wb : FVec Ideal S512x1024 .bf16) (a : Fin 256) (d : Fin 1024)

theorem normed_apply : k0_pay2 (F := Ideal) x g (ix2 a d) = rms (fun i => x (ix2 a i)) (fun i => g (ix2 0 i)) d := by
  pointwise [k0_pay2, rms]

theorem up_apply (d : Fin 512) : k0_pay3 (F := Ideal) x u (ix2 a d) = ∑ r, x (ix2 a r) * u (ix2 r d) := by
  pointwise [k0_pay3]

theorem gate_apply : k0_pay4 (F := Ideal) x g w (ix2 a d) =
    gate (rms (fun i => x (ix2 a i)) fun i => g (ix2 0 i)) fun i => w (ix2 i d) := by
  pointwise [k0_pay4]
  simp only [normed_apply, gate, zero_sub]

theorem branch_apply : k0_pay5 (F := Ideal) x w (ix2 a d) = ∑ r, x (ix2 a r) * w (ix2 r d) := by
  pointwise [k0_pay5]

theorem merged_apply : k0_pay7 (F := Ideal) h o x y w wb w' z v (ix2 a d) =
    x (ix2 a d) * y (ix2 a d) + gate (fun i => h (ix2 a i)) (fun i => w (ix2 i d)) * (∑ r, o (ix2 a r) * wb (ix2 r d))
      + gate (fun i => h (ix2 a i)) (fun i => w' (ix2 i d)) * ∑ r, z (ix2 a r) * v (ix2 r d) := by
  pointwise [k0_pay7]
  simp only [gate, zero_sub]

theorem added_apply : k0_pay1 (F := Ideal) x (k0_pay6 w) h (constant S256x1024 .f32 0x00000000#32) (ix2 a d) =
    x (ix2 a d) + ∑ k, h (ix2 a k) * w (ix2 k d) := by
  pointwise [k0_pay1, k0_pay6]

end

/-! ### The block that a point writes -/

section

variable (x0 x3 x4 x5 : FVec Ideal S256x1024 .f32) (x1 : FVec Ideal S1x1024 .f32) (x2 : FVec Ideal S1024x3072 .bf16)
  (x6 : FVec Ideal S1024x512 .bf16) (x7 x9 x10 : FVec Ideal S1024x1024 .bf16) (x8 : FVec Ideal S512x1024 .bf16)

theorem ld_cols (o : ℕ) (inb) (i f : Fin 1024) (f' : Fin 3072) (hf : f'.val = o + f.val) :
    View.ld (Val := Elt Ideal) (e' := .bf16) x2 (Rect.unit (s := S1024x3072) ![0, o] S1024x1024.size inb) (ix2 i f) = x2 (ix2 i f') := by
  refine congrArg x2 (funext fun x => Fin.ext ?_)
  match x with
  | ⟨0, _⟩ => show 0 + 1 * i.val = i.val; omega
  | ⟨1, _⟩ => show o + 1 * f.val = f'.val; omega

/-- The gated sum of one row of a block, with the kernel's weight layouts. -/
def blockMerged (a : Fin 256) (k : Fin 1024) : EReal :=
  let h := rms (fun i => x0 (ix2 a i)) fun i => x1 (ix2 0 i)
  gate h (fun i => x2 (ix2 i ⟨k.val, by omega⟩)) * (∑ r, x3 (ix2 a r) * x7 (ix2 r k))
    + gate h (fun i => x2 (ix2 i ⟨1024 + k.val, by omega⟩)) * (∑ v, (∑ r, x4 (ix2 a r) * x6 (ix2 r v)) * x8 (ix2 v k))
    + gate h (fun i => x2 (ix2 i ⟨2048 + k.val, by omega⟩)) * ∑ r, x5 (ix2 a r) * x9 (ix2 r k)

/-- The block that a point writes, at an index. -/
theorem out_apply (a : Fin 256) (d : Fin 1024) : out0_11 (F := Ideal) x0 x1 x2 x3 x4 x5 x6 x7 x8 x9 x10 (ix2 a d) =
    x0 (ix2 a d) + ∑ k, blockMerged x0 x3 x4 x5 x1 x2 x6 x7 x9 x8 a k * x10 (ix2 k d) := by
  unfold out0_11
  rw [View.canon_unit_zero zero_off]
  repeat rw [View.ld_unit_zero zero_off]
  rw [added_apply]
  refine congrArg (_ + ·) (Finset.sum_congr rfl fun k _ => congrArg (· * _) ?_)
  rw [merged_apply, gate_apply, branch_apply, blockMerged]
  simp only [normed_apply, up_apply]
  have e0 : ∀ i : Fin 1024, View.ld (Val := Elt Ideal) (e' := .bf16) x2 r0_3 (ix2 i k) = x2 (ix2 i ⟨k.val, by omega⟩) :=
    fun i => ld_cols x2 0 _ i k _ (Nat.zero_add _).symm
  have e1 : ∀ i : Fin 1024, View.ld (Val := Elt Ideal) (e' := .bf16) x2 r0_5 (ix2 i k) = x2 (ix2 i ⟨1024 + k.val, by omega⟩) :=
    fun i => ld_cols x2 1024 _ i k _ rfl
  have e2 : ∀ i : Fin 1024, View.ld (Val := Elt Ideal) (e' := .bf16) x2 r0_7 (ix2 i k) = x2 (ix2 i ⟨2048 + k.val, by omega⟩) :=
    fun i => ld_cols x2 2048 _ i k _ rfl
  simp only [e0, e1, e2]

end

/-! ### The arrays that the call reads, and its result -/

variable (m : (ℓ : Loc nD τ sig) → Buf (Elt Ideal) ℓ) (c : Dev nD)

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = 0 ∧ win0_6.index t (1 : Fin 2) = 0)
    ∧ (win0_7.index t (0 : Fin 2) = 0 ∧ win0_7.index t (1 : Fin 2) = 0)
    ∧ (win0_8.index t (0 : Fin 2) = 0 ∧ win0_8.index t (1 : Fin 2) = 0)
    ∧ (win0_9.index t (0 : Fin 2) = 0 ∧ win0_9.index t (1 : Fin 2) = 0)
    ∧ (win0_10.index t (0 : Fin 2) = 0 ∧ win0_10.index t (1 : Fin 2) = 0)
    ∧ (win0_11.index t (0 : Fin 2) = t.val ∧ win0_11.index t (1 : Fin 2) = 0) :=
  (by decide +kernel : ∀ t : Fin grid0.N, _)

theorem read0 (X : S16384x1024.Idx → EReal) (t : Fin cfg0.N) (a : Fin 256) (l : Fin 1024) (T : Fin 16384)
    (hT : T.val = 256 * t.val + a.val) : ((cfg0.win 0).blk t).view.read (Elt Ideal) X (ix2 a l) = X (ix2 T l) := by
  obtain ⟨⟨e0, e1⟩, -⟩ := idx_facts t
  refine congrArg X (funext fun x => Fin.ext ?_)
  match x with
  | ⟨0, _⟩ => show win0_0.index t (0 : Fin 2) * 256 + 1 * a.val = T.val; omega
  | ⟨1, _⟩ => show win0_0.index t (1 : Fin 2) * 1024 + 1 * l.val = l.val; omega

theorem read1 (X : S1x1024.Idx → EReal) (t : Fin cfg0.N) (l : Fin 1024) :
    ((cfg0.win 1).blk t).view.read (Elt Ideal) X (ix2 0 l) = X (ix2 0 l) := by
  obtain ⟨-, ⟨e0, e1⟩, -⟩ := idx_facts t
  refine congrArg X (funext fun x => Fin.ext ?_)
  match x with
  | ⟨0, _⟩ => show win0_1.index t (0 : Fin 2) * 1 + 1 * 0 = 0; omega
  | ⟨1, _⟩ => show win0_1.index t (1 : Fin 2) * 1024 + 1 * l.val = l.val; omega

theorem read2 (X : S1024x3072.Idx → EReal) (t : Fin cfg0.N) (i : Fin 1024) (j : Fin 3072) :
    ((cfg0.win 2).blk t).view.read (Elt Ideal) X (ix2 i j) = X (ix2 i j) := by
  obtain ⟨-, -, ⟨e0, e1⟩, -⟩ := idx_facts t
  refine congrArg X (funext fun x => Fin.ext ?_)
  match x with
  | ⟨0, _⟩ => show win0_2.index t (0 : Fin 2) * 1024 + 1 * i.val = i.val; omega
  | ⟨1, _⟩ => show win0_2.index t (1 : Fin 2) * 3072 + 1 * j.val = j.val; omega

theorem read3 (X : S16384x1024.Idx → EReal) (t : Fin cfg0.N) (a : Fin 256) (l : Fin 1024) (T : Fin 16384)
    (hT : T.val = 256 * t.val + a.val) : ((cfg0.win 3).blk t).view.read (Elt Ideal) X (ix2 a l) = X (ix2 T l) := by
  obtain ⟨-, -, -, ⟨e0, e1⟩, -⟩ := idx_facts t
  refine congrArg X (funext fun x => Fin.ext ?_)
  match x with
  | ⟨0, _⟩ => show win0_3.index t (0 : Fin 2) * 256 + 1 * a.val = T.val; omega
  | ⟨1, _⟩ => show win0_3.index t (1 : Fin 2) * 1024 + 1 * l.val = l.val; omega

theorem read4 (X : S16384x1024.Idx → EReal) (t : Fin cfg0.N) (a : Fin 256) (l : Fin 1024) (T : Fin 16384)
    (hT : T.val = 256 * t.val + a.val) : ((cfg0.win 4).blk t).view.read (Elt Ideal) X (ix2 a l) = X (ix2 T l) := by
  obtain ⟨-, -, -, -, ⟨e0, e1⟩, -⟩ := idx_facts t
  refine congrArg X (funext fun x => Fin.ext ?_)
  match x with
  | ⟨0, _⟩ => show win0_4.index t (0 : Fin 2) * 256 + 1 * a.val = T.val; omega
  | ⟨1, _⟩ => show win0_4.index t (1 : Fin 2) * 1024 + 1 * l.val = l.val; omega

theorem read5 (X : S16384x1024.Idx → EReal) (t : Fin cfg0.N) (a : Fin 256) (l : Fin 1024) (T : Fin 16384)
    (hT : T.val = 256 * t.val + a.val) : ((cfg0.win 5).blk t).view.read (Elt Ideal) X (ix2 a l) = X (ix2 T l) := by
  obtain ⟨-, -, -, -, -, ⟨e0, e1⟩, -⟩ := idx_facts t
  refine congrArg X (funext fun x => Fin.ext ?_)
  match x with
  | ⟨0, _⟩ => show win0_5.index t (0 : Fin 2) * 256 + 1 * a.val = T.val; omega
  | ⟨1, _⟩ => show win0_5.index t (1 : Fin 2) * 1024 + 1 * l.val = l.val; omega

theorem read6 (X : S1024x512.Idx → EReal) (t : Fin cfg0.N) (i : Fin 1024) (j : Fin 512) :
    ((cfg0.win 6).blk t).view.read (Elt Ideal) X (ix2 i j) = X (ix2 i j) := by
  obtain ⟨-, -, -, -, -, -, ⟨e0, e1⟩, -⟩ := idx_facts t
  refine congrArg X (funext fun x => Fin.ext ?_)
  match x with
  | ⟨0, _⟩ => show win0_6.index t (0 : Fin 2) * 1024 + 1 * i.val = i.val; omega
  | ⟨1, _⟩ => show win0_6.index t (1 : Fin 2) * 512 + 1 * j.val = j.val; omega

theorem read7 (X : S1024x1024.Idx → EReal) (t : Fin cfg0.N) (i : Fin 1024) (j : Fin 1024) :
    ((cfg0.win 7).blk t).view.read (Elt Ideal) X (ix2 i j) = X (ix2 i j) := by
  obtain ⟨-, -, -, -, -, -, -, ⟨e0, e1⟩, -⟩ := idx_facts t
  refine congrArg X (funext fun x => Fin.ext ?_)
  match x with
  | ⟨0, _⟩ => show win0_7.index t (0 : Fin 2) * 1024 + 1 * i.val = i.val; omega
  | ⟨1, _⟩ => show win0_7.index t (1 : Fin 2) * 1024 + 1 * j.val = j.val; omega

theorem read8 (X : S512x1024.Idx → EReal) (t : Fin cfg0.N) (i : Fin 512) (j : Fin 1024) :
    ((cfg0.win 8).blk t).view.read (Elt Ideal) X (ix2 i j) = X (ix2 i j) := by
  obtain ⟨-, -, -, -, -, -, -, -, ⟨e0, e1⟩, -⟩ := idx_facts t
  refine congrArg X (funext fun x => Fin.ext ?_)
  match x with
  | ⟨0, _⟩ => show win0_8.index t (0 : Fin 2) * 512 + 1 * i.val = i.val; omega
  | ⟨1, _⟩ => show win0_8.index t (1 : Fin 2) * 1024 + 1 * j.val = j.val; omega

theorem read9 (X : S1024x1024.Idx → EReal) (t : Fin cfg0.N) (i : Fin 1024) (j : Fin 1024) :
    ((cfg0.win 9).blk t).view.read (Elt Ideal) X (ix2 i j) = X (ix2 i j) := by
  obtain ⟨-, -, -, -, -, -, -, -, -, ⟨e0, e1⟩, -⟩ := idx_facts t
  refine congrArg X (funext fun x => Fin.ext ?_)
  match x with
  | ⟨0, _⟩ => show win0_9.index t (0 : Fin 2) * 1024 + 1 * i.val = i.val; omega
  | ⟨1, _⟩ => show win0_9.index t (1 : Fin 2) * 1024 + 1 * j.val = j.val; omega

theorem read10 (X : S1024x1024.Idx → EReal) (t : Fin cfg0.N) (i : Fin 1024) (j : Fin 1024) :
    ((cfg0.win 10).blk t).view.read (Elt Ideal) X (ix2 i j) = X (ix2 i j) := by
  obtain ⟨-, -, -, -, -, -, -, -, -, -, ⟨e0, e1⟩, -⟩ := idx_facts t
  refine congrArg X (funext fun x => Fin.ext ?_)
  match x with
  | ⟨0, _⟩ => show win0_10.index t (0 : Fin 2) * 1024 + 1 * i.val = i.val; omega
  | ⟨1, _⟩ => show win0_10.index t (1 : Fin 2) * 1024 + 1 * j.val = j.val; omega

theorem emb11 (t : Fin cfg0.N) (a : Fin 256) (l : Fin 1024) (T : Fin 16384) (hT : T.val = 256 * t.val + a.val) :
    ((cfg0.win 11).blk t).view.emb (ix2 a l) = (ix2 T l : S16384x1024.Idx) := by
  obtain ⟨-, -, -, -, -, -, -, -, -, -, -, e0, e1⟩ := idx_facts t
  refine funext fun x => Fin.ext ?_
  match x with
  | ⟨0, _⟩ => show win0_11.index t (0 : Fin 2) * 256 + 1 * a.val = T.val; omega
  | ⟨1, _⟩ => show win0_11.index t (1 : Fin 2) * 1024 + 1 * l.val = l.val; omega

theorem iblk0_apply (t : Fin cfg0.N) (a : Fin 256) (l : Fin 1024) (T : Fin 16384) (hT : T.val = 256 * t.val + a.val) :
    iblk m c 0 t (ix2 a l) = m ((c : Thread nD τ).loc main_arg0) (ix2 T l) :=
  (read0 (V m c main_arg0) t a l T hT).trans (congrFun (V_main_arg0 m c) (ix2 T l))

theorem iblk3_apply (t : Fin cfg0.N) (a : Fin 256) (l : Fin 1024) (T : Fin 16384) (hT : T.val = 256 * t.val + a.val) :
    iblk m c 3 t (ix2 a l) = m ((c : Thread nD τ).loc main_arg3) (ix2 T l) :=
  (read3 (V m c main_arg3) t a l T hT).trans (congrFun (V_main_arg3 m c) (ix2 T l))

theorem iblk4_apply (t : Fin cfg0.N) (a : Fin 256) (l : Fin 1024) (T : Fin 16384) (hT : T.val = 256 * t.val + a.val) :
    iblk m c 4 t (ix2 a l) = m ((c : Thread nD τ).loc main_arg4) (ix2 T l) :=
  (read4 (V m c main_arg4) t a l T hT).trans (congrFun (V_main_arg4 m c) (ix2 T l))

theorem iblk5_apply (t : Fin cfg0.N) (a : Fin 256) (l : Fin 1024) (T : Fin 16384) (hT : T.val = 256 * t.val + a.val) :
    iblk m c 5 t (ix2 a l) = m ((c : Thread nD τ).loc main_arg5) (ix2 T l) :=
  (read5 (V m c main_arg5) t a l T hT).trans (congrFun (V_main_arg5 m c) (ix2 T l))

theorem row_apply (g : FVec Ideal S1024 .f32) (l : Fin 1024) : shapeCast S1x1024 g shapeCasts_S1024_S1x1024 (ix2 0 l) = g (ix1 l) := by
  pointwise []

theorem iblk1_apply (t : Fin cfg0.N) (l : Fin 1024) :
    iblk m c 1 t (ix2 (0 : Fin 1) l) = m ((c : Thread nD τ).loc main_arg1) (ix1 l) :=
  ((read1 (V m c main_v57) t l).trans (congrFun (V_v57 m c) (ix2 (0 : Fin 1) l))).trans (row_apply _ l)

theorem iblk2_apply (t : Fin cfg0.N) (i : Fin 1024) (j : Fin 3072) :
    iblk m c 2 t (ix2 i j) = m ((c : Thread nD τ).loc main_arg2) (ix2 i j) :=
  (read2 (V m c main_v58) t i j).trans (congrFun (V_v58 m c) (ix2 i j))

theorem iblk6_apply (t : Fin cfg0.N) (i : Fin 1024) (j : Fin 512) :
    iblk m c 6 t (ix2 i j) = diagonal (m ((c : Thread nD τ).loc main_arg6)) (ix2 i j) :=
  (read6 (V m c main_v16) t i j).trans (congrFun (V_v16 m c) (ix2 i j))

theorem iblk7_apply (t : Fin cfg0.N) (i : Fin 1024) (j : Fin 1024) :
    iblk m c 7 t (ix2 i j) = padded (m ((c : Thread nD τ).loc main_arg7)) (ix2 i j) :=
  (read7 (V m c main_v36) t i j).trans (congrFun (V_v36 m c) (ix2 i j))

theorem iblk8_apply (t : Fin cfg0.N) (i : Fin 512) (j : Fin 1024) :
    iblk m c 8 t (ix2 i j) = m ((c : Thread nD τ).loc main_arg8) (ix2 i j) :=
  (read8 (V m c main_v59) t i j).trans (congrFun (V_v59 m c) (ix2 i j))

theorem iblk9_apply (t : Fin cfg0.N) (i : Fin 1024) (j : Fin 1024) :
    iblk m c 9 t (ix2 i j) = padded (m ((c : Thread nD τ).loc main_arg9)) (ix2 i j) :=
  (read9 (V m c main_v56) t i j).trans (congrFun (V_v56 m c) (ix2 i j))

theorem iblk10_apply (t : Fin cfg0.N) (i : Fin 1024) (j : Fin 1024) :
    iblk m c 10 t (ix2 i j) = m ((c : Thread nD τ).loc main_arg10) (ix2 i j) :=
  (read10 (V m c main_v60) t i j).trans (congrFun (V_v60 m c) (ix2 i j))

/-- The kernel's result at an index. -/
theorem kernel_apply (T : Fin 16384) (d : Fin 1024) :
    (dats m 0 c).arrAt 11 cfg0.N (ix2 T d : S16384x1024.Idx) =
      merge (fun i => m ((c : Thread nD τ).loc main_arg0) (ix2 T i)) (fun i => m ((c : Thread nD τ).loc main_arg1) (ix1 i)) (fun i f => m ((c : Thread nD τ).loc main_arg2) (ix2 i f))
        (fun r => m ((c : Thread nD τ).loc main_arg3) (ix2 T r)) (fun r => m ((c : Thread nD τ).loc main_arg4) (ix2 T r)) (fun r => m ((c : Thread nD τ).loc main_arg5) (ix2 T r))
        (fun l v => m ((c : Thread nD τ).loc main_arg6) (ix2 l v)) (fun v k => m ((c : Thread nD τ).loc main_arg7) (ix2 v k)) (fun v k => m ((c : Thread nD τ).loc main_arg8) (ix2 v k)) (fun v k => m ((c : Thread nD τ).loc main_arg9) (ix2 v k))
        (fun k j => m ((c : Thread nD τ).loc main_arg10) (ix2 k j)) d := by
  have hN : cfg0.N = 64 := by decide
  have ht : T.val / 256 < cfg0.N := by omega
  have hT : T.val = 256 * (⟨T.val / 256, ht⟩ : Fin cfg0.N).val + (⟨T.val % 256, by omega⟩ : Fin 256).val := by
    simp only []; omega
  have e := congrFun (Cert.Kernel3Ideal.Value.blocks11 m c ⟨T.val / 256, ht⟩ (flush0_11 _)) (ix2 (⟨T.val % 256, by omega⟩ : Fin 256) d)
  rw [Cert.Kernel3Ideal.Value.flushed11] at e
  have e' : (dats m 0 c).arrAt 11 cfg0.N (((cfg0.win 11).blk ⟨T.val / 256, ht⟩).view.emb (ix2 (⟨T.val % 256, by omega⟩ : Fin 256) d)) = _ := e
  rw [emb11 _ _ d T hT] at e'
  refine e'.trans ((out_apply _ _ _ _ _ _ _ _ _ _ _ (⟨T.val % 256, by omega⟩ : Fin 256) d).trans ?_)
  simp only [blockMerged, iblk0_apply m c _ _ _ T hT, iblk1_apply, iblk2_apply, iblk3_apply m c _ _ _ T hT, iblk4_apply m c _ _ _ T hT,
    iblk5_apply m c _ _ _ T hT, iblk6_apply, iblk7_apply, iblk8_apply, iblk9_apply, iblk10_apply]
  rw [merge]
  refine congrArg (fun r : EReal => _ + r) (Finset.sum_congr rfl fun k _ =>
    congrArg (fun r : EReal => r * _) ?_)
  rw [merged]
  refine congrArg₂ (fun r r' : EReal => r + r') (congrArg₂ (fun r r' : EReal => r + r') (congrArg₂ (fun r r' : EReal => r * r') rfl ?_)
    (congrArg₂ (fun r r' : EReal => r * r') rfl (Finset.sum_congr rfl fun v _ =>
      congrArg (fun r : EReal => r * _) ?_))) (congrArg₂ (fun r r' : EReal => r * r') rfl ?_)
  · exact sum_padded (fun r => m ((c : Thread nD τ).loc main_arg3) (ix2 T r)) (fun r => padded (m ((c : Thread nD τ).loc main_arg7)) (ix2 r k)) (fun v => m ((c : Thread nD τ).loc main_arg7) (ix2 v k))
      (fun h l => padded_low _ h l k) (fun h l => padded_high _ h l k)
  · exact sum_diagonal (fun r => m ((c : Thread nD τ).loc main_arg4) (ix2 T r)) (fun r => diagonal (m ((c : Thread nD τ).loc main_arg6)) (ix2 r v)) (fun l v => m ((c : Thread nD τ).loc main_arg6) (ix2 l v)) v
      (fun h l => diagonal_apply _ h l v)
  · exact sum_padded (fun r => m ((c : Thread nD τ).loc main_arg5) (ix2 T r)) (fun r => padded (m ((c : Thread nD τ).loc main_arg9)) (ix2 r k)) (fun v => m ((c : Thread nD τ).loc main_arg9) (ix2 v k))
      (fun h l => padded_low _ h l k) (fun h l => padded_high _ h l k)

end Cert.Merge

end
-- ==== Proof.MergeRef.lean ====
/-
  The merge reference at an index.
-/
module

public import proofs.«01_k».proof.Proof.MergeRow
public import proofs.«01_k».proof.Proof.Gen.Reference3Ideal.Run
public import Idealize.ShloMosaic.Lib.IdealHost

@[expose] public section

set_option maxRecDepth 65536

noncomputable section

namespace Cert.Merge

open Idealize.ShloMosaic Cert.Reference3Ideal Cert.Reference3Ideal.Gen Cert.Row

variable (x oa ol oc : FVec Ideal S16384x1024 .f32) (g : FVec Ideal S1024 .f32) (wg : FVec Ideal S1024x3072 .f32)
  (u : FVec Ideal S128x512 .f32) (wa wb wc : FVec Ideal S512x1024 .f32) (wo : FVec Ideal S1024x1024 .f32)

/-- The normalised rows. -/
def rNorm : FVec Ideal S16384x1024 .f32 :=
  mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))

/-- The gates of normalised rows `h`. -/
def rGate (h : FVec Ideal S16384x1024 .f32) : FVec Ideal S16384x3072 .f32 :=
  Host.divf (broadcastInDim S16384x3072 ![] bcast_S_S16384x3072 (constant S_ .f32 0x3F800000#32)) (addf (broadcastInDim S16384x3072 ![] bcast_S_S16384x3072 (constant S_ .f32 0x3F800000#32)) (Host.exp (Host.negf (Host.dotGeneral dot_S16384x1024_S1024x3072_S16384x3072_1_0_0_1_n_n none h wg))))

/-- The values of a branch whose heads hold them in the upper half of their lanes. -/
def rValues (o : FVec Ideal S16384x1024 .f32) : FVec Ideal S16384x512 .f32 :=
  shapeCast _ (extractStridedSlice S16384x8x64 ![0, 0, 64] (shapeCast _ o shapeCasts_S16384x1024_S16384x8x128) slices_S16384x8x128_S16384x8x64_0_0_64) shapeCasts_S16384x8x64_S16384x512

/-- The values of the latent branch. -/
def rUp : FVec Ideal S16384x512 .f32 :=
  shapeCast _ (transpose S16384x8x64 [2, 0, 1] (Host.dotGeneral dot_S128x8x64_S16384x8x128_S8x64x16384_0_2_2_0_1_1 none (shapeCast _ u shapeCasts_S128x512_S128x8x64) (shapeCast _ ol shapeCasts_S16384x1024_S16384x8x128)) transposes_S8x64x16384_S16384x8x64_2_0_1) shapeCasts_S16384x8x64_S16384x512

/-- The projection of a branch's values. -/
def rProj (v : FVec Ideal S16384x512 .f32) (w : FVec Ideal S512x1024 .f32) : FVec Ideal S16384x1024 .f32 :=
  Host.dotGeneral dot_S16384x512_S512x1024_S16384x1024_1_0_0_1_n_n none v w

/-- The gated sum of three projected branches. -/
def rMerged (s : FVec Ideal S16384x3072 .f32) (pa pb pc : FVec Ideal S16384x1024 .f32) : FVec Ideal S16384x1024 .f32 :=
  addf (addf (mulf (extractStridedSlice S16384x1024 ![0, 0] s slices_S16384x3072_S16384x1024_0_0) pa) (mulf (extractStridedSlice S16384x1024 ![0, 1024] s slices_S16384x3072_S16384x1024_0_1024) pb)) (mulf (extractStridedSlice S16384x1024 ![0, 2048] s slices_S16384x3072_S16384x1024_0_2048) pc)

/-- The rows and the output projection of `y`. -/
def rOut (y : FVec Ideal S16384x1024 .f32) : FVec Ideal S16384x1024 .f32 :=
  addf x (Host.dotGeneral dot_S16384x1024_S1024x1024_S16384x1024_1_0_0_1_n_n none y wo)

/-- The reference's result. -/
def rRes : FVec Ideal S16384x1024 .f32 :=
  rOut x wo (rMerged (rGate wg (rNorm x g)) (rProj (rValues oa) wa) (rProj (rUp ol u) wb) (rProj (rValues oc) wc))

theorem res_eq (m : (ℓ : Loc nD τ sig) → Buf (Elt Ideal) ℓ) (c : Dev nD) :
    Cert.Reference3Ideal.Value.res_main_v43 (F := Ideal) m c =
      rRes (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg1)) (m ((c.tc : Thread nD τ).loc main_arg2)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) := rfl

theorem rNorm_apply (T : Fin 16384) (d : Fin 1024) :
    rNorm x g (ix2 T d) = rms (fun i => x (ix2 T i)) (fun i => g (ix1 i)) d := by
  pointwise [rNorm, rms]

theorem rGate_apply (h : FVec Ideal S16384x1024 .f32) (T : Fin 16384) (k : Fin 3072) :
    rGate wg h (ix2 T k) = gate (fun i => h (ix2 T i)) (fun i => wg (ix2 i k)) := by
  pointwise [rGate, gate]

theorem rValues_apply (T : Fin 16384) (v : Fin 512) : rValues oa (ix2 T v) = values (fun r => oa (ix2 T r)) v := by
  pointwise [rValues, values]
  exact congrArg oa (congrArg (ix2 T) (Fin.ext (congrArg (· + _) (Nat.mul_comm _ _))))

theorem rUp_apply (T : Fin 16384) (v : Fin 512) : rUp ol u (ix2 T v) = up (fun r => ol (ix2 T r)) (fun l v => u (ix2 l v)) v := by
  pointwise [rUp, up]
  refine Finset.sum_congr rfl fun l _ => (mul_comm _ _).trans (congrArg (· * u (ix2 l v)) ?_)
  exact congrArg ol (congrArg (ix2 T) (Fin.ext (congrArg (· + _) (Nat.mul_comm _ _))))

theorem rProj_apply (v : FVec Ideal S16384x512 .f32) (w : FVec Ideal S512x1024 .f32) (T : Fin 16384) (k : Fin 1024) :
    rProj v w (ix2 T k) = ∑ i, v (ix2 T i) * w (ix2 i k) := by
  pointwise [rProj]

theorem rMerged_apply (s : FVec Ideal S16384x3072 .f32) (pa pb pc : FVec Ideal S16384x1024 .f32) (T : Fin 16384) (k : Fin 1024) :
    rMerged s pa pb pc (ix2 T k) = s (ix2 T ⟨k.val, by omega⟩) * pa (ix2 T k) + s (ix2 T ⟨1024 + k.val, by omega⟩) * pb (ix2 T k)
      + s (ix2 T ⟨2048 + k.val, by omega⟩) * pc (ix2 T k) := by
  pointwise [rMerged]

theorem rOut_apply (y : FVec Ideal S16384x1024 .f32) (T : Fin 16384) (d : Fin 1024) :
    rOut x wo y (ix2 T d) = x (ix2 T d) + ∑ k, y (ix2 T k) * wo (ix2 k d) := by
  pointwise [rOut]

/-- The reference at an index. -/
theorem ref_apply (T : Fin 16384) (d : Fin 1024) :
    rRes x oa ol oc g wg u wa wb wc wo (ix2 T d) =
      merge (fun i => x (ix2 T i)) (fun i => g (ix1 i)) (fun i f => wg (ix2 i f))
        (fun r => oa (ix2 T r)) (fun r => ol (ix2 T r)) (fun r => oc (ix2 T r))
        (fun l v => u (ix2 l v)) (fun v k => wa (ix2 v k)) (fun v k => wb (ix2 v k)) (fun v k => wc (ix2 v k))
        (fun k j => wo (ix2 k j)) d := by
  rw [rRes, rOut_apply]
  simp only [rMerged_apply, rGate_apply, rNorm_apply, rProj_apply, rValues_apply, rUp_apply]
  rfl

end Cert.Merge

end
-- ==== Proof.FfnSample.lean ====
/-
  The feed-forward kernel with the final normalisation, at an index.
-/
module

public import proofs.«01_k».proof.Proof.Row
public import proofs.«01_k».proof.Proof.Gen.Kernel5Ideal.Value
public import Idealize.ShloMosaic.Lib.StableHlo.Run

@[expose] public section

set_option maxRecDepth 65536

noncomputable section

namespace Cert.FfnSample

open Idealize.ShloMosaic Idealize.ShloMosaic.TcCoe Cert.Kernel5Ideal Cert.Kernel5Ideal.Gen Cert.Row

theorem zero_off : (![0, 0] : Fin 2 → ℕ) = fun _ => 0 := by
  funext a
  match a with
  | ⟨0, _⟩ => rfl
  | ⟨1, _⟩ => rfl

/-! ### The vector expressions of the body -/

section

variable (x y : FVec Ideal S256x1024 .f32) (h : FVec Ideal S256x1024 .bf16) (g : FVec Ideal S1x1024 .f32)
  (w v w' v' : FVec Ideal S1024x1024 .bf16) (a : Fin 256) (d : Fin 1024)

theorem normed_apply : k0_pay1 (F := Ideal) x g (ix2 a d) = rms (fun i => x (ix2 a i)) (fun i => g (ix2 0 i)) d := by
  pointwise [k0_pay1, rms]

theorem first_apply : k0_pay2 (F := Ideal) x g w v w' v' (ix2 a d) =
    x (ix2 a d) + part (rms (fun i => x (ix2 a i)) fun i => g (ix2 0 i)) (fun i f => w (ix2 i f)) (fun f j => v (ix2 f j)) d
      + part (rms (fun i => x (ix2 a i)) fun i => g (ix2 0 i)) (fun i f => w' (ix2 i f)) (fun f j => v' (ix2 f j)) d := by
  pointwise [k0_pay2]
  simp only [normed_apply]
  rfl

/-- The sum after all four parts. -/
def total : FVec Ideal S256x1024 .f32 := fun z =>
  y z + part (fun i => h (ix2 (z 0) i)) (fun i f => w (ix2 i f)) (fun f j => v (ix2 f j)) (z 1)
    + part (fun i => h (ix2 (z 0) i)) (fun i f => w' (ix2 i f)) (fun f j => v' (ix2 f j)) (z 1)

theorem last_apply : k0_pay3 (F := Ideal) h y w v w' v' g (ix2 a d) =
    rms (fun i => total y h w v w' v' (ix2 a i)) (fun i => g (ix2 0 i)) d := by
  pointwise [k0_pay3]
  rfl

end

/-! ### The block that a point writes -/

section

variable (x0 : FVec Ideal S256x1024 .f32) (x1 x4 : FVec Ideal S1x1024 .f32) (x2 : FVec Ideal S1024x4096 .bf16)
  (x3 : FVec Ideal S4096x1024 .bf16)

theorem ld_cols (o : ℕ) (inb) (i f : Fin 1024) (f' : Fin 4096) (hf : f'.val = o + f.val) :
    View.ld (Val := Elt Ideal) (e' := .bf16) x2 (Rect.unit (s := S1024x4096) ![0, o] S1024x1024.size inb) (ix2 i f) = x2 (ix2 i f') := by
  refine congrArg x2 (funext fun x => Fin.ext ?_)
  match x with
  | ⟨0, _⟩ => show 0 + 1 * i.val = i.val; omega
  | ⟨1, _⟩ => show o + 1 * f.val = f'.val; omega

theorem ld_rows (o : ℕ) (inb) (f j : Fin 1024) (f' : Fin 4096) (hf : f'.val = o + f.val) :
    View.ld (Val := Elt Ideal) (e' := .bf16) x3 (Rect.unit (s := S4096x1024) ![o, 0] S1024x1024.size inb) (ix2 f j) = x3 (ix2 f' j) := by
  refine congrArg x3 (funext fun x => Fin.ext ?_)
  match x with
  | ⟨0, _⟩ => show o + 1 * f.val = f'.val; omega
  | ⟨1, _⟩ => show 0 + 1 * j.val = j.val; omega

/-- The block that a point writes, at an index. -/
theorem out_apply (a : Fin 256) (d : Fin 1024) : out0_5 (F := Ideal) x0 x1 x2 x3 x4 (ix2 a d) =
    rms (ffn (fun i => x0 (ix2 a i)) (fun i => x1 (ix2 0 i)) (fun i f => x2 (ix2 i f)) fun f j => x3 (ix2 f j))
      (fun i => x4 (ix2 0 i)) d := by
  unfold out0_5
  rw [View.canon_unit_zero zero_off, View.ld_unit_zero zero_off, View.ld_unit_zero zero_off, View.ld_unit_zero zero_off, last_apply]
  congr 1
  funext j
  change k0_pay2 (F := Ideal) _ _ _ _ _ _ (ix2 a j) + part (fun i => k0_pay1 (F := Ideal) _ _ (ix2 a i)) _ _ j
    + part (fun i => k0_pay1 (F := Ideal) _ _ (ix2 a i)) _ _ j = _
  simp only [first_apply, normed_apply]
  rw [← ffn_parts]
  congr 1
  · congr 1
    · congr 1
      · congr 1
        congr 1
        · funext i f; exact ld_cols x2 0 _ i f _ (Nat.zero_add _).symm
        · funext f j; exact ld_rows x3 0 _ f j _ (Nat.zero_add _).symm
      · congr 1
        · funext i f; exact ld_cols x2 1024 _ i f _ rfl
        · funext f j; exact ld_rows x3 1024 _ f j _ rfl
    · congr 1
      · funext i f; exact ld_cols x2 2048 _ i f _ rfl
      · funext f j; exact ld_rows x3 2048 _ f j _ rfl
  · congr 1
    · funext i f; exact ld_cols x2 3072 _ i f _ rfl
    · funext f j; exact ld_rows x3 3072 _ f j _ rfl

end

/-! ### The arrays that the call reads, and its result -/

variable (m : (ℓ : Loc nD τ sig) → Buf (Elt Ideal) ℓ) (c : Dev nD)

theorem V_v0 : V m c main_v0 = shapeCast S1x1024 (m ((c : Thread nD τ).loc main_arg1)) shapeCasts_S1024_S1x1024 := by
  unfold V hostOps0
  after_results_simp <;> rfl

theorem V_v1 : V m c main_v1 = (truncf .bf16 (m ((c : Thread nD τ).loc main_arg2)) bitsLt_bf16_f32 : FVec Ideal S1024x4096 .bf16) := by
  unfold V hostOps0
  after_results_simp <;> rfl

theorem V_v2 : V m c main_v2 = (truncf .bf16 (m ((c : Thread nD τ).loc main_arg3)) bitsLt_bf16_f32 : FVec Ideal S4096x1024 .bf16) := by
  unfold V hostOps0
  after_results_simp <;> rfl

theorem V_v3 : V m c main_v3 = shapeCast S1x1024 (m ((c : Thread nD τ).loc main_arg4)) shapeCasts_S1024_S1x1024 := by
  unfold V hostOps0
  after_results_simp <;> rfl

theorem idx_facts : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0) :=
  (by decide +kernel : ∀ t : Fin grid0.N, _)

theorem read0 (X : S1024x1024.Idx → EReal) (t : Fin cfg0.N) (a : Fin 256) (l : Fin 1024) (T : Fin 1024)
    (hT : T.val = 256 * t.val + a.val) : ((cfg0.win 0).blk t).view.read (Elt Ideal) X (ix2 a l) = X (ix2 T l) := by
  obtain ⟨⟨e0, e1⟩, -⟩ := idx_facts t
  refine congrArg X (funext fun x => Fin.ext ?_)
  match x with
  | ⟨0, _⟩ => show win0_0.index t (0 : Fin 2) * 256 + 1 * a.val = T.val; omega
  | ⟨1, _⟩ => show win0_0.index t (1 : Fin 2) * 1024 + 1 * l.val = l.val; omega

theorem read1 (X : S1x1024.Idx → EReal) (t : Fin cfg0.N) (l : Fin 1024) :
    ((cfg0.win 1).blk t).view.read (Elt Ideal) X (ix2 0 l) = X (ix2 0 l) := by
  obtain ⟨-, ⟨e0, e1⟩, -⟩ := idx_facts t
  refine congrArg X (funext fun x => Fin.ext ?_)
  match x with
  | ⟨0, _⟩ => show win0_1.index t (0 : Fin 2) * 1 + 1 * 0 = 0; omega
  | ⟨1, _⟩ => show win0_1.index t (1 : Fin 2) * 1024 + 1 * l.val = l.val; omega

theorem read2 (X : S1024x4096.Idx → EReal) (t : Fin cfg0.N) (i : Fin 1024) (f : Fin 4096) :
    ((cfg0.win 2).blk t).view.read (Elt Ideal) X (ix2 i f) = X (ix2 i f) := by
  obtain ⟨-, -, ⟨e0, e1⟩, -⟩ := idx_facts t
  refine congrArg X (funext fun x => Fin.ext ?_)
  match x with
  | ⟨0, _⟩ => show win0_2.index t (0 : Fin 2) * 1024 + 1 * i.val = i.val; omega
  | ⟨1, _⟩ => show win0_2.index t (1 : Fin 2) * 4096 + 1 * f.val = f.val; omega

theorem read3 (X : S4096x1024.Idx → EReal) (t : Fin cfg0.N) (f : Fin 4096) (j : Fin 1024) :
    ((cfg0.win 3).blk t).view.read (Elt Ideal) X (ix2 f j) = X (ix2 f j) := by
  obtain ⟨-, -, -, ⟨e0, e1⟩, -⟩ := idx_facts t
  refine congrArg X (funext fun x => Fin.ext ?_)
  match x with
  | ⟨0, _⟩ => show win0_3.index t (0 : Fin 2) * 4096 + 1 * f.val = f.val; omega
  | ⟨1, _⟩ => show win0_3.index t (1 : Fin 2) * 1024 + 1 * j.val = j.val; omega

theorem read4 (X : S1x1024.Idx → EReal) (t : Fin cfg0.N) (l : Fin 1024) :
    ((cfg0.win 4).blk t).view.read (Elt Ideal) X (ix2 0 l) = X (ix2 0 l) := by
  obtain ⟨-, -, -, -, ⟨e0, e1⟩, -⟩ := idx_facts t
  refine congrArg X (funext fun x => Fin.ext ?_)
  match x with
  | ⟨0, _⟩ => show win0_4.index t (0 : Fin 2) * 1 + 1 * 0 = 0; omega
  | ⟨1, _⟩ => show win0_4.index t (1 : Fin 2) * 1024 + 1 * l.val = l.val; omega

theorem emb5 (t : Fin cfg0.N) (a : Fin 256) (l : Fin 1024) (T : Fin 1024) (hT : T.val = 256 * t.val + a.val) :
    ((cfg0.win 5).blk t).view.emb (ix2 a l) = (ix2 T l : S1024x1024.Idx) := by
  obtain ⟨-, -, -, -, -, e0, e1⟩ := idx_facts t
  refine funext fun x => Fin.ext ?_
  match x with
  | ⟨0, _⟩ => show win0_5.index t (0 : Fin 2) * 256 + 1 * a.val = T.val; omega
  | ⟨1, _⟩ => show win0_5.index t (1 : Fin 2) * 1024 + 1 * l.val = l.val; omega

theorem iblk0_apply (t : Fin cfg0.N) (a : Fin 256) (l : Fin 1024) (T : Fin 1024) (hT : T.val = 256 * t.val + a.val) :
    iblk m c 0 t (ix2 a l) = m ((c : Thread nD τ).loc main_arg0) (ix2 T l) :=
  (read0 (V m c main_arg0) t a l T hT).trans (congrFun (V_main_arg0 m c) (ix2 T l))

theorem row_apply (g : FVec Ideal S1024 .f32) (l : Fin 1024) : shapeCast S1x1024 g shapeCasts_S1024_S1x1024 (ix2 0 l) = g (ix1 l) := by
  pointwise []

theorem iblk1_apply (t : Fin cfg0.N) (l : Fin 1024) :
    iblk m c 1 t (ix2 (0 : Fin 1) l) = m ((c : Thread nD τ).loc main_arg1) (ix1 l) :=
  ((read1 (V m c main_v0) t l).trans (congrFun (V_v0 m c) (ix2 (0 : Fin 1) l))).trans (row_apply _ l)

theorem iblk2_apply (t : Fin cfg0.N) (i : Fin 1024) (f : Fin 4096) :
    iblk m c 2 t (ix2 i f) = m ((c : Thread nD τ).loc main_arg2) (ix2 i f) :=
  (read2 (V m c main_v1) t i f).trans (congrFun (V_v1 m c) (ix2 i f))

theorem iblk3_apply (t : Fin cfg0.N) (f : Fin 4096) (j : Fin 1024) :
    iblk m c 3 t (ix2 f j) = m ((c : Thread nD τ).loc main_arg3) (ix2 f j) :=
  (read3 (V m c main_v2) t f j).trans (congrFun (V_v2 m c) (ix2 f j))

theorem iblk4_apply (t : Fin cfg0.N) (l : Fin 1024) :
    iblk m c 4 t (ix2 (0 : Fin 1) l) = m ((c : Thread nD τ).loc main_arg4) (ix1 l) :=
  ((read4 (V m c main_v3) t l).trans (congrFun (V_v3 m c) (ix2 (0 : Fin 1) l))).trans (row_apply _ l)

/-- The kernel's result at an index. -/
theorem kernel_apply (T : Fin 1024) (d : Fin 1024) :
    (dats m 0 c).arrAt 5 cfg0.N (ix2 T d : S1024x1024.Idx) =
      rms (ffn (fun i => m ((c : Thread nD τ).loc main_arg0) (ix2 T i)) (fun i => m ((c : Thread nD τ).loc main_arg1) (ix1 i))
        (fun i f => m ((c : Thread nD τ).loc main_arg2) (ix2 i f)) fun f j => m ((c : Thread nD τ).loc main_arg3) (ix2 f j))
        (fun i => m ((c : Thread nD τ).loc main_arg4) (ix1 i)) d := by
  have hN : cfg0.N = 4 := by decide
  have ht : T.val / 256 < cfg0.N := by omega
  have hT : T.val = 256 * (⟨T.val / 256, ht⟩ : Fin cfg0.N).val + (⟨T.val % 256, by omega⟩ : Fin 256).val := by
    simp only []; omega
  have e := congrFun (Cert.Kernel5Ideal.Value.blocks5 m c ⟨T.val / 256, ht⟩ (flush0_5 _)) (ix2 (⟨T.val % 256, by omega⟩ : Fin 256) d)
  rw [Cert.Kernel5Ideal.Value.flushed5] at e
  have e' : (dats m 0 c).arrAt 5 cfg0.N (((cfg0.win 5).blk ⟨T.val / 256, ht⟩).view.emb (ix2 (⟨T.val % 256, by omega⟩ : Fin 256) d)) = _ := e
  rw [emb5 _ _ d T hT] at e'
  refine e'.trans ((out_apply _ _ _ _ _ (⟨T.val % 256, by omega⟩ : Fin 256) d).trans ?_)
  simp only [iblk0_apply m c _ _ _ T hT, iblk1_apply, iblk2_apply, iblk3_apply, iblk4_apply]

end Cert.FfnSample

end
-- ==== Proof.FfnSampleRef.lean ====
/-
  The feed-forward reference with the final normalisation, at an index.
-/
module

public import proofs.«01_k».proof.Proof.Row
public import proofs.«01_k».proof.Proof.Gen.Reference5Ideal.Run
public import Idealize.ShloMosaic.Lib.IdealHost

@[expose] public section

set_option maxRecDepth 65536

noncomputable section

namespace Cert.FfnSample

open Idealize.ShloMosaic Cert.Reference5Ideal Cert.Reference5Ideal.Gen Cert.Row

variable (x : FVec Ideal S1024x1024 .f32) (g gf : FVec Ideal S1024 .f32) (w1 : FVec Ideal S1024x4096 .f32)
  (w2 : FVec Ideal S4096x1024 .f32)

/-- The normalised rows. -/
def rNorm : FVec Ideal S1024x1024 .f32 :=
  mulf (mulf x (broadcastInDim S1024x1024 ![0, 1] bcast_S1024x1_S1024x1024_0_1 (Host.rsqrt (addf (Host.divf (broadcastInDim S1024x1 ![0] bcast_S1024_S1024x1_0 (Host.reduceAdd (mulf x x) (constant S_ .f32 0x00000000#32) reducesTo_S1024x1024_S1024_d1 h_S_)) (broadcastInDim S1024x1 ![] bcast_S_S1024x1 (constant S_ .f32 0x44800000#32))) (broadcastInDim S1024x1 ![] bcast_S_S1024x1 (constant S_ .f32 0x358637BD#32)))))) (broadcastInDim S1024x1024 ![0, 1] bcast_S1x1024_S1024x1024_0_1 (broadcastInDim S1x1024 ![1] bcast_S1024_S1x1024_1 g))

/-- The hidden units' positive parts of normalised rows `h`. -/
def rHidden (h : FVec Ideal S1024x1024 .f32) : FVec Ideal S1024x4096 .f32 :=
  maximumf (Host.dotGeneral dot_S1024x1024_S1024x4096_S1024x4096_1_0_0_1_n_n none h w1) (broadcastInDim S1024x4096 ![] bcast_S_S1024x4096 (constant S_ .f32 0x00000000#32))

/-- The rows and what hidden units `u` add to them. -/
def rSum (u : FVec Ideal S1024x4096 .f32) : FVec Ideal S1024x1024 .f32 :=
  addf x (Host.dotGeneral dot_S1024x4096_S4096x1024_S1024x1024_1_0_0_1_n_n none (mulf u u) w2)

theorem res_eq (m : (ℓ : Loc nD τ sig) → Buf (Elt Ideal) ℓ) (c : Dev nD) :
    Cert.Reference5Ideal.Value.res_main_v30 (F := Ideal) m c =
      rNorm (rSum (m ((c.tc : Thread nD τ).loc main_arg0)) (m ((c.tc : Thread nD τ).loc main_arg3))
        (rHidden (m ((c.tc : Thread nD τ).loc main_arg2)) (rNorm (m ((c.tc : Thread nD τ).loc main_arg0)) (m ((c.tc : Thread nD τ).loc main_arg1)))))
        (m ((c.tc : Thread nD τ).loc main_arg4)) := rfl

theorem rNorm_apply (T : Fin 1024) (d : Fin 1024) :
    rNorm x g (ix2 T d) = rms (fun i => x (ix2 T i)) (fun i => g (ix1 i)) d := by
  pointwise [rNorm, rms]

theorem rHidden_apply (h : FVec Ideal S1024x1024 .f32) (T : Fin 1024) (f : Fin 4096) :
    rHidden w1 h (ix2 T f) = max (∑ i, h (ix2 T i) * w1 (ix2 i f)) 0 := by
  pointwise [rHidden]

theorem rSum_apply (u : FVec Ideal S1024x4096 .f32) (T : Fin 1024) (d : Fin 1024) :
    rSum x w2 u (ix2 T d) = x (ix2 T d) + ∑ f, u (ix2 T f) * u (ix2 T f) * w2 (ix2 f d) := by
  pointwise [rSum]

/-- The reference at an index. -/
theorem ref_apply (T : Fin 1024) (d : Fin 1024) :
    rNorm (rSum x w2 (rHidden w1 (rNorm x g))) gf (ix2 T d) =
      rms (ffn (fun i => x (ix2 T i)) (fun i => g (ix1 i)) (fun i f => w1 (ix2 i f)) fun f j => w2 (ix2 f j))
        (fun i => gf (ix1 i)) d := by
  rw [rNorm_apply]
  simp only [rSum_apply, rHidden_apply, rNorm_apply]
  rfl

end Cert.FfnSample

end
-- ==== Proof.ProjRow.lean ====
/-
  One row of the input projection: a column of the projected row, the rotary embedding of a head's lanes and the
  normalisation of a group of 128 lanes.
-/
module

public import proofs.«01_k».proof.Proof.Row

@[expose] public section

noncomputable section

namespace Cert.Proj

open Idealize.ShloMosaic Cert.Row

/-- The frequency of a pair of lanes: the base to the power `-2 i / n`, `n` given by its bits. -/
def freq (n : BitVec 32) (i : ℕ) : EReal :=
  Ideal.pow (Ideal.ofBits FTy.f32 0x48F42400#32)
    (Ideal.div (Ideal.ofBits FTy.f32 0xC0000000#32 * FloatOps.sitofp (F := Ideal) FTy.f32 (BitVec.ofNat 32 i)) (Ideal.ofBits FTy.f32 n))

/-- The angle of a position and a pair of lanes. -/
def ang (n : BitVec 32) (t i : ℕ) : EReal :=
  FloatOps.sitofp (F := Ideal) FTy.f32 (BitVec.ofNat 32 t) * freq n i

/-- The rotary embedding of the first `2 h` lanes, each of the first `h` paired with the one `h` further. -/
def rope (h : ℕ) (n : BitVec 32) (z : ℕ → EReal) (t d : ℕ) : EReal :=
  if d < h then z d * Ideal.cos (ang n t d) - z (d + h) * Ideal.sin (ang n t d)
  else if d < 2 * h then z d * Ideal.cos (ang n t (d - h)) + z (d - h) * Ideal.sin (ang n t (d - h))
  else z d

/-- A column of the projected row. -/
def proj (x g : Fin 1024 → EReal) (w : Fin 1024 → Fin 2104 → EReal) (c : ℕ) : EReal :=
  if h : c < 2104 then ∑ f, rms x g f * w f ⟨c, h⟩ else 0

/-- 128 lanes over the root of their mean square, with a gain for each lane. -/
def rmsLanes (x : ℕ → EReal) (g : Fin 128 → EReal) (i : Fin 128) : EReal :=
  x i * Ideal.rsqrt (Ideal.div (∑ j : Fin 128, x j * x j) (Ideal.ofBits .f32 0x43000000#32) + Ideal.ofBits .f32 0x358637BD#32) * g i

/-- A gate: one over one and the exponential of its negative. -/
def gateOf (z : EReal) : EReal := Ideal.div 1 (1 + Ideal.exp (-z))

/-- The gate of zero is one half, which the bits `0x3F000000` name. -/
theorem gateOf_zero : gateOf 0 = Ideal.ofBits .f32 0x3F000000#32 := by
  have e : Ideal.exp (-0) = ((1 : ℝ) : EReal) := by
    rw [neg_zero, ← EReal.coe_zero]
    show ((Real.exp 0 : ℝ) : EReal) = _
    rw [Real.exp_zero]
  have e' : (1 : EReal) + ((1 : ℝ) : EReal) = ((2 : ℝ) : EReal) := by
    rw [← EReal.coe_one, ← EReal.coe_add]
    norm_num
  rw [gateOf, e, e', Ideal.div_coe (by norm_num), one_mul]
  simp [Ideal.ofBits, Ideal.ieee, -EReal.coe_mul]; norm_num

/-- The sixteen rotated lanes of a head, with the cosine and the signed sine as a table gives them at every lane. -/
theorem rope_table8 (n : BitVec 32) (z : ℕ → EReal) (t d : ℕ) (hd : d < 64) :
    z d * (if d % 64 < 16 then Ideal.cos (ang n t (d % 8)) else 1)
      + (if d % 64 < 8 then z (d + 8) else z (d - 8))
        * (if d % 64 < 8 then -Ideal.sin (ang n t (d % 8)) else if d % 64 < 16 then Ideal.sin (ang n t (d % 8)) else 0)
      = rope 8 n z t d := by
  have e : d % 64 = d := Nat.mod_eq_of_lt hd
  rw [e, rope]
  by_cases h : d < 8
  · have e' : d % 8 = d := Nat.mod_eq_of_lt h
    simp only [h, show d < 16 by omega, if_true, e', mul_neg, sub_eq_add_neg]
  · by_cases h' : d < 16
    · have e' : d % 8 = d - 8 := by omega
      simp only [h, h', show d < 2 * 8 by omega, if_true, if_false, e']
    · simp only [h, h', show ¬ d < 2 * 8 by omega, if_false, mul_one, mul_zero, add_zero]

theorem rope_table16 (n : BitVec 32) (z : ℕ → EReal) (t d : ℕ) (hd : d < 32) :
    z d * Ideal.cos (ang n t (d % 16))
      + (if d % 32 < 16 then z (d + 16) else z (d - 16))
        * (if d % 32 < 16 then -Ideal.sin (ang n t (d % 16)) else Ideal.sin (ang n t (d % 16)))
      = rope 16 n z t d := by
  have e : d % 32 = d := Nat.mod_eq_of_lt hd
  rw [e, rope]
  by_cases h : d < 16
  · have e' : d % 16 = d := Nat.mod_eq_of_lt h
    simp only [h, if_true, e', mul_neg, sub_eq_add_neg]
  · have e' : d % 16 = d - 16 := by omega
    simp only [h, show d < 2 * 16 by omega, if_true, if_false, e']

end Cert.Proj

end
-- ==== Proof.ProjHost.lean ====
/-
  The tables and the columns of weights as the projection kernel's call reads them.
-/
module

public import proofs.«01_k».proof.Proof.ProjRow
public import proofs.«01_k».proof.Proof.Gen.Kernel6Ideal
public import Idealize.ShloMosaic.Lib.WordCmp
public import Idealize.ShloMosaic.Lib.Routing.OpsSearch

@[expose] public section

set_option maxRecDepth 65536

noncomputable section

namespace Cert.Proj

open Idealize.ShloMosaic Cert.Kernel6Ideal Cert.Kernel6Ideal.Gen Cert.Row

/-! ### The tables of the rotary embedding -/

/-- The frequencies for sixteen lanes. -/
def freqA : FVec Ideal S8 .f32 :=
  Host.powf (broadcastInDim S8 ![] bcast_S_S8 (constant S_ .f32 0x48F42400#32))
    (Host.divf (mulf (broadcastInDim S8 ![] bcast_S_S8 (constant S_ .f32 0xC0000000#32)) (sitofp .f32 (iotaInDim S8 32 0)))
      (broadcastInDim S8 ![] bcast_S_S8 (constant S_ .f32 0x41800000#32)))

/-- The frequencies for thirty-two lanes. -/
def freqB : FVec Ideal S16 .f32 :=
  Host.powf (broadcastInDim S16 ![] bcast_S_S16 (constant S_ .f32 0x48F42400#32))
    (Host.divf (mulf (broadcastInDim S16 ![] bcast_S_S16 (constant S_ .f32 0xC0000000#32)) (sitofp .f32 (iotaInDim S16 32 0)))
      (broadcastInDim S16 ![] bcast_S_S16 (constant S_ .f32 0x42000000#32)))

/-- The frequency's index at a lane. -/
def indexA : IVec S128 32 :=
  select (cmpi .slt (fun i => lit0 (S128.rowMajor i)) (broadcastInDim S128 ![] bcast_S_S128 (constantI S_ 32 0#32)))
    (addi (fun i => lit0 (S128.rowMajor i)) (broadcastInDim S128 ![] bcast_S_S128 (constantI S_ 32 8#32)))
    (fun i => lit0 (S128.rowMajor i))

def indexB : IVec S128 32 :=
  select (cmpi .slt (fun i => lit4 (S128.rowMajor i)) (broadcastInDim S128 ![] bcast_S_S128 (constantI S_ 32 0#32)))
    (addi (fun i => lit4 (S128.rowMajor i)) (broadcastInDim S128 ![] bcast_S_S128 (constantI S_ 32 16#32)))
    (fun i => lit4 (S128.rowMajor i))

/-- The angles of the positions with a lane's frequency `f`. -/
def angles (f : FVec Ideal S128 .f32) : FVec Ideal S4096x128 .f32 :=
  mulf (broadcastInDim S4096x128 ![0, 1] bcast_S4096x1_S4096x128_0_1
      (broadcastInDim S4096x1 ![0] bcast_S4096_S4096x1_0 (sitofp .f32 (iotaInDim S4096 32 0))))
    (broadcastInDim S4096x128 ![0, 1] bcast_S1x128_S4096x128_0_1 (broadcastInDim S1x128 ![1] bcast_S128_S1x128_1 f))

def angA : FVec Ideal S4096x128 .f32 :=
  angles (Host.gather gather_S8_S128x1_S128_n_0_n_n_0_1_1 freqA (broadcastInDim S128x1 ![0] bcast_S128_S128x1_0 indexA))

def angB : FVec Ideal S4096x128 .f32 :=
  angles (Host.gather gather_S16_S128x1_S128_n_0_n_n_0_1_1 freqB (broadcastInDim S128x1 ![0] bcast_S128_S128x1_0 indexB))

def cosTab (k : IVec S128 1) (a : FVec Ideal S4096x128 .f32) : FVec Ideal S4096x128 .f32 :=
  select (broadcastInDim S4096x128 ![1] bcast_S128_S4096x128_1 k) (Host.cos a)
    (broadcastInDim S4096x128 ![] bcast_S_S4096x128 (constant S_ .f32 0x3F800000#32))

def sinTab (k k' : IVec S128 1) (a : FVec Ideal S4096x128 .f32) : FVec Ideal S4096x128 .f32 :=
  select (broadcastInDim S4096x128 ![1] bcast_S128_S4096x128_1 k) (Host.negf (Host.sin a))
    (select (broadcastInDim S4096x128 ![1] bcast_S128_S4096x128_1 k') (Host.sin a)
      (broadcastInDim S4096x128 ![] bcast_S_S4096x128 (constant S_ .f32 0x00000000#32)))

def cosA : FVec Ideal S4096x128 .f32 := cosTab (fun i => lit1 (S128.rowMajor i)) angA
def sinA : FVec Ideal S4096x128 .f32 := sinTab (fun i => lit2 (S128.rowMajor i)) (fun i => lit3 (S128.rowMajor i)) angA
def cosB : FVec Ideal S4096x128 .f32 := cosTab (constantI S128 1 1#1) angB
def sinB : FVec Ideal S4096x128 .f32 := sinTab (fun i => lit5 (S128.rowMajor i)) (constantI S128 1 1#1) angB

theorem indexA_apply : ∀ d : Fin 128, indexA (ix1 d) = BitVec.ofNat 32 (d.val % 8) := by decide +kernel
theorem indexB_apply : ∀ d : Fin 128, indexB (ix1 d) = BitVec.ofNat 32 (d.val % 16) := by decide +kernel

theorem mask1_apply : ∀ d : Fin 128, lit1 (S128.rowMajor (ix1 d)) = if d.val % 64 < 16 then 1#1 else 0#1 := by decide +kernel
theorem mask2_apply : ∀ d : Fin 128, lit2 (S128.rowMajor (ix1 d)) = if d.val % 64 < 8 then 1#1 else 0#1 := by decide +kernel
theorem mask3_apply : ∀ d : Fin 128, lit3 (S128.rowMajor (ix1 d)) = if d.val % 64 < 16 then 1#1 else 0#1 := by decide +kernel
theorem mask5_apply : ∀ d : Fin 128, lit5 (S128.rowMajor (ix1 d)) = if d.val % 32 < 16 then 1#1 else 0#1 := by decide +kernel

theorem freqA_apply (i : Fin 8) : freqA (ix1 i) = freq 0x41800000#32 i.val := by
  pointwise [freqA]
  rfl

theorem freqB_apply (i : Fin 16) : freqB (ix1 i) = freq 0x42000000#32 i.val := by
  pointwise [freqB]
  rfl

theorem angles_apply (f : FVec Ideal S128 .f32) (t : Fin 4096) (d : Fin 128) :
    angles f (ix2 t d) = FloatOps.sitofp (F := Ideal) FTy.f32 (BitVec.ofNat 32 t.val) * f (ix1 d) := by
  pointwise [angles]

theorem cosTab_apply (k : IVec S128 1) (a : FVec Ideal S4096x128 .f32) (t : Fin 4096) (d : Fin 128) :
    cosTab k a (ix2 t d) = Scalar.select (k (ix1 d)) (Ideal.cos (a (ix2 t d))) 1 := by
  pointwise [cosTab]

theorem sinTab_apply (k k' : IVec S128 1) (a : FVec Ideal S4096x128 .f32) (t : Fin 4096) (d : Fin 128) :
    sinTab k k' a (ix2 t d)
      = Scalar.select (k (ix1 d)) (-Ideal.sin (a (ix2 t d))) (Scalar.select (k' (ix1 d)) (Ideal.sin (a (ix2 t d))) 0) := by
  pointwise [sinTab]

theorem gatherA_apply (d : Fin 128) :
    Host.gather gather_S8_S128x1_S128_n_0_n_n_0_1_1 freqA (broadcastInDim S128x1 ![0] bcast_S128_S128x1_0 indexA) (ix1 d)
      = freqA (ix1 ⟨d.val % 8, by omega⟩) := by
  refine Routing.take_ap gather_S8_S128x1_S128_n_0_n_n_0_1_1 rfl rfl rfl rfl freqA _ d (k := d.val % 8) (by omega) (by omega) ?_
  rw [← indexA_apply d]
  pointwise []

theorem gatherB_apply (d : Fin 128) :
    Host.gather gather_S16_S128x1_S128_n_0_n_n_0_1_1 freqB (broadcastInDim S128x1 ![0] bcast_S128_S128x1_0 indexB) (ix1 d)
      = freqB (ix1 ⟨d.val % 16, by omega⟩) := by
  refine Routing.take_ap gather_S16_S128x1_S128_n_0_n_n_0_1_1 rfl rfl rfl rfl freqB _ d (k := d.val % 16) (by omega) (by omega) ?_
  rw [← indexB_apply d]
  pointwise []

theorem angA_apply (t : Fin 4096) (d : Fin 128) : angA (ix2 t d) = ang 0x41800000#32 t.val (d.val % 8) := by
  rw [angA, angles_apply, gatherA_apply, freqA_apply]; rfl

theorem angB_apply (t : Fin 4096) (d : Fin 128) : angB (ix2 t d) = ang 0x42000000#32 t.val (d.val % 16) := by
  rw [angB, angles_apply, gatherB_apply, freqB_apply]; rfl

theorem cosA_apply (t : Fin 4096) (d : Fin 128) :
    cosA (ix2 t d) = if d.val % 64 < 16 then Ideal.cos (ang 0x41800000#32 t.val (d.val % 8)) else 1 := by
  rw [cosA, cosTab_apply, mask1_apply, angA_apply]
  split <;> rfl

theorem sinA_apply (t : Fin 4096) (d : Fin 128) :
    sinA (ix2 t d) = if d.val % 64 < 8 then -Ideal.sin (ang 0x41800000#32 t.val (d.val % 8))
      else if d.val % 64 < 16 then Ideal.sin (ang 0x41800000#32 t.val (d.val % 8)) else 0 := by
  rw [sinA, sinTab_apply, mask2_apply, mask3_apply, angA_apply]
  split
  · rfl
  · split <;> rfl

theorem cosB_apply (t : Fin 4096) (d : Fin 128) :
    cosB (ix2 t d) = Ideal.cos (ang 0x42000000#32 t.val (d.val % 16)) := by
  rw [cosB, cosTab_apply, angB_apply]; rfl

theorem sinB_apply (t : Fin 4096) (d : Fin 128) :
    sinB (ix2 t d) = if d.val % 32 < 16 then -Ideal.sin (ang 0x42000000#32 t.val (d.val % 16))
      else Ideal.sin (ang 0x42000000#32 t.val (d.val % 16)) := by
  rw [sinB, sinTab_apply, mask5_apply, angB_apply]
  split <;> rfl

end Cert.Proj

end
-- ==== Proof.ProjArrays.lean ====
/-
  The arrays that the projection kernel's call reads.
-/
module

public import proofs.«01_k».proof.Proof.ProjHost
public import proofs.«01_k».proof.Proof.Gen.Kernel6Ideal.Frame
public import Idealize.ShloMosaic.Lib.StableHlo.Run

@[expose] public section

set_option maxRecDepth 65536

noncomputable section

namespace Cert.Proj

open Idealize.ShloMosaic Idealize.ShloMosaic.TcCoe Cert.Kernel6Ideal Cert.Kernel6Ideal.Gen Cert.Row

def zeros64 : FVec Ideal S1024x64 .f32 := broadcastInDim S1024x64 ![] bcast_S_S1024x64 (constant S_ .f32 0x00000000#32)
def zeros96 : FVec Ideal S1024x96 .f32 := broadcastInDim S1024x96 ![] bcast_S_S1024x96 (constant S_ .f32 0x00000000#32)
def zeros104 : FVec Ideal S1024x104 .f32 := broadcastInDim S1024x104 ![] bcast_S_S1024x104 (constant S_ .f32 0x00000000#32)

/-- The columns of the queries' heads, each with zeros after it. -/
def colsQ (w : FVec Ideal S1024x2104 .f32) : FVec Ideal S1024x1024 .f32 :=
  concatenate S1024x1024 1
    [⟨S1024x64, extractStridedSlice S1024x64 ![0, 0] w slices_S1024x2104_S1024x64_0_0⟩,
      ⟨S1024x64, zeros64⟩,
      ⟨S1024x64, extractStridedSlice S1024x64 ![0, 64] w slices_S1024x2104_S1024x64_0_64⟩,
      ⟨S1024x64, zeros64⟩,
      ⟨S1024x64, extractStridedSlice S1024x64 ![0, 128] w slices_S1024x2104_S1024x64_0_128⟩,
      ⟨S1024x64, zeros64⟩,
      ⟨S1024x64, extractStridedSlice S1024x64 ![0, 192] w slices_S1024x2104_S1024x64_0_192⟩,
      ⟨S1024x64, zeros64⟩,
      ⟨S1024x64, extractStridedSlice S1024x64 ![0, 256] w slices_S1024x2104_S1024x64_0_256⟩,
      ⟨S1024x64, zeros64⟩,
      ⟨S1024x64, extractStridedSlice S1024x64 ![0, 320] w slices_S1024x2104_S1024x64_0_320⟩,
      ⟨S1024x64, zeros64⟩,
      ⟨S1024x64, extractStridedSlice S1024x64 ![0, 384] w slices_S1024x2104_S1024x64_0_384⟩,
      ⟨S1024x64, zeros64⟩,
      ⟨S1024x64, extractStridedSlice S1024x64 ![0, 448] w slices_S1024x2104_S1024x64_0_448⟩,
      ⟨S1024x64, zeros64⟩]
    concatenates_S1024x64_S1024x64_S1024x64_S1024x64_S1024x64_S1024x64_S1024x64_S1024x64_S1024x64_S1024x64_S1024x64_S1024x64_S1024x64_S1024x64_S1024x64_S1024x64_S1024x1024_d1

/-- The columns of the blocks' keys and values, of the latents and of the first heads after them. -/
def colsK (w : FVec Ideal S1024x2104 .f32) : FVec Ideal S1024x1472 .f32 :=
  concatenate S1024x1472 1
    [⟨S1024x64, extractStridedSlice S1024x64 ![0, 512] w slices_S1024x2104_S1024x64_0_512⟩,
      ⟨S1024x64, extractStridedSlice S1024x64 ![0, 640] w slices_S1024x2104_S1024x64_0_640⟩,
      ⟨S1024x64, extractStridedSlice S1024x64 ![0, 576] w slices_S1024x2104_S1024x64_0_576⟩,
      ⟨S1024x480, extractStridedSlice S1024x480 ![0, 704] w slices_S1024x2104_S1024x480_0_704⟩,
      ⟨S1024x96, zeros96⟩,
      ⟨S1024x64, extractStridedSlice S1024x64 ![0, 1184] w slices_S1024x2104_S1024x64_0_1184⟩,
      ⟨S1024x64, zeros64⟩,
      ⟨S1024x64, extractStridedSlice S1024x64 ![0, 1248] w slices_S1024x2104_S1024x64_0_1248⟩,
      ⟨S1024x64, zeros64⟩,
      ⟨S1024x64, extractStridedSlice S1024x64 ![0, 1312] w slices_S1024x2104_S1024x64_0_1312⟩,
      ⟨S1024x64, zeros64⟩,
      ⟨S1024x64, extractStridedSlice S1024x64 ![0, 1376] w slices_S1024x2104_S1024x64_0_1376⟩,
      ⟨S1024x64, zeros64⟩,
      ⟨S1024x64, extractStridedSlice S1024x64 ![0, 1440] w slices_S1024x2104_S1024x64_0_1440⟩,
      ⟨S1024x64, zeros64⟩,
      ⟨S1024x64, extractStridedSlice S1024x64 ![0, 1504] w slices_S1024x2104_S1024x64_0_1504⟩]
    concatenates_S1024x64_S1024x64_S1024x64_S1024x480_S1024x96_S1024x64_S1024x64_S1024x64_S1024x64_S1024x64_S1024x64_S1024x64_S1024x64_S1024x64_S1024x64_S1024x64_S1024x1472_d1

/-- The columns of the last heads, of the compressed, selected and window keys and values and of the gates. -/
def colsN (w : FVec Ideal S1024x2104 .f32) : FVec Ideal S1024x832 .f32 :=
  concatenate S1024x832 1
    [⟨S1024x64, zeros64⟩,
      ⟨S1024x64, extractStridedSlice S1024x64 ![0, 1568] w slices_S1024x2104_S1024x64_0_1568⟩,
      ⟨S1024x64, zeros64⟩,
      ⟨S1024x64, extractStridedSlice S1024x64 ![0, 1632] w slices_S1024x2104_S1024x64_0_1632⟩,
      ⟨S1024x64, zeros64⟩,
      ⟨S1024x408, extractStridedSlice S1024x408 ![0, 1696] w slices_S1024x2104_S1024x408_0_1696⟩,
      ⟨S1024x104, zeros104⟩]
    concatenates_S1024x64_S1024x64_S1024x64_S1024x64_S1024x64_S1024x408_S1024x104_S1024x832_d1

/-- The weights' columns in the kernel's order. -/
def cols (w : FVec Ideal S1024x2104 .f32) : FVec Ideal S1024x3328 .f32 :=
  concatenate S1024x3328 1 [⟨S1024x1024, colsQ w⟩, ⟨S1024x1472, colsK w⟩, ⟨S1024x832, colsN w⟩]
    concatenates_S1024x1024_S1024x1472_S1024x832_S1024x3328_d1

variable (m : (ℓ : Loc nD τ sig) → Buf (Elt Ideal) ℓ) (c : Dev nD)

set_option maxHeartbeats 4000000 in
theorem V_v43 : V m c main_v43 = (truncf .bf16 (cols (m ((c : Thread nD τ).loc main_arg2))) bitsLt_bf16_f32 : FVec Ideal S1024x3328 .bf16) := by
  unfold V
  simp only [hostOps0, hostOps0_1, hostOps0_2, hostOps0_3, hostOps0_4, hostOps0_5, hostOps0_6, hostOps0_7, hostOps0_8, hostOps0_9, hostOps0_10, hostOps0_11, hostOps0_12, hostOps0_13,
    List.flatten_cons, List.flatten_nil, List.append_nil, List.cons_append, List.nil_append]
  after_results_simp <;> rfl

set_option maxHeartbeats 4000000 in
theorem V_v101 : V m c main_v101 = shapeCast S1x1024 (m ((c : Thread nD τ).loc main_arg1)) shapeCasts_S1024_S1x1024 := by
  unfold V
  simp only [hostOps0, hostOps0_1, hostOps0_2, hostOps0_3, hostOps0_4, hostOps0_5, hostOps0_6, hostOps0_7, hostOps0_8, hostOps0_9, hostOps0_10, hostOps0_11, hostOps0_12, hostOps0_13,
    List.flatten_cons, List.flatten_nil, List.append_nil, List.cons_append, List.nil_append]
  after_results_simp <;> rfl

set_option maxHeartbeats 4000000 in
theorem V_v105 : V m c main_v105 = shapeCast S1x128 (m ((c : Thread nD τ).loc main_arg5)) shapeCasts_S128_S1x128 := by
  unfold V
  simp only [hostOps0, hostOps0_1, hostOps0_2, hostOps0_3, hostOps0_4, hostOps0_5, hostOps0_6, hostOps0_7, hostOps0_8, hostOps0_9, hostOps0_10, hostOps0_11, hostOps0_12, hostOps0_13,
    List.flatten_cons, List.flatten_nil, List.append_nil, List.cons_append, List.nil_append]
  after_results_simp <;> rfl

set_option maxHeartbeats 4000000 in
theorem V_v129 : V m c main_v129 = cosA := by
  unfold V
  simp only [hostOps0, hostOps0_1, hostOps0_2, hostOps0_3, hostOps0_4, hostOps0_5, hostOps0_6, hostOps0_7, hostOps0_8, hostOps0_9, hostOps0_10, hostOps0_11, hostOps0_12, hostOps0_13,
    List.flatten_cons, List.flatten_nil, List.append_nil, List.cons_append, List.nil_append]
  after_results_simp <;> rfl

set_option maxHeartbeats 4000000 in
theorem V_v132 : V m c main_v132 = sinA := by
  unfold V
  simp only [hostOps0, hostOps0_1, hostOps0_2, hostOps0_3, hostOps0_4, hostOps0_5, hostOps0_6, hostOps0_7, hostOps0_8, hostOps0_9, hostOps0_10, hostOps0_11, hostOps0_12, hostOps0_13,
    List.flatten_cons, List.flatten_nil, List.append_nil, List.cons_append, List.nil_append]
  after_results_simp <;> rfl

set_option maxHeartbeats 4000000 in
theorem V_v153 : V m c main_v153 = cosB := by
  unfold V
  simp only [hostOps0, hostOps0_1, hostOps0_2, hostOps0_3, hostOps0_4, hostOps0_5, hostOps0_6, hostOps0_7, hostOps0_8, hostOps0_9, hostOps0_10, hostOps0_11, hostOps0_12, hostOps0_13,
    List.flatten_cons, List.flatten_nil, List.append_nil, List.cons_append, List.nil_append]
  after_results_simp <;> rfl

set_option maxHeartbeats 4000000 in
theorem V_v156 : V m c main_v156 = sinB := by
  unfold V
  simp only [hostOps0, hostOps0_1, hostOps0_2, hostOps0_3, hostOps0_4, hostOps0_5, hostOps0_6, hostOps0_7, hostOps0_8, hostOps0_9, hostOps0_10, hostOps0_11, hostOps0_12, hostOps0_13,
    List.flatten_cons, List.flatten_nil, List.append_nil, List.cons_append, List.nil_append]
  after_results_simp <;> rfl

theorem colsK_apply (w : FVec Ideal S1024x2104 .f32) (f : Fin 1024) (l : Fin 1472) (h : l.val < 672) (k : Fin 2104)
    (hk : k.val = if l.val < 64 then 512 + l.val else if l.val < 128 then 576 + l.val else if l.val < 192 then 448 + l.val else 512 + l.val) :
    colsK w (ix2 f l) = w (ix2 f k) := by
  unfold colsK
  rw [concatenate_cons_apply]
  by_cases h0 : l.val < 64
  · refine (concatenateAt_cons ..).trans ((dif_pos h0).trans (congrArg w (funext fun b => Fin.ext ?_)))
    match b with
    | ⟨0, _⟩ => show 0 + f.val = f.val; omega
    | ⟨1, _⟩ => show 512 + l.val = k.val; split_ifs at hk <;> omega
  refine (concatenateAt_cons ..).trans ((dif_neg h0).trans ?_)
  by_cases h1 : l.val < 128
  · refine (concatenateAt_cons ..).trans ((dif_pos (show l.val - 64 < 64 by omega)).trans (congrArg w (funext fun b => Fin.ext ?_)))
    match b with
    | ⟨0, _⟩ => show 0 + f.val = f.val; omega
    | ⟨1, _⟩ => show 640 + (l.val - 64) = k.val; split_ifs at hk <;> omega
  refine (concatenateAt_cons ..).trans ((dif_neg (show ¬ l.val - 64 < 64 by omega)).trans ?_)
  by_cases h2 : l.val < 192
  · refine (concatenateAt_cons ..).trans ((dif_pos (show l.val - 64 - 64 < 64 by omega)).trans (congrArg w (funext fun b => Fin.ext ?_)))
    match b with
    | ⟨0, _⟩ => show 0 + f.val = f.val; omega
    | ⟨1, _⟩ => show 576 + (l.val - 64 - 64) = k.val; split_ifs at hk <;> omega
  refine (concatenateAt_cons ..).trans ((dif_neg (show ¬ l.val - 64 - 64 < 64 by omega)).trans ?_)
  refine (concatenateAt_cons ..).trans ((dif_pos (show l.val - 64 - 64 - 64 < 480 by omega)).trans (congrArg w (funext fun b => Fin.ext ?_)))
  match b with
  | ⟨0, _⟩ => show 0 + f.val = f.val; omega
  | ⟨1, _⟩ => show 704 + (l.val - 64 - 64 - 64) = k.val; split_ifs at hk <;> omega

theorem colsN_apply (w : FVec Ideal S1024x2104 .f32) (f : Fin 1024) (l : Fin 832) (h : 320 ≤ l.val) (h' : l.val < 728) : colsN w (ix2 f l)
    = w (ix2 f ⟨1376 + l.val, by omega⟩) := by
  pointwise [colsN]
  rw [dif_neg (by omega), dif_neg (by omega), dif_neg (by omega), dif_neg (by omega), dif_neg (by omega), dif_pos (by omega)]
  exact congrArg (fun k => w (ix2 f k)) (Fin.ext (show 1696 + (l.val - 64 - 64 - 64 - 64 - 64) = 1376 + l.val by omega))

/-- The columns of the blocks' keys and values and of the latents. -/
theorem cols_low (w : FVec Ideal S1024x2104 .f32) (f : Fin 1024) (l : Fin 3328) (k : Fin 2104) (h : 1024 ≤ l.val) (h' : l.val < 1696)
    (hk : k.val = if l.val < 1088 then l.val - 512 else if l.val < 1152 then l.val - 448 else if l.val < 1216 then l.val - 576 else l.val - 512) :
    cols w (ix2 f l) = w (ix2 f k) := by
  pointwise [cols]
  rw [dif_neg (by omega), dif_pos (by omega)]
  refine colsK_apply w f _ (show l.val - 1024 < 672 by omega) k ?_
  rw [hk]
  show _ = if l.val - 1024 < 64 then 512 + (l.val - 1024) else if l.val - 1024 < 128 then 576 + (l.val - 1024)
    else if l.val - 1024 < 192 then 448 + (l.val - 1024) else 512 + (l.val - 1024)
  split_ifs <;> omega

/-- The columns of the compressed, selected and window keys and values. -/
theorem cols_high (w : FVec Ideal S1024x2104 .f32) (f : Fin 1024) (l : Fin 3328) (k : Fin 2104) (h : 2816 ≤ l.val) (h' : l.val < 3200)
    (hk : k.val = l.val - 1120) : cols w (ix2 f l) = w (ix2 f k) := by
  pointwise [cols]
  rw [dif_neg (by omega), dif_neg (by omega), colsN_apply _ _ _ (show 320 ≤ l.val - 1024 - 1472 by omega) (show l.val - 1024 - 1472 < 728 by omega)]
  exact congrArg (fun k => w (ix2 f k)) (Fin.ext (show 1376 + (l.val - 1024 - 1472) = k.val by omega))

end Cert.Proj

end
-- ==== Proof.ProjBlock.lean ====
/-
  The vector expressions of the projection kernel's body, at an index.
-/
module

public import proofs.«01_k».proof.Proof.ProjRow
public import proofs.«01_k».proof.Proof.Gen.Kernel6Ideal.Skeleton
public import Idealize.ShloMosaic.Lib.KernelVsHost

@[expose] public section

set_option maxRecDepth 65536

noncomputable section

namespace Cert.Proj

open Idealize.ShloMosaic Cert.Kernel6Ideal Cert.Kernel6Ideal.Gen Cert.Row

/-- The lane of an entry. -/
def lane : IVec S256x128 32 := iota .tc S256x128 32 [1] iota_S256x128_d1_w32

theorem lane_apply (a : Fin 256) (d : Fin 128) : lane (ix2 a d) = BitVec.ofNat 32 d.val := by
  pointwise [lane]

/-- The rotation of a head's first sixteen lanes of the first 64. -/
def turnA (z c s : FVec Ideal S256x128 .f32) : FVec Ideal S256x128 .f32 :=
  select (cmpi .slt lane (broadcast S256x128 64#32))
    (addf (mulf z c) (mulf (select (cmpi .slt (andi lane (broadcast S256x128 63#32)) (broadcast S256x128 8#32))
      (dynamicRotate 1 120#32 none z rotates_S256x128_d1) (dynamicRotate 1 8#32 none z rotates_S256x128_d1)) s)) z

/-- The rotation of the first 32 lanes, and zeros. -/
def turnB (z c s : FVec Ideal S256x128 .f32) : FVec Ideal S256x128 .f32 :=
  select (cmpi .slt lane (broadcast S256x128 32#32))
    (addf (mulf z c) (mulf (select (cmpi .slt (andi lane (broadcast S256x128 31#32)) (broadcast S256x128 16#32))
      (dynamicRotate 1 112#32 none z rotates_S256x128_d1) (dynamicRotate 1 16#32 none z rotates_S256x128_d1)) s))
    (broadcast S256x128 (Scalar.ofBits .f32 0x00000000#32))

theorem below64 : ∀ d : Fin 128, IntOp.cmpi .slt (BitVec.ofNat 32 d.val) 64#32 = if d.val < 64 then 1#1 else 0#1 := by decide +kernel
theorem below32 : ∀ d : Fin 128, IntOp.cmpi .slt (BitVec.ofNat 32 d.val) 32#32 = if d.val < 32 then 1#1 else 0#1 := by decide +kernel
theorem first8 : ∀ d : Fin 128, IntOp.cmpi .slt (IntOp.andi (BitVec.ofNat 32 d.val) 63#32) 8#32 = if d.val % 64 < 8 then 1#1 else 0#1 := by
  decide +kernel
theorem first16 : ∀ d : Fin 128, IntOp.cmpi .slt (IntOp.andi (BitVec.ofNat 32 d.val) 31#32) 16#32 = if d.val % 32 < 16 then 1#1 else 0#1 := by
  decide +kernel

/-- A rotated head of a block, with the tables' entries of a position. -/
theorem turnA_apply (z c s : FVec Ideal S256x128 .f32) (a : Fin 256) (d : Fin 128) (t : ℕ) (Z : ℕ → EReal)
    (hz : ∀ e : Fin 128, z (ix2 a e) = Z e.val)
    (hc : c (ix2 a d) = if d.val % 64 < 16 then Ideal.cos (ang 0x41800000#32 t (d.val % 8)) else 1)
    (hs : s (ix2 a d) = if d.val % 64 < 8 then -Ideal.sin (ang 0x41800000#32 t (d.val % 8))
      else if d.val % 64 < 16 then Ideal.sin (ang 0x41800000#32 t (d.val % 8)) else 0) :
    turnA z c s (ix2 a d) = if d.val < 64 then rope 8 0x41800000#32 Z t d.val else Z d.val := by
  pointwise [turnA]
  rw [lane_apply, below64, first8, hc, hs, hz, hz, hz]
  by_cases h : d.val < 64
  · rw [if_pos h, if_pos h, ← rope_table8 _ _ _ _ h]
    show _ + _ * _ = _
    by_cases h' : d.val % 64 < 8
    · simp only [if_pos h']
      show _ + Z _ * _ = _
      rw [show (d.val + 128 - 120) % 128 = d.val + 8 by omega]
    · simp only [if_neg h']
      show _ + Z _ * _ = _
      by_cases h'' : d.val % 64 < 16
      · rw [show (d.val + 128 - 8) % 128 = d.val - 8 by omega]
      · simp only [if_neg h'', mul_zero]
  · rw [if_neg h, if_neg h]
    rfl

theorem turnB_apply (z c s : FVec Ideal S256x128 .f32) (a : Fin 256) (d : Fin 128) (t : ℕ) (Z : ℕ → EReal)
    (hz : ∀ e : Fin 128, z (ix2 a e) = Z e.val)
    (hc : c (ix2 a d) = Ideal.cos (ang 0x42000000#32 t (d.val % 16)))
    (hs : s (ix2 a d) = if d.val % 32 < 16 then -Ideal.sin (ang 0x42000000#32 t (d.val % 16))
      else Ideal.sin (ang 0x42000000#32 t (d.val % 16))) :
    turnB z c s (ix2 a d) = if d.val < 32 then rope 16 0x42000000#32 Z t d.val else 0 := by
  pointwise [turnB]
  rw [lane_apply, below32, first16, hc, hs, hz, hz, hz]
  by_cases h : d.val < 32
  · rw [if_pos h, if_pos h, ← rope_table16 _ _ _ _ h]
    show _ + _ * _ = _
    by_cases h' : d.val % 32 < 16
    · simp only [if_pos h']
      show _ + Z _ * _ = _
      rw [show (d.val + 128 - 112) % 128 = d.val + 16 by omega]
    · simp only [if_neg h']
      show _ + Z _ * _ = _
      rw [show (d.val + 128 - 16) % 128 = d.val - 16 by omega]
  · rw [if_neg h, if_neg h]
    rfl

theorem row_apply (x : FVec Ideal S256x1024 .f32) (g : FVec Ideal S1x1024 .f32) (a : Fin 256) (f : Fin 1024) :
    k0_pay1 (F := Ideal) x g (ix2 a f) = rms (fun i => x (ix2 a i)) (fun i => g (ix2 0 i)) f := by
  pointwise [k0_pay1, rms]

theorem pay41_eq (h : FVec Ideal S256x1024 .bf16) (c s : FVec Ideal S256x128 .f32) (w : FVec Ideal S1024x128 .bf16) :
    k0_pay41 (F := Ideal) h c s lane w = turnA (k0_pay36 (F := Ideal) h w) c s := rfl

theorem pay40_eq (h : FVec Ideal S256x1024 .bf16) (c s : FVec Ideal S256x128 .f32) (w : FVec Ideal S1024x128 .bf16) :
    k0_pay40 (F := Ideal) c s lane (k0_pay37 h w) (k0_pay38 lane) k0_pay39 = turnA (k0_pay36 (F := Ideal) h w) c s := rfl

theorem pay25_eq (h : FVec Ideal S256x1024 .bf16) (c s : FVec Ideal S256x128 .f32) (w : FVec Ideal S1024x128 .bf16) :
    k0_pay25 (F := Ideal) h c s lane w = turnB (k0_pay36 (F := Ideal) h w) c s := rfl

theorem pay36_apply (h : FVec Ideal S256x1024 .bf16) (w : FVec Ideal S1024x128 .bf16) (a : Fin 256) (d : Fin 128) :
    k0_pay36 (F := Ideal) h w (ix2 a d) = ∑ f, h (ix2 a f) * w (ix2 f d) := by
  pointwise [k0_pay36]

def wide (h : FVec Ideal S256x1024 .bf16) (w : FVec Ideal S1024x256 .bf16) : FVec Ideal S256x256 .f32 :=
  matmul dot_S256x1024_S1024x256_S256x256_1_0_0_1_n_n none h (shapeCast S1024x256 w shapeCasts_S1024x256_S1024x256) (constant S256x256 .f32 0x00000000#32)

theorem wide_apply (h : FVec Ideal S256x1024 .bf16) (w : FVec Ideal S1024x256 .bf16) (a : Fin 256) (d : Fin 256) :
    wide h w (ix2 a d) = ∑ f, h (ix2 a f) * w (ix2 f d) := by
  pointwise [wide]

theorem pay21_eq (h : FVec Ideal S256x1024 .bf16) (c s : FVec Ideal S256x128 .f32) (w : FVec Ideal S1024x256 .bf16) :
    k0_pay21 (F := Ideal) h c s lane w = concatenate S256x256 1
      [⟨S256x128, turnA (extractStridedSlice S256x128 ![0, 0] (wide h w) slices_S256x256_o0_0_S256x128) c s⟩,
        ⟨S256x128, turnA (extractStridedSlice S256x128 ![0, 128] (wide h w) slices_S256x256_o0_128_S256x128) c s⟩]
      concatenates_S256x128_S256x128_S256x256_d1 := rfl

theorem pay24_apply (h : FVec Ideal S256x1024 .bf16) (w : FVec Ideal S1024x128 .bf16) (g : FVec Ideal S1x128 .f32) (a : Fin 256) (d : Fin 128)
    (Z : ℕ → EReal) (hZ : ∀ j : Fin 128, k0_pay36 (F := Ideal) h w (ix2 a j) = Z j.val) :
    k0_pay24 (F := Ideal) h w g (ix2 a d) = rmsLanes Z (fun i => g (ix2 0 i)) d := by
  simp only [pay36_apply] at hZ
  pointwise [k0_pay24, rmsLanes]
  simp only [hZ]

end Cert.Proj

end
-- ==== Proof.ProjOut.lean ====
/-
  The blocks that a point of the projection kernel's grid writes, at an index.
-/
module

public import proofs.«01_k».proof.Proof.ProjBlock
public import proofs.«01_k».proof.Proof.Gen.Kernel6Ideal.Frame

@[expose] public section

set_option maxRecDepth 65536

noncomputable section

namespace Cert.Proj

open Idealize.ShloMosaic Cert.Kernel6Ideal Cert.Kernel6Ideal.Gen Cert.Row

theorem zero_off : (![0, 0] : Fin 2 → ℕ) = fun _ => 0 := by
  funext a
  match a with
  | ⟨0, _⟩ => rfl
  | ⟨1, _⟩ => rfl

theorem same2 (x : FVec Ideal S256x128 .f32) : k0_pay2 (F := Ideal) x = x := by
  funext y
  obtain ⟨a, d, rfl⟩ : ∃ (a : Fin 256) (d : Fin 128), y = ix2 a d := ⟨y 0, y 1, eq_ix2 y⟩
  pointwise [k0_pay2]

theorem same3 (x : FVec Ideal S256x128 .f32) : k0_pay3 (F := Ideal) x = x := same2 x
theorem same4 (x : FVec Ideal S256x128 .f32) : k0_pay4 (F := Ideal) x = x := same2 x
theorem same5 (x : FVec Ideal S256x128 .f32) : k0_pay5 (F := Ideal) x = x := same2 x

/-- A column of a row's product with the weights in the kernel's order. -/
def blockCol (x g : Fin 1024 → EReal) (w : Fin 1024 → Fin 3328 → EReal) (l : ℕ) : EReal :=
  if h : l < 3328 then ∑ f, rms x g f * w f ⟨l, h⟩ else 0

theorem ld_narrow (x2 : FVec Ideal S1024x3328 .bf16) (o : ℕ) (inb) (f : Fin 1024) (j : Fin 128) (l : Fin 3328) (hl : l.val = o + j.val) :
    View.ld (Val := Elt Ideal) (e' := .bf16) x2 (Rect.unit (s := S1024x3328) ![0, o] S1024x128.size inb) (ix2 f j) = x2 (ix2 f l) := by
  refine congrArg x2 (funext fun x => Fin.ext ?_)
  match x with
  | ⟨0, _⟩ => show 0 + 1 * f.val = f.val; omega
  | ⟨1, _⟩ => show o + 1 * j.val = l.val; omega

theorem ld_wide (x2 : FVec Ideal S1024x3328 .bf16) (o : ℕ) (inb) (f : Fin 1024) (j : Fin 256) (l : Fin 3328) (hl : l.val = o + j.val) :
    View.ld (Val := Elt Ideal) (e' := .bf16) x2 (Rect.unit (s := S1024x3328) ![0, o] S1024x256.size inb) (ix2 f j) = x2 (ix2 f l) := by
  refine congrArg x2 (funext fun x => Fin.ext ?_)
  match x with
  | ⟨0, _⟩ => show 0 + 1 * f.val = f.val; omega
  | ⟨1, _⟩ => show o + 1 * j.val = l.val; omega

section

variable (x0 : FVec Ideal S256x1024 .f32) (x1 : FVec Ideal S1x1024 .f32) (x2 : FVec Ideal S1024x3328 .bf16)
  (x3 : FVec Ideal S1x256 .f32) (x4 : FVec Ideal S256x768 .bf16) (x5 : FVec Ideal S768x2048 .bf16) (x6 : FVec Ideal S1x128 .f32)
  (x7 x8 x9 x10 : FVec Ideal S256x128 .f32) (a : Fin 256) (t : ℕ)

/-- A column of the block's row. -/
abbrev zcol (l : ℕ) : EReal := blockCol (fun i => x0 (ix2 a i)) (fun i => x1 (ix2 0 i)) (fun f l => x2 (ix2 f l)) l

theorem narrow_apply (o : ℕ) (inb) (j : Fin 128) (ho : o + 128 ≤ 3328) :
    k0_pay36 (F := Ideal) (k0_pay1 (F := Ideal) x0 x1)
      (View.ld (Val := Elt Ideal) (e' := .bf16) x2 (Rect.unit (s := S1024x3328) ![0, o] S1024x128.size inb)) (ix2 a j)
      = zcol x0 x1 x2 a (o + j.val) := by
  rw [pay36_apply, zcol, blockCol, dif_pos (show o + j.val < 3328 by omega)]
  refine Finset.sum_congr rfl fun f _ => ?_
  rw [row_apply, ld_narrow x2 o inb f j ⟨o + j.val, by omega⟩ rfl]

theorem wide_col (o : ℕ) (inb) (j : Fin 256) (ho : o + 256 ≤ 3328) :
    wide (k0_pay1 (F := Ideal) x0 x1)
      (View.ld (Val := Elt Ideal) (e' := .bf16) x2 (Rect.unit (s := S1024x3328) ![0, o] S1024x256.size inb)) (ix2 a j)
      = zcol x0 x1 x2 a (o + j.val) := by
  rw [wide_apply, zcol, blockCol, dif_pos (show o + j.val < 3328 by omega)]
  refine Finset.sum_congr rfl fun f _ => ?_
  rw [row_apply, ld_wide x2 o inb f j ⟨o + j.val, by omega⟩ rfl]

theorem out17_apply (l : Fin 128) : out0_17 (F := Ideal) x0 x1 x2 x3 x4 x5 x6 x7 x8 x9 x10 (ix2 a l) = zcol x0 x1 x2 a (2816 + l.val) := by
  unfold out0_17 k0_pay44
  rw [View.canon_unit_zero zero_off]
  repeat rw [View.ld_unit_zero zero_off]
  exact narrow_apply x0 x1 x2 a 2816 _ l (by omega)

section

variable (hc : ∀ d : Fin 128, x7 (ix2 a d) = if d.val % 64 < 16 then Ideal.cos (ang 0x41800000#32 t (d.val % 8)) else 1)
  (hs : ∀ d : Fin 128, x8 (ix2 a d) = if d.val % 64 < 8 then -Ideal.sin (ang 0x41800000#32 t (d.val % 8))
      else if d.val % 64 < 16 then Ideal.sin (ang 0x41800000#32 t (d.val % 8)) else 0)

include hc hs

theorem out18_apply (l : Fin 128) : out0_18 (F := Ideal) x0 x1 x2 x3 x4 x5 x6 x7 x8 x9 x10 (ix2 a l) =
    if l.val < 64 then rope 8 0x41800000#32 (fun d => zcol x0 x1 x2 a (2944 + d)) t l.val else zcol x0 x1 x2 a (2944 + l.val) := by
  unfold out0_18 k0_pay46 k0_pay45 k0_pay44 k0_pay43
  rw [View.canon_unit_zero zero_off]
  repeat rw [View.ld_unit_zero zero_off]
  rw [same2, same3]
  exact turnA_apply _ x7 x8 a l t (fun d => zcol x0 x1 x2 a (2944 + d)) (fun e => narrow_apply x0 x1 x2 a 2944 _ e (by omega)) (hc l) (hs l)

theorem out19_apply (l : Fin 128) : out0_19 (F := Ideal) x0 x1 x2 x3 x4 x5 x6 x7 x8 x9 x10 (ix2 a l) =
    if l.val < 64 then rope 8 0x41800000#32 (fun d => zcol x0 x1 x2 a (3072 + d)) t l.val else zcol x0 x1 x2 a (3072 + l.val) := by
  unfold out0_19 k0_pay46 k0_pay45 k0_pay44 k0_pay43
  rw [View.canon_unit_zero zero_off]
  repeat rw [View.ld_unit_zero zero_off]
  rw [same2, same3]
  exact turnA_apply _ x7 x8 a l t (fun d => zcol x0 x1 x2 a (3072 + d)) (fun e => narrow_apply x0 x1 x2 a 3072 _ e (by omega)) (hc l) (hs l)

theorem out12_apply (l : Fin 256) : out0_12 (F := Ideal) x0 x1 x2 x3 x4 x5 x6 x7 x8 x9 x10 (ix2 a l) =
    if l.val % 128 < 64 then rope 8 0x41800000#32 (fun d => zcol x0 x1 x2 a (1024 + 128 * (l.val / 128) + d)) t (l.val % 128)
      else zcol x0 x1 x2 a (1024 + 128 * (l.val / 128) + l.val % 128) := by
  unfold out0_12 k0_pay46 k0_pay45 k0_pay44 k0_pay43
  rw [View.canon_unit_zero zero_off]
  repeat rw [View.ld_unit_zero zero_off]
  rw [same2, same3]
  refine (congrFun (pay21_eq (k0_pay1 (F := Ideal) x0 x1) x7 x8 _) (ix2 a l)).trans ?_
  pointwise []
  by_cases h : l.val < 128
  · rw [dif_pos h]
    refine (turnA_apply _ x7 x8 a ⟨l.val, h⟩ t (fun d => zcol x0 x1 x2 a (1024 + 128 * (l.val / 128) + d)) (fun e => ?_) (hc _) (hs _)).trans ?_
    · pointwise []
      refine (wide_col x0 x1 x2 a 1024 _ _ (by omega)).trans (congrArg (zcol x0 x1 x2 a) ?_)
      simp only []
      omega
    · simp only [show l.val % 128 = l.val by omega]
  · rw [dif_neg h]
    refine (turnA_apply _ x7 x8 a ⟨l.val - 128, by omega⟩ t (fun d => zcol x0 x1 x2 a (1024 + 128 * (l.val / 128) + d)) (fun e => ?_) (hc _) (hs _)).trans ?_
    · pointwise []
      refine (wide_col x0 x1 x2 a 1024 _ _ (by omega)).trans (congrArg (zcol x0 x1 x2 a) ?_)
      simp only []
      omega
    · simp only [show l.val % 128 = l.val - 128 by omega]

end

theorem out14_apply (hc : ∀ d : Fin 128, x9 (ix2 a d) = Ideal.cos (ang 0x42000000#32 t (d.val % 16)))
    (hs : ∀ d : Fin 128, x10 (ix2 a d) = if d.val % 32 < 16 then -Ideal.sin (ang 0x42000000#32 t (d.val % 16))
      else Ideal.sin (ang 0x42000000#32 t (d.val % 16))) (l : Fin 256) :
    out0_14 (F := Ideal) x0 x1 x2 x3 x4 x5 x6 x7 x8 x9 x10 (ix2 a l) =
    if h : l.val < 128 then rmsLanes (fun d => zcol x0 x1 x2 a (1536 + d)) (fun i => x6 (ix2 0 i)) ⟨l.val, h⟩
      else if l.val < 160 then rope 16 0x42000000#32 (fun d => zcol x0 x1 x2 a (1664 + d)) t (l.val - 128) else 0 := by
  unfold out0_14 k0_pay48 k0_pay47 k0_pay44 k0_pay43
  by_cases h : l.val < 128
  · rw [dif_pos h]
    rw [View.canon_cons_of_not_mem]
    · rw [show (ix2 a l : S256x256.Idx) = r0_13.emb (ix2 a (⟨l.val, h⟩ : Fin 128)) from funext fun x => Fin.ext (by
        match x with
        | ⟨0, _⟩ => show a.val = 0 + 1 * a.val; omega
        | ⟨1, _⟩ => show l.val = 0 + 1 * l.val; omega), View.canon_cons_emb]
      repeat rw [View.ld_unit_zero zero_off]
      exact pay24_apply _ _ x6 a ⟨l.val, h⟩ (fun d => zcol x0 x1 x2 a (1536 + d)) (fun j => narrow_apply x0 x1 x2 a 1536 _ j (by omega))
    · intro hm
      obtain ⟨x, hx⟩ := r0_15.exists_idx_of_mem hm
      have e : 128 + 1 * (x 1).val = l.val := congrArg (fun i : S256x256.Idx => (i 1).val) hx
      omega
  · rw [dif_neg h]
    rw [show (ix2 a l : S256x256.Idx) = r0_15.emb (ix2 a (⟨l.val - 128, by omega⟩ : Fin 128)) from funext fun x => Fin.ext (by
        match x with
        | ⟨0, _⟩ => show a.val = 0 + 1 * a.val; omega
        | ⟨1, _⟩ => show l.val = 128 + 1 * (l.val - 128); omega), View.canon_cons_emb]
    repeat rw [View.ld_unit_zero zero_off]
    rw [same4, same5]
    refine (turnB_apply _ x9 x10 a ⟨l.val - 128, by omega⟩ t (fun d => zcol x0 x1 x2 a (1664 + d)) (fun e => narrow_apply x0 x1 x2 a 1664 _ e (by omega)) (hc _) (hs _)).trans ?_
    simp only [show l.val - 128 < 32 ↔ l.val < 160 by omega]

end

end Cert.Proj

end
-- ==== Proof.Proj.lean ====
/-
  The arrays of the projection kernel's call, at an index.
-/
module

public import proofs.«01_k».proof.Proof.ProjArrays
public import proofs.«01_k».proof.Proof.ProjOut
public import proofs.«01_k».proof.Proof.Gen.Kernel6Ideal.Value

@[expose] public section

set_option maxRecDepth 65536

noncomputable section

namespace Cert.Proj

open Idealize.ShloMosaic Idealize.ShloMosaic.TcCoe Cert.Kernel6Ideal Cert.Kernel6Ideal.Gen Cert.Row

variable (m : (ℓ : Loc nD τ sig) → Buf (Elt Ideal) ℓ) (c : Dev nD)

theorem at0 : ∀ t : Fin cfg0.N, win0_0.index t (0 : Fin 2) = t.val ∧ win0_0.index t (1 : Fin 2) = 0 :=
  (by decide +kernel : ∀ t : Fin grid0.N, _)

theorem at1 : ∀ t : Fin cfg0.N, win0_1.index t (0 : Fin 2) = 0 ∧ win0_1.index t (1 : Fin 2) = 0 :=
  (by decide +kernel : ∀ t : Fin grid0.N, _)

theorem at2 : ∀ t : Fin cfg0.N, win0_2.index t (0 : Fin 2) = 0 ∧ win0_2.index t (1 : Fin 2) = 0 :=
  (by decide +kernel : ∀ t : Fin grid0.N, _)

theorem at6 : ∀ t : Fin cfg0.N, win0_6.index t (0 : Fin 2) = 0 ∧ win0_6.index t (1 : Fin 2) = 0 :=
  (by decide +kernel : ∀ t : Fin grid0.N, _)

theorem at7 : ∀ t : Fin cfg0.N, win0_7.index t (0 : Fin 2) = t.val % 16 ∧ win0_7.index t (1 : Fin 2) = 0 :=
  (by decide +kernel : ∀ t : Fin grid0.N, _)

theorem at8 : ∀ t : Fin cfg0.N, win0_8.index t (0 : Fin 2) = t.val % 16 ∧ win0_8.index t (1 : Fin 2) = 0 :=
  (by decide +kernel : ∀ t : Fin grid0.N, _)

theorem at9 : ∀ t : Fin cfg0.N, win0_9.index t (0 : Fin 2) = t.val % 16 ∧ win0_9.index t (1 : Fin 2) = 0 :=
  (by decide +kernel : ∀ t : Fin grid0.N, _)

theorem at10 : ∀ t : Fin cfg0.N, win0_10.index t (0 : Fin 2) = t.val % 16 ∧ win0_10.index t (1 : Fin 2) = 0 :=
  (by decide +kernel : ∀ t : Fin grid0.N, _)

theorem at12 : ∀ t : Fin cfg0.N, win0_12.index t (0 : Fin 2) = t.val ∧ win0_12.index t (1 : Fin 2) = 0 :=
  (by decide +kernel : ∀ t : Fin grid0.N, _)

theorem at14 : ∀ t : Fin cfg0.N, win0_14.index t (0 : Fin 2) = t.val ∧ win0_14.index t (1 : Fin 2) = 0 :=
  (by decide +kernel : ∀ t : Fin grid0.N, _)

theorem at17 : ∀ t : Fin cfg0.N, win0_17.index t (0 : Fin 2) = t.val ∧ win0_17.index t (1 : Fin 2) = 0 :=
  (by decide +kernel : ∀ t : Fin grid0.N, _)

theorem at18 : ∀ t : Fin cfg0.N, win0_18.index t (0 : Fin 2) = t.val ∧ win0_18.index t (1 : Fin 2) = 0 :=
  (by decide +kernel : ∀ t : Fin grid0.N, _)

theorem at19 : ∀ t : Fin cfg0.N, win0_19.index t (0 : Fin 2) = t.val ∧ win0_19.index t (1 : Fin 2) = 0 :=
  (by decide +kernel : ∀ t : Fin grid0.N, _)

theorem read0 (X : S16384x1024.Idx → EReal) (t : Fin cfg0.N) (a : Fin 256) (l : Fin 1024) (T : Fin 16384) (hT : T.val = 256 * t.val + a.val) :
    ((cfg0.win 0).blk t).view.read (Elt Ideal) X (ix2 a l) = X (ix2 T l) := by
  obtain ⟨e0, e1⟩ := at0 t
  refine congrArg X (funext fun x => Fin.ext ?_)
  match x with
  | ⟨0, _⟩ => show win0_0.index t (0 : Fin 2) * 256 + 1 * a.val = T.val; omega
  | ⟨1, _⟩ => show win0_0.index t (1 : Fin 2) * 1024 + 1 * l.val = l.val; omega

theorem read1 (X : S1x1024.Idx → EReal) (t : Fin cfg0.N) (l : Fin 1024) :
    ((cfg0.win 1).blk t).view.read (Elt Ideal) X (ix2 0 l) = X (ix2 0 l) := by
  obtain ⟨e0, e1⟩ := at1 t
  refine congrArg X (funext fun x => Fin.ext ?_)
  match x with
  | ⟨0, _⟩ => show win0_1.index t (0 : Fin 2) * 1 + 1 * 0 = 0; omega
  | ⟨1, _⟩ => show win0_1.index t (1 : Fin 2) * 1024 + 1 * l.val = l.val; omega

theorem read2 (X : S1024x3328.Idx → EReal) (t : Fin cfg0.N) (f : Fin 1024) (l : Fin 3328) :
    ((cfg0.win 2).blk t).view.read (Elt Ideal) X (ix2 f l) = X (ix2 f l) := by
  obtain ⟨e0, e1⟩ := at2 t
  refine congrArg X (funext fun x => Fin.ext ?_)
  match x with
  | ⟨0, _⟩ => show win0_2.index t (0 : Fin 2) * 1024 + 1 * f.val = f.val; omega
  | ⟨1, _⟩ => show win0_2.index t (1 : Fin 2) * 3328 + 1 * l.val = l.val; omega

theorem read6 (X : S1x128.Idx → EReal) (t : Fin cfg0.N) (l : Fin 128) :
    ((cfg0.win 6).blk t).view.read (Elt Ideal) X (ix2 0 l) = X (ix2 0 l) := by
  obtain ⟨e0, e1⟩ := at6 t
  refine congrArg X (funext fun x => Fin.ext ?_)
  match x with
  | ⟨0, _⟩ => show win0_6.index t (0 : Fin 2) * 1 + 1 * 0 = 0; omega
  | ⟨1, _⟩ => show win0_6.index t (1 : Fin 2) * 128 + 1 * l.val = l.val; omega

theorem read7 (X : S4096x128.Idx → EReal) (t : Fin cfg0.N) (a : Fin 256) (l : Fin 128) (T : Fin 4096) (hT : T.val = 256 * (t.val % 16) + a.val) :
    ((cfg0.win 7).blk t).view.read (Elt Ideal) X (ix2 a l) = X (ix2 T l) := by
  obtain ⟨e0, e1⟩ := at7 t
  refine congrArg X (funext fun x => Fin.ext ?_)
  match x with
  | ⟨0, _⟩ => show win0_7.index t (0 : Fin 2) * 256 + 1 * a.val = T.val; omega
  | ⟨1, _⟩ => show win0_7.index t (1 : Fin 2) * 128 + 1 * l.val = l.val; omega

theorem read8 (X : S4096x128.Idx → EReal) (t : Fin cfg0.N) (a : Fin 256) (l : Fin 128) (T : Fin 4096) (hT : T.val = 256 * (t.val % 16) + a.val) :
    ((cfg0.win 8).blk t).view.read (Elt Ideal) X (ix2 a l) = X (ix2 T l) := by
  obtain ⟨e0, e1⟩ := at8 t
  refine congrArg X (funext fun x => Fin.ext ?_)
  match x with
  | ⟨0, _⟩ => show win0_8.index t (0 : Fin 2) * 256 + 1 * a.val = T.val; omega
  | ⟨1, _⟩ => show win0_8.index t (1 : Fin 2) * 128 + 1 * l.val = l.val; omega

theorem read9 (X : S4096x128.Idx → EReal) (t : Fin cfg0.N) (a : Fin 256) (l : Fin 128) (T : Fin 4096) (hT : T.val = 256 * (t.val % 16) + a.val) :
    ((cfg0.win 9).blk t).view.read (Elt Ideal) X (ix2 a l) = X (ix2 T l) := by
  obtain ⟨e0, e1⟩ := at9 t
  refine congrArg X (funext fun x => Fin.ext ?_)
  match x with
  | ⟨0, _⟩ => show win0_9.index t (0 : Fin 2) * 256 + 1 * a.val = T.val; omega
  | ⟨1, _⟩ => show win0_9.index t (1 : Fin 2) * 128 + 1 * l.val = l.val; omega

theorem read10 (X : S4096x128.Idx → EReal) (t : Fin cfg0.N) (a : Fin 256) (l : Fin 128) (T : Fin 4096) (hT : T.val = 256 * (t.val % 16) + a.val) :
    ((cfg0.win 10).blk t).view.read (Elt Ideal) X (ix2 a l) = X (ix2 T l) := by
  obtain ⟨e0, e1⟩ := at10 t
  refine congrArg X (funext fun x => Fin.ext ?_)
  match x with
  | ⟨0, _⟩ => show win0_10.index t (0 : Fin 2) * 256 + 1 * a.val = T.val; omega
  | ⟨1, _⟩ => show win0_10.index t (1 : Fin 2) * 128 + 1 * l.val = l.val; omega

theorem emb12 (t : Fin cfg0.N) (a : Fin 256) (l : Fin 256) (T : Fin 16384) (hT : T.val = 256 * t.val + a.val) :
    ((cfg0.win 12).blk t).view.emb (ix2 a l) = (ix2 T l : S16384x256.Idx) := by
  obtain ⟨e0, e1⟩ := at12 t
  refine funext fun x => Fin.ext ?_
  match x with
  | ⟨0, _⟩ => show win0_12.index t (0 : Fin 2) * 256 + 1 * a.val = T.val; omega
  | ⟨1, _⟩ => show win0_12.index t (1 : Fin 2) * 256 + 1 * l.val = l.val; omega

theorem emb14 (t : Fin cfg0.N) (a : Fin 256) (l : Fin 256) (T : Fin 16384) (hT : T.val = 256 * t.val + a.val) :
    ((cfg0.win 14).blk t).view.emb (ix2 a l) = (ix2 T l : S16384x256.Idx) := by
  obtain ⟨e0, e1⟩ := at14 t
  refine funext fun x => Fin.ext ?_
  match x with
  | ⟨0, _⟩ => show win0_14.index t (0 : Fin 2) * 256 + 1 * a.val = T.val; omega
  | ⟨1, _⟩ => show win0_14.index t (1 : Fin 2) * 256 + 1 * l.val = l.val; omega

theorem emb17 (t : Fin cfg0.N) (a : Fin 256) (l : Fin 128) (T : Fin 16384) (hT : T.val = 256 * t.val + a.val) :
    ((cfg0.win 17).blk t).view.emb (ix2 a l) = (ix2 T l : S16384x128.Idx) := by
  obtain ⟨e0, e1⟩ := at17 t
  refine funext fun x => Fin.ext ?_
  match x with
  | ⟨0, _⟩ => show win0_17.index t (0 : Fin 2) * 256 + 1 * a.val = T.val; omega
  | ⟨1, _⟩ => show win0_17.index t (1 : Fin 2) * 128 + 1 * l.val = l.val; omega

theorem emb18 (t : Fin cfg0.N) (a : Fin 256) (l : Fin 128) (T : Fin 16384) (hT : T.val = 256 * t.val + a.val) :
    ((cfg0.win 18).blk t).view.emb (ix2 a l) = (ix2 T l : S16384x128.Idx) := by
  obtain ⟨e0, e1⟩ := at18 t
  refine funext fun x => Fin.ext ?_
  match x with
  | ⟨0, _⟩ => show win0_18.index t (0 : Fin 2) * 256 + 1 * a.val = T.val; omega
  | ⟨1, _⟩ => show win0_18.index t (1 : Fin 2) * 128 + 1 * l.val = l.val; omega

theorem emb19 (t : Fin cfg0.N) (a : Fin 256) (l : Fin 128) (T : Fin 16384) (hT : T.val = 256 * t.val + a.val) :
    ((cfg0.win 19).blk t).view.emb (ix2 a l) = (ix2 T l : S16384x128.Idx) := by
  obtain ⟨e0, e1⟩ := at19 t
  refine funext fun x => Fin.ext ?_
  match x with
  | ⟨0, _⟩ => show win0_19.index t (0 : Fin 2) * 256 + 1 * a.val = T.val; omega
  | ⟨1, _⟩ => show win0_19.index t (1 : Fin 2) * 128 + 1 * l.val = l.val; omega

theorem gain_apply (g : FVec Ideal S1024 .f32) (l : Fin 1024) : shapeCast S1x1024 g shapeCasts_S1024_S1x1024 (ix2 0 l) = g (ix1 l) := by
  pointwise []

theorem gain128_apply (g : FVec Ideal S128 .f32) (l : Fin 128) : shapeCast S1x128 g shapeCasts_S128_S1x128 (ix2 0 l) = g (ix1 l) := by
  pointwise []

theorem iblk0_apply (t : Fin cfg0.N) (a : Fin 256) (l : Fin 1024) (T : Fin 16384) (hT : T.val = 256 * t.val + a.val) :
    iblk m c 0 t (ix2 a l) = m ((c : Thread nD τ).loc main_arg0) (ix2 T l) :=
  (read0 (V m c main_arg0) t a l T hT).trans (congrFun (V_main_arg0 m c) (ix2 T l))

theorem iblk1_apply (t : Fin cfg0.N) (l : Fin 1024) :
    iblk m c 1 t (ix2 (0 : Fin 1) l) = m ((c : Thread nD τ).loc main_arg1) (ix1 l) :=
  ((read1 (V m c main_v101) t l).trans (congrFun (V_v101 m c) (ix2 (0 : Fin 1) l))).trans (gain_apply _ l)

theorem iblk2_apply (t : Fin cfg0.N) (f : Fin 1024) (l : Fin 3328) :
    iblk m c 2 t (ix2 f l) = cols (m ((c : Thread nD τ).loc main_arg2)) (ix2 f l) :=
  (read2 (V m c main_v43) t f l).trans (congrFun (V_v43 m c) (ix2 f l))

theorem iblk6_apply (t : Fin cfg0.N) (l : Fin 128) :
    iblk m c 6 t (ix2 (0 : Fin 1) l) = m ((c : Thread nD τ).loc main_arg5) (ix1 l) :=
  ((read6 (V m c main_v105) t l).trans (congrFun (V_v105 m c) (ix2 (0 : Fin 1) l))).trans (gain128_apply _ l)

theorem iblk7_apply (t : Fin cfg0.N) (a : Fin 256) (l : Fin 128) (T : Fin 4096) (hT : T.val = 256 * (t.val % 16) + a.val) :
    iblk m c 7 t (ix2 a l) = cosA (ix2 T l) :=
  (read7 (V m c main_v129) t a l T hT).trans (congrFun (V_v129 m c) (ix2 T l))

theorem iblk8_apply (t : Fin cfg0.N) (a : Fin 256) (l : Fin 128) (T : Fin 4096) (hT : T.val = 256 * (t.val % 16) + a.val) :
    iblk m c 8 t (ix2 a l) = sinA (ix2 T l) :=
  (read8 (V m c main_v132) t a l T hT).trans (congrFun (V_v132 m c) (ix2 T l))

theorem iblk9_apply (t : Fin cfg0.N) (a : Fin 256) (l : Fin 128) (T : Fin 4096) (hT : T.val = 256 * (t.val % 16) + a.val) :
    iblk m c 9 t (ix2 a l) = cosB (ix2 T l) :=
  (read9 (V m c main_v153) t a l T hT).trans (congrFun (V_v153 m c) (ix2 T l))

theorem iblk10_apply (t : Fin cfg0.N) (a : Fin 256) (l : Fin 128) (T : Fin 4096) (hT : T.val = 256 * (t.val % 16) + a.val) :
    iblk m c 10 t (ix2 a l) = sinB (ix2 T l) :=
  (read10 (V m c main_v156) t a l T hT).trans (congrFun (V_v156 m c) (ix2 T l))

/-- A column of a row's projection. -/
abbrev row (T : Fin 16384) (l : ℕ) : EReal :=
  proj (fun i => m ((c : Thread nD τ).loc main_arg0) (ix2 T i)) (fun i => m ((c : Thread nD τ).loc main_arg1) (ix1 i))
    (fun f l => m ((c : Thread nD τ).loc main_arg2) (ix2 f l)) l

/-- A column of a block's row is a column of the row's projection. -/
theorem zcol_eq (t : Fin cfg0.N) (a : Fin 256) (T : Fin 16384) (hT : T.val = 256 * t.val + a.val) (l k : ℕ)
    (h : 1024 ≤ l ∧ l < 1696 ∧ k = (if l < 1088 then l - 512 else if l < 1152 then l - 448 else if l < 1216 then l - 576 else l - 512)
      ∨ 2816 ≤ l ∧ l < 3200 ∧ k = l - 1120) :
    zcol (iblk m c 0 t) (iblk m c 1 t) (iblk m c 2 t) a l = row m c T k := by
  have hl : l < 3328 := by omega
  have hk : k < 2104 := by rcases h with ⟨_, _, h⟩ | h <;> [split_ifs at h <;> omega; omega]
  rw [zcol, row, blockCol, proj, dif_pos hl, dif_pos hk]
  refine Finset.sum_congr rfl fun f _ => ?_
  simp only [iblk0_apply m c t a _ T hT, iblk1_apply, iblk2_apply]
  rcases h with ⟨h1, h2, h3⟩ | ⟨h1, h2, h3⟩
  · rw [cols_low _ f ⟨l, hl⟩ ⟨k, hk⟩ h1 h2 h3]
  · rw [cols_high _ f ⟨l, hl⟩ ⟨k, hk⟩ h1 h2 h3]

theorem rope_congr (h : ℕ) (n : BitVec 32) (Z Z' : ℕ → EReal) (t d b : ℕ) (hb : 2 * h ≤ b) (hd : d < b) (e : ∀ i, i < b → Z i = Z' i) :
    rope h n Z t d = rope h n Z' t d := by
  unfold rope
  split_ifs with h1 h2
  · rw [e d hd, e (d + h) (by omega)]
  · rw [e d hd, e (d - h) (by omega)]
  · exact e d hd

theorem rmsLanes_congr (Z Z' : ℕ → EReal) (g g' : Fin 128 → EReal) (i : Fin 128) (e : ∀ j, j < 128 → Z j = Z' j) (hg : ∀ j, g j = g' j) :
    rmsLanes Z g i = rmsLanes Z' g' i := by
  unfold rmsLanes
  rw [e _ i.isLt, hg]
  refine congrArg (fun s : EReal => Z' i * Ideal.rsqrt (Ideal.div s _ + _) * g' i) ?_
  exact Finset.sum_congr rfl fun j _ => by rw [e _ j.isLt]

/-! ### The results without a head's zeros -/

section

variable (T : Fin 16384)

/-- The grid point whose block has a row. -/
abbrev pt : Fin cfg0.N := ⟨T.val / 256, by have hN : cfg0.N = 64 := by decide
                                           omega⟩

/-- The row in the block. -/
abbrev inBlock : Fin 256 := ⟨T.val % 256, by omega⟩

theorem split_row : T.val = 256 * (pt T).val + (inBlock T).val := by
  simp only []; omega

theorem split_pos : T.val % 4096 = 256 * ((pt T).val % 16) + (inBlock T).val := by
  simp only []; omega

theorem tab7 (d : Fin 128) : iblk m c 7 (pt T) (ix2 (inBlock T) d) =
    if d.val % 64 < 16 then Ideal.cos (ang 0x41800000#32 (T.val % 4096) (d.val % 8)) else 1 :=
  (iblk7_apply m c (pt T) (inBlock T) d ⟨T.val % 4096, by omega⟩ (split_pos T)).trans (cosA_apply _ d)

theorem tab8 (d : Fin 128) : iblk m c 8 (pt T) (ix2 (inBlock T) d) =
    if d.val % 64 < 8 then -Ideal.sin (ang 0x41800000#32 (T.val % 4096) (d.val % 8))
      else if d.val % 64 < 16 then Ideal.sin (ang 0x41800000#32 (T.val % 4096) (d.val % 8)) else 0 :=
  (iblk8_apply m c (pt T) (inBlock T) d ⟨T.val % 4096, by omega⟩ (split_pos T)).trans (sinA_apply _ d)

theorem tab9 (d : Fin 128) : iblk m c 9 (pt T) (ix2 (inBlock T) d) = Ideal.cos (ang 0x42000000#32 (T.val % 4096) (d.val % 16)) :=
  (iblk9_apply m c (pt T) (inBlock T) d ⟨T.val % 4096, by omega⟩ (split_pos T)).trans (cosB_apply _ d)

theorem tab10 (d : Fin 128) : iblk m c 10 (pt T) (ix2 (inBlock T) d) =
    if d.val % 32 < 16 then -Ideal.sin (ang 0x42000000#32 (T.val % 4096) (d.val % 16))
      else Ideal.sin (ang 0x42000000#32 (T.val % 4096) (d.val % 16)) :=
  (iblk10_apply m c (pt T) (inBlock T) d ⟨T.val % 4096, by omega⟩ (split_pos T)).trans (sinB_apply _ d)

theorem arr12 (l : Fin 256) : (dats m 0 c).arrAt 12 cfg0.N (ix2 T l : S16384x256.Idx) =
    out0_12 (F := Ideal) (iblk m c 0 (pt T)) (iblk m c 1 (pt T)) (iblk m c 2 (pt T)) (iblk m c 3 (pt T)) (iblk m c 4 (pt T)) (iblk m c 5 (pt T))
      (iblk m c 6 (pt T)) (iblk m c 7 (pt T)) (iblk m c 8 (pt T)) (iblk m c 9 (pt T)) (iblk m c 10 (pt T)) (ix2 (inBlock T) l) := by
  have e := congrFun (Cert.Kernel6Ideal.Value.blocks12 m c (pt T) (flush0_12 _)) (ix2 (inBlock T) l)
  rw [Cert.Kernel6Ideal.Value.flushed12] at e
  have e' : (dats m 0 c).arrAt 12 cfg0.N (((cfg0.win 12).blk (pt T)).view.emb (ix2 (inBlock T) l)) = _ := e
  rw [emb12 _ _ l T (split_row T)] at e'
  exact e'

theorem arr14 (l : Fin 256) : (dats m 0 c).arrAt 14 cfg0.N (ix2 T l : S16384x256.Idx) =
    out0_14 (F := Ideal) (iblk m c 0 (pt T)) (iblk m c 1 (pt T)) (iblk m c 2 (pt T)) (iblk m c 3 (pt T)) (iblk m c 4 (pt T)) (iblk m c 5 (pt T))
      (iblk m c 6 (pt T)) (iblk m c 7 (pt T)) (iblk m c 8 (pt T)) (iblk m c 9 (pt T)) (iblk m c 10 (pt T)) (ix2 (inBlock T) l) := by
  have e := congrFun (Cert.Kernel6Ideal.Value.blocks14 m c (pt T) (flush0_14 _)) (ix2 (inBlock T) l)
  rw [Cert.Kernel6Ideal.Value.flushed14] at e
  have e' : (dats m 0 c).arrAt 14 cfg0.N (((cfg0.win 14).blk (pt T)).view.emb (ix2 (inBlock T) l)) = _ := e
  rw [emb14 _ _ l T (split_row T)] at e'
  exact e'

theorem arr17 (l : Fin 128) : (dats m 0 c).arrAt 17 cfg0.N (ix2 T l : S16384x128.Idx) =
    out0_17 (F := Ideal) (iblk m c 0 (pt T)) (iblk m c 1 (pt T)) (iblk m c 2 (pt T)) (iblk m c 3 (pt T)) (iblk m c 4 (pt T)) (iblk m c 5 (pt T))
      (iblk m c 6 (pt T)) (iblk m c 7 (pt T)) (iblk m c 8 (pt T)) (iblk m c 9 (pt T)) (iblk m c 10 (pt T)) (ix2 (inBlock T) l) := by
  have e := congrFun (Cert.Kernel6Ideal.Value.blocks17 m c (pt T) (flush0_17 _)) (ix2 (inBlock T) l)
  rw [Cert.Kernel6Ideal.Value.flushed17] at e
  have e' : (dats m 0 c).arrAt 17 cfg0.N (((cfg0.win 17).blk (pt T)).view.emb (ix2 (inBlock T) l)) = _ := e
  rw [emb17 _ _ l T (split_row T)] at e'
  exact e'

theorem arr18 (l : Fin 128) : (dats m 0 c).arrAt 18 cfg0.N (ix2 T l : S16384x128.Idx) =
    out0_18 (F := Ideal) (iblk m c 0 (pt T)) (iblk m c 1 (pt T)) (iblk m c 2 (pt T)) (iblk m c 3 (pt T)) (iblk m c 4 (pt T)) (iblk m c 5 (pt T))
      (iblk m c 6 (pt T)) (iblk m c 7 (pt T)) (iblk m c 8 (pt T)) (iblk m c 9 (pt T)) (iblk m c 10 (pt T)) (ix2 (inBlock T) l) := by
  have e := congrFun (Cert.Kernel6Ideal.Value.blocks18 m c (pt T) (flush0_18 _)) (ix2 (inBlock T) l)
  rw [Cert.Kernel6Ideal.Value.flushed18] at e
  have e' : (dats m 0 c).arrAt 18 cfg0.N (((cfg0.win 18).blk (pt T)).view.emb (ix2 (inBlock T) l)) = _ := e
  rw [emb18 _ _ l T (split_row T)] at e'
  exact e'

theorem arr19 (l : Fin 128) : (dats m 0 c).arrAt 19 cfg0.N (ix2 T l : S16384x128.Idx) =
    out0_19 (F := Ideal) (iblk m c 0 (pt T)) (iblk m c 1 (pt T)) (iblk m c 2 (pt T)) (iblk m c 3 (pt T)) (iblk m c 4 (pt T)) (iblk m c 5 (pt T))
      (iblk m c 6 (pt T)) (iblk m c 7 (pt T)) (iblk m c 8 (pt T)) (iblk m c 9 (pt T)) (iblk m c 10 (pt T)) (ix2 (inBlock T) l) := by
  have e := congrFun (Cert.Kernel6Ideal.Value.blocks19 m c (pt T) (flush0_19 _)) (ix2 (inBlock T) l)
  rw [Cert.Kernel6Ideal.Value.flushed19] at e
  have e' : (dats m 0 c).arrAt 19 cfg0.N (((cfg0.win 19).blk (pt T)).view.emb (ix2 (inBlock T) l)) = _ := e
  rw [emb19 _ _ l T (split_row T)] at e'
  exact e'

theorem blocksKv_apply (l : Fin 256) : (dats m 0 c).arrAt 12 cfg0.N (ix2 T l : S16384x256.Idx) =
    if l.val % 128 < 64 then rope 8 0x41800000#32 (fun d => row m c T (512 + 64 * (l.val / 128) + d)) (T.val % 4096) (l.val % 128)
      else row m c T (640 + 64 * (l.val / 128) + (l.val % 128 - 64)) := by
  refine (arr12 m c T l).trans ((out12_apply _ _ _ _ _ _ _ _ _ _ _ (inBlock T) (T.val % 4096) (tab7 m c T) (tab8 m c T) l).trans ?_)
  split_ifs with h
  · exact rope_congr _ _ _ _ _ _ 64 (by omega) h fun i hi => zcol_eq m c (pt T) (inBlock T) T (split_row T) _ _ (Or.inl ⟨by omega, by omega, by
      split_ifs <;> omega⟩)
  · exact zcol_eq m c (pt T) (inBlock T) T (split_row T) _ _ (Or.inl ⟨by omega, by omega, by split_ifs <;> omega⟩)

theorem latentKey_apply (l : Fin 256) : (dats m 0 c).arrAt 14 cfg0.N (ix2 T l : S16384x256.Idx) =
    if h : l.val < 128 then rmsLanes (fun d => row m c T (1024 + d)) (fun i => m ((c : Thread nD τ).loc main_arg5) (ix1 i)) ⟨l.val, h⟩
      else if l.val < 160 then rope 16 0x42000000#32 (fun d => row m c T (1152 + d)) (T.val % 4096) (l.val - 128)
      else 0 := by
  refine (arr14 m c T l).trans ((out14_apply _ _ _ _ _ _ _ _ _ _ _ (inBlock T) (T.val % 4096) (tab9 m c T) (tab10 m c T) l).trans ?_)
  split_ifs with h h'
  · exact rmsLanes_congr _ _ _ _ _ (fun i hi => zcol_eq m c (pt T) (inBlock T) T (split_row T) _ _ (Or.inl ⟨by omega, by omega, by
      split_ifs <;> omega⟩)) fun j => iblk6_apply m c _ j
  · exact rope_congr _ _ _ _ _ _ 32 (by omega) (by omega) fun i hi => zcol_eq m c (pt T) (inBlock T) T (split_row T) _ _ (Or.inl ⟨by omega, by omega, by
      split_ifs <;> omega⟩)
  · rfl

theorem compressed_apply (l : Fin 128) : (dats m 0 c).arrAt 17 cfg0.N (ix2 T l : S16384x128.Idx) = row m c T (1696 + l.val) :=
  (arr17 m c T l).trans ((out17_apply _ _ _ _ _ _ _ _ _ _ _ (inBlock T) l).trans
    (zcol_eq m c (pt T) (inBlock T) T (split_row T) _ _ (Or.inr ⟨by omega, by omega, by omega⟩)))

theorem selected_apply (l : Fin 128) : (dats m 0 c).arrAt 18 cfg0.N (ix2 T l : S16384x128.Idx) =
    if l.val < 64 then rope 8 0x41800000#32 (fun d => row m c T (1824 + d)) (T.val % 4096) l.val else row m c T (1824 + l.val) := by
  refine (arr18 m c T l).trans ((out18_apply _ _ _ _ _ _ _ _ _ _ _ (inBlock T) (T.val % 4096) (tab7 m c T) (tab8 m c T) l).trans ?_)
  split_ifs with h
  · exact rope_congr _ _ _ _ _ _ 64 (by omega) h fun i hi => zcol_eq m c (pt T) (inBlock T) T (split_row T) _ _ (Or.inr ⟨by omega, by omega, by omega⟩)
  · exact zcol_eq m c (pt T) (inBlock T) T (split_row T) _ _ (Or.inr ⟨by omega, by omega, by omega⟩)

theorem window_apply (l : Fin 128) : (dats m 0 c).arrAt 19 cfg0.N (ix2 T l : S16384x128.Idx) =
    if l.val < 64 then rope 8 0x41800000#32 (fun d => row m c T (1952 + d)) (T.val % 4096) l.val else row m c T (1952 + l.val) := by
  refine (arr19 m c T l).trans ((out19_apply _ _ _ _ _ _ _ _ _ _ _ (inBlock T) (T.val % 4096) (tab7 m c T) (tab8 m c T) l).trans ?_)
  split_ifs with h
  · exact rope_congr _ _ _ _ _ _ 64 (by omega) h fun i hi => zcol_eq m c (pt T) (inBlock T) T (split_row T) _ _ (Or.inr ⟨by omega, by omega, by omega⟩)
  · exact zcol_eq m c (pt T) (inBlock T) T (split_row T) _ _ (Or.inr ⟨by omega, by omega, by omega⟩)

end

end Cert.Proj

end
-- ==== Proof.ProjCols.lean ====
/-
  The columns of the heads and of the gates in the kernel's order of the projection's weights.
-/
module

public import proofs.«01_k».proof.Proof.ProjArrays
public import Idealize.ShloMosaic.Lib.Pipeline.Value

@[expose] public section

set_option maxRecDepth 65536

noncomputable section

namespace Cert.Proj

open Idealize.ShloMosaic Cert.Kernel6Ideal Cert.Kernel6Ideal.Gen Cert.Row

theorem zeros64_apply (f : Fin 1024) (d : Fin 64) : zeros64 (ix2 f d) = 0 := Ideal.ofBits_zero .f32

theorem zeros104_apply (f : Fin 1024) (d : Fin 104) : zeros104 (ix2 f d) = 0 := Ideal.ofBits_zero .f32

theorem slice64_apply (w : FVec Ideal S1024x2104 .f32) (o : ℕ) (h : S1024x2104.Slices ![0, o] S1024x64) (f : Fin 1024) (d : Fin 64) (k : Fin 2104)
    (hk : k.val = o + d.val) : extractStridedSlice S1024x64 ![0, o] w h (ix2 f d) = w (ix2 f k) := by
  refine congrArg w (funext fun x => Fin.ext ?_)
  match x with
  | ⟨0, _⟩ => exact Nat.zero_add _
  | ⟨1, _⟩ => exact hk.symm

/-- A head's columns and zeros in turn. -/
def headPieces (w : FVec Ideal S1024x2104 .f32) : Fin 16 → FVec Ideal S1024x64 .f32 :=
  ![extractStridedSlice S1024x64 ![0, 0] w slices_S1024x2104_S1024x64_0_0, zeros64,
    extractStridedSlice S1024x64 ![0, 64] w slices_S1024x2104_S1024x64_0_64, zeros64,
    extractStridedSlice S1024x64 ![0, 128] w slices_S1024x2104_S1024x64_0_128, zeros64,
    extractStridedSlice S1024x64 ![0, 192] w slices_S1024x2104_S1024x64_0_192, zeros64,
    extractStridedSlice S1024x64 ![0, 256] w slices_S1024x2104_S1024x64_0_256, zeros64,
    extractStridedSlice S1024x64 ![0, 320] w slices_S1024x2104_S1024x64_0_320, zeros64,
    extractStridedSlice S1024x64 ![0, 384] w slices_S1024x2104_S1024x64_0_384, zeros64,
    extractStridedSlice S1024x64 ![0, 448] w slices_S1024x2104_S1024x64_0_448, zeros64]

theorem colsQ_piece (w : FVec Ideal S1024x2104 .f32) (f : Fin 1024) (l : Fin 1024) (n : Fin 16) (d : Fin 64) (h : l.val = 64 * n.val + d.val) :
    colsQ w (ix2 f l) = headPieces w n (ix2 f d) :=
  concatenate_ofFn_apply (t := S1024x1024) (s₁ := S1024x64) 1 (headPieces w) _ rfl 64 rfl (ix2 f l) n
    (by show l.val / 64 = n.val; omega) (ix2 f d) (by show d.val = l.val % 64; omega)
    (fun b hb => by
      match b with
      | ⟨0, _⟩ => rfl
      | ⟨1, _⟩ => exact absurd rfl hb)

theorem colsQ_head (w : FVec Ideal S1024x2104 .f32) (f : Fin 1024) (h : Fin 8) (d : Fin 64) (l : Fin 1024) (k : Fin 2104)
    (hl : l.val = 128 * h.val + d.val) (hk : k.val = 64 * h.val + d.val) : colsQ w (ix2 f l) = w (ix2 f k) := by
  refine (colsQ_piece w f l ⟨2 * h.val, by omega⟩ d (by simp only []; omega)).trans ?_
  match h with
  | ⟨0, _⟩ => exact slice64_apply w 0 slices_S1024x2104_S1024x64_0_0 f d k (by simp only [] at hk; omega)
  | ⟨1, _⟩ => exact slice64_apply w 64 slices_S1024x2104_S1024x64_0_64 f d k (by simp only [] at hk; omega)
  | ⟨2, _⟩ => exact slice64_apply w 128 slices_S1024x2104_S1024x64_0_128 f d k (by simp only [] at hk; omega)
  | ⟨3, _⟩ => exact slice64_apply w 192 slices_S1024x2104_S1024x64_0_192 f d k (by simp only [] at hk; omega)
  | ⟨4, _⟩ => exact slice64_apply w 256 slices_S1024x2104_S1024x64_0_256 f d k (by simp only [] at hk; omega)
  | ⟨5, _⟩ => exact slice64_apply w 320 slices_S1024x2104_S1024x64_0_320 f d k (by simp only [] at hk; omega)
  | ⟨6, _⟩ => exact slice64_apply w 384 slices_S1024x2104_S1024x64_0_384 f d k (by simp only [] at hk; omega)
  | ⟨7, _⟩ => exact slice64_apply w 448 slices_S1024x2104_S1024x64_0_448 f d k (by simp only [] at hk; omega)

theorem colsQ_gap (w : FVec Ideal S1024x2104 .f32) (f : Fin 1024) (h : Fin 8) (d : Fin 64) (l : Fin 1024)
    (hl : l.val = 128 * h.val + 64 + d.val) : colsQ w (ix2 f l) = 0 := by
  refine (colsQ_piece w f l ⟨2 * h.val + 1, by omega⟩ d (by simp only []; omega)).trans ?_
  match h with
  | ⟨0, _⟩ => exact zeros64_apply f d
  | ⟨1, _⟩ => exact zeros64_apply f d
  | ⟨2, _⟩ => exact zeros64_apply f d
  | ⟨3, _⟩ => exact zeros64_apply f d
  | ⟨4, _⟩ => exact zeros64_apply f d
  | ⟨5, _⟩ => exact zeros64_apply f d
  | ⟨6, _⟩ => exact zeros64_apply f d
  | ⟨7, _⟩ => exact zeros64_apply f d

/-- The arrays that `colsK` puts side by side. -/
def listK (w : FVec Ideal S1024x2104 .f32) : List ((s : Shape) × (s.Idx → EReal)) :=
  [⟨S1024x64, extractStridedSlice S1024x64 ![0, 512] w slices_S1024x2104_S1024x64_0_512⟩,
    ⟨S1024x64, extractStridedSlice S1024x64 ![0, 640] w slices_S1024x2104_S1024x64_0_640⟩,
    ⟨S1024x64, extractStridedSlice S1024x64 ![0, 576] w slices_S1024x2104_S1024x64_0_576⟩,
    ⟨S1024x480, extractStridedSlice S1024x480 ![0, 704] w slices_S1024x2104_S1024x480_0_704⟩,
    ⟨S1024x96, zeros96⟩,
    ⟨S1024x64, extractStridedSlice S1024x64 ![0, 1184] w slices_S1024x2104_S1024x64_0_1184⟩,
    ⟨S1024x64, zeros64⟩,
    ⟨S1024x64, extractStridedSlice S1024x64 ![0, 1248] w slices_S1024x2104_S1024x64_0_1248⟩,
    ⟨S1024x64, zeros64⟩,
    ⟨S1024x64, extractStridedSlice S1024x64 ![0, 1312] w slices_S1024x2104_S1024x64_0_1312⟩,
    ⟨S1024x64, zeros64⟩,
    ⟨S1024x64, extractStridedSlice S1024x64 ![0, 1376] w slices_S1024x2104_S1024x64_0_1376⟩,
    ⟨S1024x64, zeros64⟩,
    ⟨S1024x64, extractStridedSlice S1024x64 ![0, 1440] w slices_S1024x2104_S1024x64_0_1440⟩,
    ⟨S1024x64, zeros64⟩,
    ⟨S1024x64, extractStridedSlice S1024x64 ![0, 1504] w slices_S1024x2104_S1024x64_0_1504⟩]

/-- Piece `k` of `colsK`, `pre` columns before it. -/
theorem colsK_piece (w : FVec Ideal S1024x2104 .f32) (f : Fin 1024) (l : Fin 1472) (d : Fin 64) (k : ℕ) (hk : k < (listK w).length)
    (x : FVec Ideal S1024x64 .f32) (hx : (listK w)[k] = ⟨S1024x64, x⟩) (pre : ℕ)
    (hpre : ((((listK w).take k).map (·.1)).map fun s => if h : s.rank = S1024x1472.rank then s.size ((1 : Fin 2).cast h.symm) else 0).sum = pre)
    (h : l.val = pre + d.val) : colsK w (ix2 f l) = x (ix2 f d) :=
  concatenate_apply_piece (t := S1024x1472) (1 : Fin 2) (listK w)
    concatenates_S1024x64_S1024x64_S1024x64_S1024x480_S1024x96_S1024x64_S1024x64_S1024x64_S1024x64_S1024x64_S1024x64_S1024x64_S1024x64_S1024x64_S1024x64_S1024x64_S1024x1472_d1
    (ix2 f l) k hk S1024x64 x hx rfl pre hpre (ix2 f d)
    (fun b hb => by
      match b with
      | ⟨0, _⟩ => rfl
      | ⟨1, _⟩ => exact absurd rfl hb) h.symm

theorem colsK_head (w : FVec Ideal S1024x2104 .f32) (f : Fin 1024) (h : Fin 6) (d : Fin 64) (l : Fin 1472) (k : Fin 2104)
    (hl : l.val = 768 + 128 * h.val + d.val) (hk : k.val = 1184 + 64 * h.val + d.val) : colsK w (ix2 f l) = w (ix2 f k) := by
  match h with
  | ⟨0, _⟩ => exact (colsK_piece w f l d 5 (by simp only [listK, List.length]; omega) (extractStridedSlice S1024x64 ![0, 1184] w slices_S1024x2104_S1024x64_0_1184) rfl 768
      (by simp [listK]) (by simp only [] at hl; omega)).trans (slice64_apply w 1184 _ f d k (by simp only [] at hk; omega))
  | ⟨1, _⟩ => exact (colsK_piece w f l d 7 (by simp only [listK, List.length]; omega) (extractStridedSlice S1024x64 ![0, 1248] w slices_S1024x2104_S1024x64_0_1248) rfl 896
      (by simp [listK]) (by simp only [] at hl; omega)).trans (slice64_apply w 1248 _ f d k (by simp only [] at hk; omega))
  | ⟨2, _⟩ => exact (colsK_piece w f l d 9 (by simp only [listK, List.length]; omega) (extractStridedSlice S1024x64 ![0, 1312] w slices_S1024x2104_S1024x64_0_1312) rfl 1024
      (by simp [listK]) (by simp only [] at hl; omega)).trans (slice64_apply w 1312 _ f d k (by simp only [] at hk; omega))
  | ⟨3, _⟩ => exact (colsK_piece w f l d 11 (by simp only [listK, List.length]; omega) (extractStridedSlice S1024x64 ![0, 1376] w slices_S1024x2104_S1024x64_0_1376) rfl 1152
      (by simp [listK]) (by simp only [] at hl; omega)).trans (slice64_apply w 1376 _ f d k (by simp only [] at hk; omega))
  | ⟨4, _⟩ => exact (colsK_piece w f l d 13 (by simp only [listK, List.length]; omega) (extractStridedSlice S1024x64 ![0, 1440] w slices_S1024x2104_S1024x64_0_1440) rfl 1280
      (by simp [listK]) (by simp only [] at hl; omega)).trans (slice64_apply w 1440 _ f d k (by simp only [] at hk; omega))
  | ⟨5, _⟩ => exact (colsK_piece w f l d 15 (by simp only [listK, List.length]; omega) (extractStridedSlice S1024x64 ![0, 1504] w slices_S1024x2104_S1024x64_0_1504) rfl 1408
      (by simp [listK]) (by simp only [] at hl; omega)).trans (slice64_apply w 1504 _ f d k (by simp only [] at hk; omega))

theorem colsK_gap (w : FVec Ideal S1024x2104 .f32) (f : Fin 1024) (h : Fin 5) (d : Fin 64) (l : Fin 1472)
    (hl : l.val = 832 + 128 * h.val + d.val) : colsK w (ix2 f l) = 0 := by
  match h with
  | ⟨0, _⟩ => exact (colsK_piece w f l d 6 (by simp only [listK, List.length]; omega) zeros64 rfl 832 (by simp [listK])
      (by simp only [] at hl; omega)).trans (zeros64_apply f d)
  | ⟨1, _⟩ => exact (colsK_piece w f l d 8 (by simp only [listK, List.length]; omega) zeros64 rfl 960 (by simp [listK])
      (by simp only [] at hl; omega)).trans (zeros64_apply f d)
  | ⟨2, _⟩ => exact (colsK_piece w f l d 10 (by simp only [listK, List.length]; omega) zeros64 rfl 1088 (by simp [listK])
      (by simp only [] at hl; omega)).trans (zeros64_apply f d)
  | ⟨3, _⟩ => exact (colsK_piece w f l d 12 (by simp only [listK, List.length]; omega) zeros64 rfl 1216 (by simp [listK])
      (by simp only [] at hl; omega)).trans (zeros64_apply f d)
  | ⟨4, _⟩ => exact (colsK_piece w f l d 14 (by simp only [listK, List.length]; omega) zeros64 rfl 1344 (by simp [listK])
      (by simp only [] at hl; omega)).trans (zeros64_apply f d)

theorem colsN_head (w : FVec Ideal S1024x2104 .f32) (f : Fin 1024) (h : Fin 2) (d : Fin 64) (l : Fin 832) (k : Fin 2104)
    (hl : l.val = 64 + 128 * h.val + d.val) (hk : k.val = 1568 + 64 * h.val + d.val) : colsN w (ix2 f l) = w (ix2 f k) := by
  pointwise [colsN]
  rw [dif_neg (by omega)]
  match h with
  | ⟨0, _⟩ =>
    rw [dif_pos (show l.val - 64 < 64 by simp only [] at hl; omega)]
    exact congrArg (fun k => w (ix2 f k)) (Fin.ext (show 1568 + (l.val - 64) = k.val by simp only [] at hl hk; omega))
  | ⟨1, _⟩ =>
    simp only [] at hl hk
    rw [dif_neg (by omega), dif_neg (by omega), dif_pos (by omega)]
    exact congrArg (fun k => w (ix2 f k)) (Fin.ext (show 1632 + (l.val - 64 - 64 - 64) = k.val by omega))

theorem colsN_gap (w : FVec Ideal S1024x2104 .f32) (f : Fin 1024) (l : Fin 832) (hl : l.val < 320) (h : l.val % 128 < 64) : colsN w (ix2 f l) = 0 := by
  pointwise [colsN, zeros64]
  by_cases h0 : l.val < 64
  · rw [dif_pos h0]
  rw [dif_neg h0, dif_neg (by omega)]
  by_cases h1 : l.val < 192
  · rw [dif_pos (by omega)]
  rw [dif_neg (by omega), dif_neg (by omega), dif_pos (by omega)]

theorem colsN_last (w : FVec Ideal S1024x2104 .f32) (f : Fin 1024) (l : Fin 832) (hl : 728 ≤ l.val) : colsN w (ix2 f l) = 0 := by
  pointwise [colsN, zeros104]
  rw [dif_neg (by omega), dif_neg (by omega), dif_neg (by omega), dif_neg (by omega), dif_neg (by omega), dif_neg (by omega)]

theorem cols_Q (w : FVec Ideal S1024x2104 .f32) (f : Fin 1024) (l : Fin 3328) (h : l.val < 1024) : cols w (ix2 f l) = colsQ w (ix2 f ⟨l.val, h⟩) := by
  pointwise [cols]
  rw [dif_pos h]

theorem cols_K (w : FVec Ideal S1024x2104 .f32) (f : Fin 1024) (l : Fin 3328) (h : 1024 ≤ l.val) (h' : l.val < 2496) :
    cols w (ix2 f l) = colsK w (ix2 f ⟨l.val - 1024, by omega⟩) := by
  pointwise [cols]
  rw [dif_neg (by omega), dif_pos (by omega)]

theorem cols_N (w : FVec Ideal S1024x2104 .f32) (f : Fin 1024) (l : Fin 3328) (h : 2496 ≤ l.val) :
    cols w (ix2 f l) = colsN w (ix2 f ⟨l.val - 1024 - 1472, by omega⟩) := by
  pointwise [cols]
  rw [dif_neg (by omega), dif_neg (by omega)]

/-- The first heads' columns: 64 and then 64 of zeros. -/
theorem cols_first (w : FVec Ideal S1024x2104 .f32) (f : Fin 1024) (l : Fin 3328) (k : Fin 2104) (h : l.val < 1024) (hd : l.val % 128 < 64)
    (hk : k.val = 64 * (l.val / 128) + l.val % 128) : cols w (ix2 f l) = w (ix2 f k) :=
  (cols_Q w f l h).trans (colsQ_head w f ⟨l.val / 128, by omega⟩ ⟨l.val % 128, hd⟩ _ k (by simp only []; omega) hk)

theorem cols_first_gap (w : FVec Ideal S1024x2104 .f32) (f : Fin 1024) (l : Fin 3328) (h : l.val < 1024) (hd : ¬ l.val % 128 < 64) :
    cols w (ix2 f l) = 0 :=
  (cols_Q w f l h).trans (colsQ_gap w f ⟨l.val / 128, by omega⟩ ⟨l.val % 128 - 64, by omega⟩ _ (by simp only []; omega))

/-- The second heads' columns: 64 and then 64 of zeros. -/
theorem cols_second (w : FVec Ideal S1024x2104 .f32) (f : Fin 1024) (l : Fin 3328) (k : Fin 2104) (h : 1792 ≤ l.val) (h' : l.val < 2816)
    (hd : l.val % 128 < 64) (hk : k.val = 1184 + 64 * ((l.val - 1792) / 128) + l.val % 128) : cols w (ix2 f l) = w (ix2 f k) := by
  by_cases h2 : l.val < 2496
  · exact (cols_K w f l (by omega) h2).trans (colsK_head w f ⟨(l.val - 1792) / 128, by omega⟩ ⟨l.val % 128, hd⟩ _ k (by simp only []; omega) hk)
  · exact (cols_N w f l (by omega)).trans (colsN_head w f ⟨(l.val - 1792) / 128 - 6, by omega⟩ ⟨l.val % 128, hd⟩ _ k
      (by simp only []; omega) (by simp only []; omega))

theorem cols_second_gap (w : FVec Ideal S1024x2104 .f32) (f : Fin 1024) (l : Fin 3328) (h : 1792 ≤ l.val) (h' : l.val < 2816)
    (hd : ¬ l.val % 128 < 64) : cols w (ix2 f l) = 0 := by
  by_cases h2 : l.val < 2496
  · exact (cols_K w f l (by omega) h2).trans (colsK_gap w f ⟨(l.val - 1792) / 128, by omega⟩ ⟨l.val % 128 - 64, by omega⟩ _ (by simp only []; omega))
  · exact (cols_N w f l (by omega)).trans (colsN_gap w f _ (by simp only []; omega) (by simp only []; omega))

/-- The gates' columns and zeros after them. -/
theorem cols_gate (w : FVec Ideal S1024x2104 .f32) (f : Fin 1024) (l : Fin 3328) (k : Fin 2104) (h : 3200 ≤ l.val) (h' : l.val < 3224)
    (hk : k.val = l.val - 1120) : cols w (ix2 f l) = w (ix2 f k) :=
  (cols_N w f l (by omega)).trans ((colsN_apply w f _ (by simp only []; omega) (by simp only []; omega)).trans
    (congrArg (fun k => w (ix2 f k)) (Fin.ext (by simp only []; omega))))

theorem cols_gate_gap (w : FVec Ideal S1024x2104 .f32) (f : Fin 1024) (l : Fin 3328) (h : 3224 ≤ l.val) : cols w (ix2 f l) = 0 :=
  (cols_N w f l (by omega)).trans (colsN_last w f _ (by simp only []; omega))

end Cert.Proj

end
-- ==== Proof.ProjHeads.lean ====
/-
  The blocks of eight heads and of the gates that a point of the projection kernel's grid writes, at an index.
-/
module

public import proofs.«01_k».proof.Proof.ProjOut

@[expose] public section

set_option maxRecDepth 65536

noncomputable section

namespace Cert.Proj

open Idealize.ShloMosaic Cert.Kernel6Ideal Cert.Kernel6Ideal.Gen Cert.Row

/-- The rotation of a head's first sixteen lanes, at every lane. -/
def turn8 (z c s : FVec Ideal S256x128 .f32) : FVec Ideal S256x128 .f32 :=
  addf (mulf z c) (mulf (select (cmpi .slt (andi lane (broadcast S256x128 63#32)) (broadcast S256x128 8#32))
    (dynamicRotate 1 120#32 none z rotates_S256x128_d1) (dynamicRotate 1 8#32 none z rotates_S256x128_d1)) s)

/-- A rotated head, its lanes from 64 on being zeros. -/
theorem turn8_apply (z c s : FVec Ideal S256x128 .f32) (a : Fin 256) (d : Fin 128) (t : ℕ) (Z : ℕ → EReal)
    (hz : ∀ e : Fin 128, z (ix2 a e) = Z e.val) (hz0 : ∀ e, 64 ≤ e → e < 128 → Z e = 0)
    (hc : c (ix2 a d) = if d.val % 64 < 16 then Ideal.cos (ang 0x41800000#32 t (d.val % 8)) else 1)
    (hs : s (ix2 a d) = if d.val % 64 < 8 then -Ideal.sin (ang 0x41800000#32 t (d.val % 8))
      else if d.val % 64 < 16 then Ideal.sin (ang 0x41800000#32 t (d.val % 8)) else 0) :
    turn8 z c s (ix2 a d) = if d.val < 64 then rope 8 0x41800000#32 Z t d.val else 0 := by
  pointwise [turn8]
  rw [lane_apply, first8, hz, hz, hz]
  by_cases h : d.val < 64
  · rw [if_pos h, ← rope_table8 _ _ _ _ h, hc, hs]
    show _ + _ * _ = _
    by_cases h' : d.val % 64 < 8
    · simp only [if_pos h']
      show _ + Z _ * _ = _
      rw [show (d.val + 128 - 120) % 128 = d.val + 8 by omega]
    · simp only [if_neg h']
      show _ + Z _ * _ = _
      by_cases h'' : d.val % 64 < 16
      · rw [show (d.val + 128 - 8) % 128 = d.val - 8 by omega]
      · simp only [if_neg h'', mul_zero]
  · rw [if_neg h, hz0 _ (by omega) d.isLt, zero_mul]
    show 0 + _ * _ = _
    by_cases h' : d.val % 64 < 8
    · simp only [if_pos h']
      show 0 + Z _ * _ = _
      rw [hz0 _ (by omega) (by omega), zero_mul, add_zero]
    · simp only [if_neg h']
      show 0 + Z _ * _ = _
      rw [hz0 _ (by omega) (by omega), zero_mul, add_zero]

/-- The heads of a block of 1024 lanes. -/
def head (z : FVec Ideal S256x1024 .f32) : Fin 8 → FVec Ideal S256x128 .f32 :=
  ![extractStridedSlice S256x128 ![0, 0] z slices_S256x1024_o0_0_S256x128,
    extractStridedSlice S256x128 ![0, 128] z slices_S256x1024_o0_128_S256x128,
    extractStridedSlice S256x128 ![0, 256] z slices_S256x1024_o0_256_S256x128,
    extractStridedSlice S256x128 ![0, 384] z slices_S256x1024_o0_384_S256x128,
    extractStridedSlice S256x128 ![0, 512] z slices_S256x1024_o0_512_S256x128,
    extractStridedSlice S256x128 ![0, 640] z slices_S256x1024_o0_640_S256x128,
    extractStridedSlice S256x128 ![0, 768] z slices_S256x1024_o0_768_S256x128,
    extractStridedSlice S256x128 ![0, 896] z slices_S256x1024_o0_896_S256x128]

theorem slice128_apply (z : FVec Ideal S256x1024 .f32) (o : ℕ) (h : S256x1024.Slices ![0, o] S256x128) (a : Fin 256) (d : Fin 128) (l : Fin 1024)
    (hl : l.val = o + d.val) : extractStridedSlice S256x128 ![0, o] z h (ix2 a d) = z (ix2 a l) := by
  refine congrArg z (funext fun x => Fin.ext ?_)
  match x with
  | ⟨0, _⟩ => exact Nat.zero_add _
  | ⟨1, _⟩ => exact hl.symm

theorem head_apply (z : FVec Ideal S256x1024 .f32) (h : Fin 8) (a : Fin 256) (d : Fin 128) (l : Fin 1024) (hl : l.val = 128 * h.val + d.val) :
    head z h (ix2 a d) = z (ix2 a l) := by
  match h with
  | ⟨0, _⟩ => exact slice128_apply z 0 slices_S256x1024_o0_0_S256x128 a d l (by simp only [] at hl; omega)
  | ⟨1, _⟩ => exact slice128_apply z 128 slices_S256x1024_o0_128_S256x128 a d l (by simp only [] at hl; omega)
  | ⟨2, _⟩ => exact slice128_apply z 256 slices_S256x1024_o0_256_S256x128 a d l (by simp only [] at hl; omega)
  | ⟨3, _⟩ => exact slice128_apply z 384 slices_S256x1024_o0_384_S256x128 a d l (by simp only [] at hl; omega)
  | ⟨4, _⟩ => exact slice128_apply z 512 slices_S256x1024_o0_512_S256x128 a d l (by simp only [] at hl; omega)
  | ⟨5, _⟩ => exact slice128_apply z 640 slices_S256x1024_o0_640_S256x128 a d l (by simp only [] at hl; omega)
  | ⟨6, _⟩ => exact slice128_apply z 768 slices_S256x1024_o0_768_S256x128 a d l (by simp only [] at hl; omega)
  | ⟨7, _⟩ => exact slice128_apply z 896 slices_S256x1024_o0_896_S256x128 a d l (by simp only [] at hl; omega)

/-- The rotated heads side by side. -/
def turned (z : FVec Ideal S256x1024 .f32) (c s : FVec Ideal S256x128 .f32) : FVec Ideal S256x1024 .f32 :=
  concatenate S256x1024 1 [⟨S256x128, turn8 (head z 0) c s⟩, ⟨S256x128, turn8 (head z 1) c s⟩, ⟨S256x128, turn8 (head z 2) c s⟩,
    ⟨S256x128, turn8 (head z 3) c s⟩, ⟨S256x128, turn8 (head z 4) c s⟩, ⟨S256x128, turn8 (head z 5) c s⟩, ⟨S256x128, turn8 (head z 6) c s⟩,
    ⟨S256x128, turn8 (head z 7) c s⟩]
    concatenates_S256x128_S256x128_S256x128_S256x128_S256x128_S256x128_S256x128_S256x128_S256x1024_d1

theorem turned_piece (z : FVec Ideal S256x1024 .f32) (c s : FVec Ideal S256x128 .f32) (a : Fin 256) (l : Fin 1024) :
    turned z c s (ix2 a l) = turn8 (head z ⟨l.val / 128, by omega⟩) c s (ix2 a ⟨l.val % 128, by omega⟩) :=
  concatenate_ofFn_apply (t := S256x1024) (s₁ := S256x128) 1 (fun h : Fin 8 => turn8 (head z h) c s) _ rfl 128 rfl (ix2 a l) ⟨l.val / 128, by omega⟩
    rfl (ix2 a ⟨l.val % 128, by omega⟩) rfl
    (fun b hb => by
      match b with
      | ⟨0, _⟩ => rfl
      | ⟨1, _⟩ => exact absurd rfl hb)

theorem turned_apply (z : FVec Ideal S256x1024 .f32) (c s : FVec Ideal S256x128 .f32) (a : Fin 256) (l : Fin 1024) (t : ℕ) (Z : ℕ → EReal)
    (hz : ∀ e : Fin 1024, z (ix2 a e) = Z e.val) (hz0 : ∀ e, e < 1024 → 64 ≤ e % 128 → Z e = 0)
    (hc : ∀ d : Fin 128, c (ix2 a d) = if d.val % 64 < 16 then Ideal.cos (ang 0x41800000#32 t (d.val % 8)) else 1)
    (hs : ∀ d : Fin 128, s (ix2 a d) = if d.val % 64 < 8 then -Ideal.sin (ang 0x41800000#32 t (d.val % 8))
      else if d.val % 64 < 16 then Ideal.sin (ang 0x41800000#32 t (d.val % 8)) else 0) :
    turned z c s (ix2 a l) = if l.val % 128 < 64 then rope 8 0x41800000#32 (fun d => Z (128 * (l.val / 128) + d)) t (l.val % 128) else 0 := by
  refine (turned_piece z c s a l).trans ?_
  exact turn8_apply _ c s a ⟨l.val % 128, by omega⟩ t (fun d => Z (128 * (l.val / 128) + d))
    (fun e => (head_apply z _ a e ⟨128 * (l.val / 128) + e.val, by omega⟩ rfl).trans (hz _))
    (fun e h h' => hz0 _ (by omega) (by omega)) (hc _) (hs _)

theorem pay26_apply (h : FVec Ideal S256x1024 .bf16) (w : FVec Ideal S1024x1024 .bf16) (a : Fin 256) (d : Fin 1024) :
    k0_pay26 (F := Ideal) h w (ix2 a d) = ∑ f, h (ix2 a f) * w (ix2 f d) := by
  pointwise [k0_pay26]

theorem ld_heads (x2 : FVec Ideal S1024x3328 .bf16) (o : ℕ) (inb) (f : Fin 1024) (j : Fin 1024) (l : Fin 3328) (hl : l.val = o + j.val) :
    View.ld (Val := Elt Ideal) (e' := .bf16) x2 (Rect.unit (s := S1024x3328) ![0, o] S1024x1024.size inb) (ix2 f j) = x2 (ix2 f l) := by
  refine congrArg x2 (funext fun x => Fin.ext ?_)
  match x with
  | ⟨0, _⟩ => show 0 + 1 * f.val = f.val; omega
  | ⟨1, _⟩ => show o + 1 * j.val = l.val; omega

theorem pay42_apply (h : FVec Ideal S256x1024 .bf16) (w : FVec Ideal S1024x128 .bf16) (a : Fin 256) (d : Fin 128) :
    k0_pay42 (F := Ideal) h w (ix2 a d) = gateOf (k0_pay36 (F := Ideal) h w (ix2 a d)) := by
  pointwise [k0_pay42, k0_pay36, gateOf]
  rw [zero_sub]

section

variable (x0 : FVec Ideal S256x1024 .f32) (x1 : FVec Ideal S1x1024 .f32) (x2 : FVec Ideal S1024x3328 .bf16)
  (x3 : FVec Ideal S1x256 .f32) (x4 : FVec Ideal S256x768 .bf16) (x5 : FVec Ideal S768x2048 .bf16) (x6 : FVec Ideal S1x128 .f32)
  (x7 x8 x9 x10 : FVec Ideal S256x128 .f32) (a : Fin 256) (t : ℕ)

theorem heads_col (o : ℕ) (inb) (j : Fin 1024) (ho : o + 1024 ≤ 3328) :
    k0_pay26 (F := Ideal) (k0_pay1 (F := Ideal) x0 x1)
      (View.ld (Val := Elt Ideal) (e' := .bf16) x2 (Rect.unit (s := S1024x3328) ![0, o] S1024x1024.size inb)) (ix2 a j)
      = zcol x0 x1 x2 a (o + j.val) := by
  rw [pay26_apply, zcol, blockCol, dif_pos (show o + j.val < 3328 by omega)]
  refine Finset.sum_congr rfl fun f _ => ?_
  rw [row_apply, ld_heads x2 o inb f j ⟨o + j.val, by omega⟩ rfl]

theorem out15_apply (l : Fin 1024) : out0_15 (F := Ideal) x0 x1 x2 x3 x4 x5 x6 x7 x8 x9 x10 (ix2 a l) = zcol x0 x1 x2 a (1792 + l.val) := by
  unfold out0_15 k0_pay44
  rw [View.canon_unit_zero zero_off]
  repeat rw [View.ld_unit_zero zero_off]
  exact heads_col x0 x1 x2 a 1792 _ l (by omega)

theorem out20_apply (l : Fin 128) : out0_20 (F := Ideal) x0 x1 x2 x3 x4 x5 x6 x7 x8 x9 x10 (ix2 a l) = gateOf (zcol x0 x1 x2 a (3200 + l.val)) := by
  unfold out0_20 k0_pay44
  rw [View.canon_unit_zero zero_off]
  repeat rw [View.ld_unit_zero zero_off]
  exact (pay42_apply _ _ a l).trans (congrArg gateOf (narrow_apply x0 x1 x2 a 3200 _ l (by omega)))

section

variable (hc : ∀ d : Fin 128, x7 (ix2 a d) = if d.val % 64 < 16 then Ideal.cos (ang 0x41800000#32 t (d.val % 8)) else 1)
  (hs : ∀ d : Fin 128, x8 (ix2 a d) = if d.val % 64 < 8 then -Ideal.sin (ang 0x41800000#32 t (d.val % 8))
      else if d.val % 64 < 16 then Ideal.sin (ang 0x41800000#32 t (d.val % 8)) else 0)

include hc hs

theorem out11_apply (hz : ∀ e, e < 1024 → 64 ≤ e % 128 → zcol x0 x1 x2 a (0 + e) = 0) (l : Fin 1024) :
    out0_11 (F := Ideal) x0 x1 x2 x3 x4 x5 x6 x7 x8 x9 x10 (ix2 a l) =
    if l.val % 128 < 64 then rope 8 0x41800000#32 (fun d => zcol x0 x1 x2 a (0 + (128 * (l.val / 128) + d))) t (l.val % 128) else 0 := by
  unfold out0_11 k0_pay50 k0_pay49 k0_pay46 k0_pay45
  rw [View.canon_unit_zero zero_off]
  repeat rw [View.ld_unit_zero zero_off]
  change turned (k0_pay26 (F := Ideal) (k0_pay1 (F := Ideal) x0 x1) (View.ld x2 r0_3)) (k0_pay2 x7) (k0_pay3 x8) (ix2 a l) = _
  rw [same2, same3]
  exact turned_apply _ x7 x8 a l t (fun e => zcol x0 x1 x2 a (0 + e)) (fun e => heads_col x0 x1 x2 a 0 _ e (by omega)) hz hc hs

theorem out16_apply (hz : ∀ e, e < 1024 → 64 ≤ e % 128 → zcol x0 x1 x2 a (1792 + e) = 0) (l : Fin 1024) :
    out0_16 (F := Ideal) x0 x1 x2 x3 x4 x5 x6 x7 x8 x9 x10 (ix2 a l) =
    if l.val % 128 < 64 then rope 8 0x41800000#32 (fun d => zcol x0 x1 x2 a (1792 + (128 * (l.val / 128) + d))) t (l.val % 128) else 0 := by
  unfold out0_16 k0_pay46 k0_pay45 k0_pay44 k0_pay43
  rw [View.canon_unit_zero zero_off]
  repeat rw [View.ld_unit_zero zero_off]
  change turned (k0_pay26 (F := Ideal) (k0_pay1 (F := Ideal) x0 x1) (View.ld x2 r0_16)) (k0_pay2 x7) (k0_pay3 x8) (ix2 a l) = _
  rw [same2, same3]
  exact turned_apply _ x7 x8 a l t (fun e => zcol x0 x1 x2 a (1792 + e)) (fun e => heads_col x0 x1 x2 a 1792 _ e (by omega)) hz hc hs

end

end

end Cert.Proj

end
-- ==== Proof.ProjQueries.lean ====
/-
  The projection kernel's arrays of heads and of gates, at an index.
-/
module

public import proofs.«01_k».proof.Proof.Proj
public import proofs.«01_k».proof.Proof.ProjCols
public import proofs.«01_k».proof.Proof.ProjHeads

@[expose] public section

set_option maxRecDepth 65536

noncomputable section

namespace Cert.Proj

open Idealize.ShloMosaic Idealize.ShloMosaic.TcCoe Cert.Kernel6Ideal Cert.Kernel6Ideal.Gen Cert.Row

variable (m : (ℓ : Loc nD τ sig) → Buf (Elt Ideal) ℓ) (c : Dev nD)

theorem at11 : ∀ t : Fin cfg0.N, win0_11.index t (0 : Fin 2) = t.val ∧ win0_11.index t (1 : Fin 2) = 0 :=
  (by decide +kernel : ∀ t : Fin grid0.N, _)

theorem at15 : ∀ t : Fin cfg0.N, win0_15.index t (0 : Fin 2) = t.val ∧ win0_15.index t (1 : Fin 2) = 0 :=
  (by decide +kernel : ∀ t : Fin grid0.N, _)

theorem at16 : ∀ t : Fin cfg0.N, win0_16.index t (0 : Fin 2) = t.val ∧ win0_16.index t (1 : Fin 2) = 0 :=
  (by decide +kernel : ∀ t : Fin grid0.N, _)

theorem at20 : ∀ t : Fin cfg0.N, win0_20.index t (0 : Fin 2) = t.val ∧ win0_20.index t (1 : Fin 2) = 0 :=
  (by decide +kernel : ∀ t : Fin grid0.N, _)

theorem emb11 (t : Fin cfg0.N) (a : Fin 256) (l : Fin 1024) (T : Fin 16384) (hT : T.val = 256 * t.val + a.val) :
    ((cfg0.win 11).blk t).view.emb (ix2 a l) = (ix2 T l : S16384x1024.Idx) := by
  obtain ⟨e0, e1⟩ := at11 t
  refine funext fun x => Fin.ext ?_
  match x with
  | ⟨0, _⟩ => show win0_11.index t (0 : Fin 2) * 256 + 1 * a.val = T.val; omega
  | ⟨1, _⟩ => show win0_11.index t (1 : Fin 2) * 1024 + 1 * l.val = l.val; omega

theorem emb15 (t : Fin cfg0.N) (a : Fin 256) (l : Fin 1024) (T : Fin 16384) (hT : T.val = 256 * t.val + a.val) :
    ((cfg0.win 15).blk t).view.emb (ix2 a l) = (ix2 T l : S16384x1024.Idx) := by
  obtain ⟨e0, e1⟩ := at15 t
  refine funext fun x => Fin.ext ?_
  match x with
  | ⟨0, _⟩ => show win0_15.index t (0 : Fin 2) * 256 + 1 * a.val = T.val; omega
  | ⟨1, _⟩ => show win0_15.index t (1 : Fin 2) * 1024 + 1 * l.val = l.val; omega

theorem emb16 (t : Fin cfg0.N) (a : Fin 256) (l : Fin 1024) (T : Fin 16384) (hT : T.val = 256 * t.val + a.val) :
    ((cfg0.win 16).blk t).view.emb (ix2 a l) = (ix2 T l : S16384x1024.Idx) := by
  obtain ⟨e0, e1⟩ := at16 t
  refine funext fun x => Fin.ext ?_
  match x with
  | ⟨0, _⟩ => show win0_16.index t (0 : Fin 2) * 256 + 1 * a.val = T.val; omega
  | ⟨1, _⟩ => show win0_16.index t (1 : Fin 2) * 1024 + 1 * l.val = l.val; omega

theorem emb20 (t : Fin cfg0.N) (a : Fin 256) (l : Fin 128) (T : Fin 16384) (hT : T.val = 256 * t.val + a.val) :
    ((cfg0.win 20).blk t).view.emb (ix2 a l) = (ix2 T l : S16384x128.Idx) := by
  obtain ⟨e0, e1⟩ := at20 t
  refine funext fun x => Fin.ext ?_
  match x with
  | ⟨0, _⟩ => show win0_20.index t (0 : Fin 2) * 256 + 1 * a.val = T.val; omega
  | ⟨1, _⟩ => show win0_20.index t (1 : Fin 2) * 128 + 1 * l.val = l.val; omega

/-- A column of a block's row whose weights are a column's of the layer's. -/
theorem zcol_row (t : Fin cfg0.N) (a : Fin 256) (T : Fin 16384) (hT : T.val = 256 * t.val + a.val) (l : Fin 3328) (k : Fin 2104)
    (h : ∀ f, cols (m ((c : Thread nD τ).loc main_arg2)) (ix2 f l) = m ((c : Thread nD τ).loc main_arg2) (ix2 f k)) :
    zcol (iblk m c 0 t) (iblk m c 1 t) (iblk m c 2 t) a l.val = row m c T k.val := by
  rw [zcol, row, blockCol, proj, dif_pos l.isLt, dif_pos k.isLt]
  refine Finset.sum_congr rfl fun f _ => ?_
  simp only [iblk0_apply m c t a _ T hT, iblk1_apply, iblk2_apply]
  exact congrArg _ (h f)

/-- A column of a block's row whose weights are zeros. -/
theorem zcol_zero (t : Fin cfg0.N) (a : Fin 256) (l : Fin 3328) (h : ∀ f, cols (m ((c : Thread nD τ).loc main_arg2)) (ix2 f l) = 0) :
    zcol (iblk m c 0 t) (iblk m c 1 t) (iblk m c 2 t) a l.val = 0 := by
  rw [zcol, blockCol, dif_pos l.isLt]
  refine Finset.sum_eq_zero fun f _ => ?_
  have e : iblk m c 2 t (ix2 f l) = (0 : EReal) := (iblk2_apply m c t f l).trans (h f)
  exact (congrArg _ e).trans (mul_zero _)

theorem first_row (t : Fin cfg0.N) (a : Fin 256) (T : Fin 16384) (hT : T.val = 256 * t.val + a.val) (l k : ℕ) (h : l < 1024) (hd : l % 128 < 64)
    (hk : k = 64 * (l / 128) + l % 128) : zcol (iblk m c 0 t) (iblk m c 1 t) (iblk m c 2 t) a l = row m c T k :=
  zcol_row m c t a T hT ⟨l, by omega⟩ ⟨k, by omega⟩ fun f => cols_first _ f _ _ h hd hk

theorem first_zero (t : Fin cfg0.N) (a : Fin 256) (l : ℕ) (h : l < 1024) (hd : ¬ l % 128 < 64) :
    zcol (iblk m c 0 t) (iblk m c 1 t) (iblk m c 2 t) a l = 0 :=
  zcol_zero m c t a ⟨l, by omega⟩ fun f => cols_first_gap _ f _ h hd

theorem second_row (t : Fin cfg0.N) (a : Fin 256) (T : Fin 16384) (hT : T.val = 256 * t.val + a.val) (l k : ℕ) (h : 1792 ≤ l) (h' : l < 2816)
    (hd : l % 128 < 64) (hk : k = 1184 + 64 * ((l - 1792) / 128) + l % 128) :
    zcol (iblk m c 0 t) (iblk m c 1 t) (iblk m c 2 t) a l = row m c T k :=
  zcol_row m c t a T hT ⟨l, by omega⟩ ⟨k, by omega⟩ fun f => cols_second _ f _ _ h h' hd hk

theorem second_zero (t : Fin cfg0.N) (a : Fin 256) (l : ℕ) (h : 1792 ≤ l) (h' : l < 2816) (hd : ¬ l % 128 < 64) :
    zcol (iblk m c 0 t) (iblk m c 1 t) (iblk m c 2 t) a l = 0 :=
  zcol_zero m c t a ⟨l, by omega⟩ fun f => cols_second_gap _ f _ h h' hd

section

variable (T : Fin 16384)

theorem arr11 (l : Fin 1024) : (dats m 0 c).arrAt 11 cfg0.N (ix2 T l : S16384x1024.Idx) =
    out0_11 (F := Ideal) (iblk m c 0 (pt T)) (iblk m c 1 (pt T)) (iblk m c 2 (pt T)) (iblk m c 3 (pt T)) (iblk m c 4 (pt T)) (iblk m c 5 (pt T))
      (iblk m c 6 (pt T)) (iblk m c 7 (pt T)) (iblk m c 8 (pt T)) (iblk m c 9 (pt T)) (iblk m c 10 (pt T)) (ix2 (inBlock T) l) := by
  have e := congrFun (Cert.Kernel6Ideal.Value.blocks11 m c (pt T) (flush0_11 _)) (ix2 (inBlock T) l)
  rw [Cert.Kernel6Ideal.Value.flushed11] at e
  have e' : (dats m 0 c).arrAt 11 cfg0.N (((cfg0.win 11).blk (pt T)).view.emb (ix2 (inBlock T) l)) = _ := e
  rw [emb11 _ _ l T (split_row T)] at e'
  exact e'

theorem arr15 (l : Fin 1024) : (dats m 0 c).arrAt 15 cfg0.N (ix2 T l : S16384x1024.Idx) =
    out0_15 (F := Ideal) (iblk m c 0 (pt T)) (iblk m c 1 (pt T)) (iblk m c 2 (pt T)) (iblk m c 3 (pt T)) (iblk m c 4 (pt T)) (iblk m c 5 (pt T))
      (iblk m c 6 (pt T)) (iblk m c 7 (pt T)) (iblk m c 8 (pt T)) (iblk m c 9 (pt T)) (iblk m c 10 (pt T)) (ix2 (inBlock T) l) := by
  have e := congrFun (Cert.Kernel6Ideal.Value.blocks15 m c (pt T) (flush0_15 _)) (ix2 (inBlock T) l)
  rw [Cert.Kernel6Ideal.Value.flushed15] at e
  have e' : (dats m 0 c).arrAt 15 cfg0.N (((cfg0.win 15).blk (pt T)).view.emb (ix2 (inBlock T) l)) = _ := e
  rw [emb15 _ _ l T (split_row T)] at e'
  exact e'

theorem arr16 (l : Fin 1024) : (dats m 0 c).arrAt 16 cfg0.N (ix2 T l : S16384x1024.Idx) =
    out0_16 (F := Ideal) (iblk m c 0 (pt T)) (iblk m c 1 (pt T)) (iblk m c 2 (pt T)) (iblk m c 3 (pt T)) (iblk m c 4 (pt T)) (iblk m c 5 (pt T))
      (iblk m c 6 (pt T)) (iblk m c 7 (pt T)) (iblk m c 8 (pt T)) (iblk m c 9 (pt T)) (iblk m c 10 (pt T)) (ix2 (inBlock T) l) := by
  have e := congrFun (Cert.Kernel6Ideal.Value.blocks16 m c (pt T) (flush0_16 _)) (ix2 (inBlock T) l)
  rw [Cert.Kernel6Ideal.Value.flushed16] at e
  have e' : (dats m 0 c).arrAt 16 cfg0.N (((cfg0.win 16).blk (pt T)).view.emb (ix2 (inBlock T) l)) = _ := e
  rw [emb16 _ _ l T (split_row T)] at e'
  exact e'

theorem arr20 (l : Fin 128) : (dats m 0 c).arrAt 20 cfg0.N (ix2 T l : S16384x128.Idx) =
    out0_20 (F := Ideal) (iblk m c 0 (pt T)) (iblk m c 1 (pt T)) (iblk m c 2 (pt T)) (iblk m c 3 (pt T)) (iblk m c 4 (pt T)) (iblk m c 5 (pt T))
      (iblk m c 6 (pt T)) (iblk m c 7 (pt T)) (iblk m c 8 (pt T)) (iblk m c 9 (pt T)) (iblk m c 10 (pt T)) (ix2 (inBlock T) l) := by
  have e := congrFun (Cert.Kernel6Ideal.Value.blocks20 m c (pt T) (flush0_20 _)) (ix2 (inBlock T) l)
  rw [Cert.Kernel6Ideal.Value.flushed20] at e
  have e' : (dats m 0 c).arrAt 20 cfg0.N (((cfg0.win 20).blk (pt T)).view.emb (ix2 (inBlock T) l)) = _ := e
  rw [emb20 _ _ l T (split_row T)] at e'
  exact e'

theorem blocksQ_apply (l : Fin 1024) : (dats m 0 c).arrAt 11 cfg0.N (ix2 T l : S16384x1024.Idx) =
    if l.val % 128 < 64 then rope 8 0x41800000#32 (fun d => row m c T (0 + 64 * (l.val / 128) + d)) (T.val % 4096) (l.val % 128) else 0 := by
  refine (arr11 m c T l).trans ((out11_apply _ _ _ _ _ _ _ _ _ _ _ (inBlock T) (T.val % 4096) (tab7 m c T) (tab8 m c T)
    (fun e h h' => first_zero m c (pt T) (inBlock T) (0 + e) (by omega) (by omega)) l).trans ?_)
  split_ifs with h
  · exact rope_congr _ _ _ _ _ _ 64 (by omega) h fun i hi =>
      first_row m c (pt T) (inBlock T) T (split_row T) _ _ (by omega) (by omega) (by omega)
  · rfl

theorem headsRaw_apply (l : Fin 1024) : (dats m 0 c).arrAt 15 cfg0.N (ix2 T l : S16384x1024.Idx) =
    if l.val % 128 < 64 then row m c T (1184 + 64 * (l.val / 128) + l.val % 128) else 0 := by
  refine (arr15 m c T l).trans ((out15_apply _ _ _ _ _ _ _ _ _ _ _ (inBlock T) l).trans ?_)
  split_ifs with h
  · exact second_row m c (pt T) (inBlock T) T (split_row T) _ _ (by omega) (by omega) (by omega) (by omega)
  · exact second_zero m c (pt T) (inBlock T) _ (by omega) (by omega) (by omega)

theorem headsRot_apply (l : Fin 1024) : (dats m 0 c).arrAt 16 cfg0.N (ix2 T l : S16384x1024.Idx) =
    if l.val % 128 < 64 then rope 8 0x41800000#32 (fun d => row m c T (1184 + 64 * (l.val / 128) + d)) (T.val % 4096) (l.val % 128) else 0 := by
  refine (arr16 m c T l).trans ((out16_apply _ _ _ _ _ _ _ _ _ _ _ (inBlock T) (T.val % 4096) (tab7 m c T) (tab8 m c T)
    (fun e h h' => second_zero m c (pt T) (inBlock T) (1792 + e) (by omega) (by omega) (by omega)) l).trans ?_)
  split_ifs with h
  · exact rope_congr _ _ _ _ _ _ 64 (by omega) h fun i hi =>
      second_row m c (pt T) (inBlock T) T (split_row T) _ _ (by omega) (by omega) (by omega) (by omega)
  · rfl

theorem gates_apply (l : Fin 128) : (dats m 0 c).arrAt 20 cfg0.N (ix2 T l : S16384x128.Idx) =
    if l.val < 24 then gateOf (row m c T (2080 + l.val)) else Ideal.ofBits .f32 0x3F000000#32 := by
  refine (arr20 m c T l).trans ((out20_apply _ _ _ _ _ _ _ _ _ _ _ (inBlock T) l).trans ?_)
  split_ifs with h
  · exact congrArg gateOf (zcol_row m c (pt T) (inBlock T) T (split_row T) ⟨3200 + l.val, by omega⟩ ⟨2080 + l.val, by omega⟩ fun f =>
      cols_gate _ f _ _ (by simp only []; omega) (by simp only []; omega) (by simp only []; omega))
  · exact (congrArg gateOf (zcol_zero m c (pt T) (inBlock T) ⟨3200 + l.val, by omega⟩ fun f => cols_gate_gap _ f _ (by simp only []; omega))).trans gateOf_zero

end

end Cert.Proj

end
-- ==== Proof.ProjRef.lean ====
/-
  The reference of the input projection, at an index.
-/
module

public import proofs.«01_k».proof.Proof.ProjRow
public import proofs.«01_k».proof.Proof.Gen.Reference6Ideal.Run

@[expose] public section

set_option maxRecDepth 65536

noncomputable section

namespace Cert.Proj.Reference

open Idealize.ShloMosaic Idealize.ShloMosaic.TcCoe Cert.Reference6Ideal Cert.Reference6Ideal.Gen Cert.Row Cert.Proj

/-- The position of a row. -/
def pos : IVec S16384 32 :=
  shapeCast _ (broadcastInDim S4x4096 ![0, 1] bcast_S1x4096_S4x4096_0_1 (shapeCast _ (iotaInDim S4096 32 0) shapeCasts_S4096_S1x4096))
    shapeCasts_S4x4096_S16384

/-- The projected rows. -/
def projected (x : FVec Ideal S16384x1024 .f32) (g : FVec Ideal S1024 .f32) (w : FVec Ideal S1024x2104 .f32) : FVec Ideal S16384x2104 .f32 :=
  Host.dotGeneral dot_S16384x1024_S1024x2104_S16384x2104_1_0_0_1_n_n none (mulf (mulf x (broadcastInDim S16384x1024 ![0, 1] bcast_S16384x1_S16384x1024_0_1 (Host.rsqrt (addf (Host.divf (broadcastInDim S16384x1 ![0] bcast_S16384_S16384x1_0 (Host.reduceAdd (mulf x x) (constant S_ .f32 0x00000000#32) reducesTo_S16384x1024_S16384_d1 h_S_)) (broadcastInDim S16384x1 ![] bcast_S_S16384x1 (constant S_ .f32 0x44800000#32))) (broadcastInDim S16384x1 ![] bcast_S_S16384x1 (constant S_ .f32 0x358637BD#32)))))) (broadcastInDim S16384x1024 ![0, 1] bcast_S1x1024_S16384x1024_0_1 (broadcastInDim S1x1024 ![1] bcast_S1024_S1x1024_1 g))) w

def angle8 : FVec Ideal S16384x8 .f32 :=
  mulf (broadcastInDim S16384x8 ![0, 1] bcast_S16384x1_S16384x8_0_1 (broadcastInDim S16384x1 ![0] bcast_S16384_S16384x1_0 (sitofp .f32 pos))) (broadcastInDim S16384x8 ![0, 1] bcast_S1x8_S16384x8_0_1 (broadcastInDim S1x8 ![1] bcast_S8_S1x8_1 (Host.powf (broadcastInDim S8 ![] bcast_S_S8 (constant S_ .f32 0x48F42400#32)) (Host.divf (mulf (broadcastInDim S8 ![] bcast_S_S8 (constant S_ .f32 0xC0000000#32)) (sitofp .f32 (iotaInDim S8 32 0))) (broadcastInDim S8 ![] bcast_S_S8 (constant S_ .f32 0x41800000#32))))))

def angle16 : FVec Ideal S16384x16 .f32 :=
  mulf (broadcastInDim S16384x16 ![0, 1] bcast_S16384x1_S16384x16_0_1 (broadcastInDim S16384x1 ![0] bcast_S16384_S16384x1_0 (sitofp .f32 pos))) (broadcastInDim S16384x16 ![0, 1] bcast_S1x16_S16384x16_0_1 (broadcastInDim S1x16 ![1] bcast_S16_S1x16_1 (Host.powf (broadcastInDim S16 ![] bcast_S_S16 (constant S_ .f32 0x48F42400#32)) (Host.divf (mulf (broadcastInDim S16 ![] bcast_S_S16 (constant S_ .f32 0xC0000000#32)) (sitofp .f32 (iotaInDim S16 32 0))) (broadcastInDim S16 ![] bcast_S_S16 (constant S_ .f32 0x42000000#32))))))

def cos8 : FVec Ideal S16384x1x8 .f32 := broadcastInDim S16384x1x8 ![0, 2] bcast_S16384x8_S16384x1x8_0_2 (Host.cos angle8)
def sin8 : FVec Ideal S16384x1x8 .f32 := broadcastInDim S16384x1x8 ![0, 2] bcast_S16384x8_S16384x1x8_0_2 (Host.sin angle8)
def cos16 : FVec Ideal S16384x1x16 .f32 := broadcastInDim S16384x1x16 ![0, 2] bcast_S16384x16_S16384x1x16_0_2 (Host.cos angle16)
def sin16 : FVec Ideal S16384x1x16 .f32 := broadcastInDim S16384x1x16 ![0, 2] bcast_S16384x16_S16384x1x16_0_2 (Host.sin angle16)

/-- The rotary embedding of the rows' two heads. -/
def ropeTwo (z : FVec Ideal S16384x2x64 .f32) : FVec Ideal S16384x2x64 .f32 :=
  concatenate S16384x2x64 2
    [⟨S16384x2x8, subf (mulf (extractStridedSlice S16384x2x8 ![0, 0, 0] z slices_S16384x2x64_S16384x2x8_0_0_0) (broadcastInDim S16384x2x8 ![0, 1, 2] bcast_S16384x1x8_S16384x2x8_0_1_2 cos8))
        (mulf (extractStridedSlice S16384x2x8 ![0, 0, 8] z slices_S16384x2x64_S16384x2x8_0_0_8) (broadcastInDim S16384x2x8 ![0, 1, 2] bcast_S16384x1x8_S16384x2x8_0_1_2 sin8))⟩,
      ⟨S16384x2x8, addf (mulf (extractStridedSlice S16384x2x8 ![0, 0, 8] z slices_S16384x2x64_S16384x2x8_0_0_8) (broadcastInDim S16384x2x8 ![0, 1, 2] bcast_S16384x1x8_S16384x2x8_0_1_2 cos8))
        (mulf (extractStridedSlice S16384x2x8 ![0, 0, 0] z slices_S16384x2x64_S16384x2x8_0_0_0) (broadcastInDim S16384x2x8 ![0, 1, 2] bcast_S16384x1x8_S16384x2x8_0_1_2 sin8))⟩,
      ⟨S16384x2x48, extractStridedSlice S16384x2x48 ![0, 0, 16] z slices_S16384x2x64_S16384x2x48_0_0_16⟩]
    concatenates_S16384x2x8_S16384x2x8_S16384x2x48_S16384x2x64_d2

/-- The rotary embedding of the rows' one head. -/
def ropeOne (z : FVec Ideal S16384x1x64 .f32) : FVec Ideal S16384x1x64 .f32 :=
  concatenate S16384x1x64 2
    [⟨S16384x1x8, subf (mulf (extractStridedSlice S16384x1x8 ![0, 0, 0] z slices_S16384x1x64_S16384x1x8_0_0_0) cos8)
        (mulf (extractStridedSlice S16384x1x8 ![0, 0, 8] z slices_S16384x1x64_S16384x1x8_0_0_8) sin8)⟩,
      ⟨S16384x1x8, addf (mulf (extractStridedSlice S16384x1x8 ![0, 0, 8] z slices_S16384x1x64_S16384x1x8_0_0_8) cos8)
        (mulf (extractStridedSlice S16384x1x8 ![0, 0, 0] z slices_S16384x1x64_S16384x1x8_0_0_0) sin8)⟩,
      ⟨S16384x1x48, extractStridedSlice S16384x1x48 ![0, 0, 16] z slices_S16384x1x64_S16384x1x48_0_0_16⟩]
    concatenates_S16384x1x8_S16384x1x8_S16384x1x48_S16384x1x64_d2

/-- The rotary embedding of all of a head's 32 lanes. -/
def ropeWhole (z : FVec Ideal S16384x1x32 .f32) : FVec Ideal S16384x1x32 .f32 :=
  concatenate S16384x1x32 2
    [⟨S16384x1x16, subf (mulf (extractStridedSlice S16384x1x16 ![0, 0, 0] z slices_S16384x1x32_S16384x1x16_0_0_0) cos16)
        (mulf (extractStridedSlice S16384x1x16 ![0, 0, 16] z slices_S16384x1x32_S16384x1x16_0_0_16) sin16)⟩,
      ⟨S16384x1x16, addf (mulf (extractStridedSlice S16384x1x16 ![0, 0, 16] z slices_S16384x1x32_S16384x1x16_0_0_16) cos16)
        (mulf (extractStridedSlice S16384x1x16 ![0, 0, 0] z slices_S16384x1x32_S16384x1x16_0_0_0) sin16)⟩,
      ⟨S16384x1x0, extractStridedSlice S16384x1x0 ![0, 0, 32] z slices_S16384x1x32_S16384x1x0_0_0_32⟩]
    concatenates_S16384x1x16_S16384x1x16_S16384x1x0_S16384x1x32_d2

theorem pos_apply (r : Fin 16384) : pos (ix1 r) = BitVec.ofNat 32 (r.val % 4096) := by
  pointwise [pos]

theorem projected_apply (x : FVec Ideal S16384x1024 .f32) (g : FVec Ideal S1024 .f32) (w : FVec Ideal S1024x2104 .f32)
    (r : Fin 16384) (c : Fin 2104) : projected x g w (ix2 r c)
      = ∑ f, rms (fun i => x (ix2 r i)) (fun i => g (ix1 i)) f * w (ix2 f c) := by
  pointwise [projected, rms]

theorem angle8_apply (r : Fin 16384) (i : Fin 8) : angle8 (ix2 r i) = ang 0x41800000#32 (r.val % 4096) i.val := by
  pointwise [angle8]
  rw [pos_apply]; rfl

theorem angle16_apply (r : Fin 16384) (i : Fin 16) : angle16 (ix2 r i) = ang 0x42000000#32 (r.val % 4096) i.val := by
  pointwise [angle16]
  rw [pos_apply]; rfl

theorem ropeTwo_apply (z : FVec Ideal S16384x2x64 .f32) (Z : ℕ → EReal) (r : Fin 16384) (q : Fin 2) (hZ : ∀ d : Fin 64, z (ix3 r q d) = Z d.val)
    (d : Fin 64) : ropeTwo z (ix3 r q d) = rope 8 0x41800000#32 Z (r.val % 4096) d.val := by
  pointwise [ropeTwo, cos8, sin8]
  rw [rope]
  by_cases h : d.val < 8
  · rw [dif_pos h, if_pos h, angle8_apply, hZ, hZ]
    simp only [Nat.add_comm 8]
  · rw [dif_neg h, if_neg h]
    by_cases h' : d.val - 8 < 8
    · rw [dif_pos h', if_pos (show d.val < 2 * 8 by omega), angle8_apply, hZ, hZ]
      simp only [show 8 + (d.val - 8) = d.val by omega]
    · rw [dif_neg h', if_neg (show ¬ d.val < 2 * 8 by omega), hZ]
      simp only [show 16 + (d.val - 8 - 8) = d.val by omega]

theorem ropeOne_apply (z : FVec Ideal S16384x1x64 .f32) (Z : ℕ → EReal) (r : Fin 16384) (hZ : ∀ d : Fin 64, z (ix3 r 0 d) = Z d.val)
    (d : Fin 64) : ropeOne z (ix3 r 0 d) = rope 8 0x41800000#32 Z (r.val % 4096) d.val := by
  pointwise [ropeOne, cos8, sin8]
  rw [rope]
  by_cases h : d.val < 8
  · rw [dif_pos h, if_pos h, angle8_apply, hZ, hZ]
    simp only [Nat.add_comm 8]
  · rw [dif_neg h, if_neg h]
    by_cases h' : d.val - 8 < 8
    · rw [dif_pos h', if_pos (show d.val < 2 * 8 by omega), angle8_apply, hZ, hZ]
      simp only [show 8 + (d.val - 8) = d.val by omega]
    · rw [dif_neg h', if_neg (show ¬ d.val < 2 * 8 by omega), hZ]
      simp only [show 16 + (d.val - 8 - 8) = d.val by omega]

theorem ropeWhole_apply (z : FVec Ideal S16384x1x32 .f32) (Z : ℕ → EReal) (r : Fin 16384) (hZ : ∀ d : Fin 32, z (ix3 r 0 d) = Z d.val)
    (d : Fin 32) : ropeWhole z (ix3 r 0 d) = rope 16 0x42000000#32 Z (r.val % 4096) d.val := by
  pointwise [ropeWhole, cos16, sin16]
  rw [rope]
  by_cases h : d.val < 16
  · rw [dif_pos h, if_pos h, angle16_apply, hZ, hZ]
    simp only [Nat.add_comm 16]
  · rw [dif_neg h, if_neg h]
    by_cases h' : d.val - 16 < 16
    · rw [dif_pos h', if_pos (show d.val < 2 * 16 by omega), angle16_apply, hZ, hZ]
      simp only [show 16 + (d.val - 16) = d.val by omega]
    · exact absurd d.isLt (by omega)

/-! ### The arrays without a head's zeros -/

section

variable (P : FVec Ideal S16384x2104 .f32)

/-- Keys and values of the blocks' attention. -/
def blocksKv : FVec Ideal S16384x256 .f32 :=
  shapeCast _ (concatenate S16384x2x2x64 2 [⟨S16384x2x1x64, broadcastInDim S16384x2x1x64 ![0, 1, 3] bcast_S16384x2x64_S16384x2x1x64_0_1_3
      (ropeTwo (shapeCast _ (extractStridedSlice S16384x128 ![0, 512] P slices_S16384x2104_S16384x128_0_512) shapeCasts_S16384x128_S16384x2x64))⟩,
    ⟨S16384x2x1x64, broadcastInDim S16384x2x1x64 ![0, 1, 3] bcast_S16384x2x64_S16384x2x1x64_0_1_3
      (shapeCast _ (extractStridedSlice S16384x128 ![0, 640] P slices_S16384x2104_S16384x128_0_640) shapeCasts_S16384x128_S16384x2x64)⟩]
    concatenates_S16384x2x1x64_S16384x2x1x64_S16384x2x2x64_d2) shapeCasts_S16384x2x2x64_S16384x256

/-- The normalised latent. -/
def latent (g : FVec Ideal S128 .f32) : FVec Ideal S16384x128 .f32 :=
  mulf (mulf (extractStridedSlice S16384x128 ![0, 1024] P slices_S16384x2104_S16384x128_0_1024) (broadcastInDim S16384x128 ![0, 1] bcast_S16384x1_S16384x128_0_1 (Host.rsqrt (addf (Host.divf (broadcastInDim S16384x1 ![0] bcast_S16384_S16384x1_0 (Host.reduceAdd (mulf (extractStridedSlice S16384x128 ![0, 1024] P slices_S16384x2104_S16384x128_0_1024) (extractStridedSlice S16384x128 ![0, 1024] P slices_S16384x2104_S16384x128_0_1024)) (constant S_ .f32 0x00000000#32) reducesTo_S16384x128_S16384_d1 h_S_)) (broadcastInDim S16384x1 ![] bcast_S_S16384x1 (constant S_ .f32 0x43000000#32))) (broadcastInDim S16384x1 ![] bcast_S_S16384x1 (constant S_ .f32 0x358637BD#32)))))) (broadcastInDim S16384x128 ![0, 1] bcast_S1x128_S16384x128_0_1 (broadcastInDim S1x128 ![1] bcast_S128_S1x128_1 g))

/-- The latent, the rotated key and zeros. -/
def latentKey (g : FVec Ideal S128 .f32) : FVec Ideal S16384x256 .f32 :=
  concatenate S16384x256 1 [⟨S16384x128, latent P g⟩,
    ⟨S16384x32, shapeCast _ (ropeWhole (broadcastInDim S16384x1x32 ![0, 2] bcast_S16384x32_S16384x1x32_0_2
      (extractStridedSlice S16384x32 ![0, 1152] P slices_S16384x2104_S16384x32_0_1152))) shapeCasts_S16384x1x32_S16384x32⟩,
    ⟨S16384x96, broadcastInDim S16384x96 ![] bcast_S_S16384x96 (constant S_ .f32 0x00000000#32)⟩]
    concatenates_S16384x128_S16384x32_S16384x96_S16384x256_d1

def compressed : FVec Ideal S16384x128 .f32 :=
  concatenate S16384x128 1 [⟨S16384x64, extractStridedSlice S16384x64 ![0, 1696] P slices_S16384x2104_S16384x64_0_1696⟩,
    ⟨S16384x64, extractStridedSlice S16384x64 ![0, 1760] P slices_S16384x2104_S16384x64_0_1760⟩] concatenates_S16384x64_S16384x64_S16384x128_d1

def selected : FVec Ideal S16384x128 .f32 :=
  concatenate S16384x128 1 [⟨S16384x64, shapeCast _ (ropeOne (broadcastInDim S16384x1x64 ![0, 2] bcast_S16384x64_S16384x1x64_0_2
      (extractStridedSlice S16384x64 ![0, 1824] P slices_S16384x2104_S16384x64_0_1824))) shapeCasts_S16384x1x64_S16384x64⟩,
    ⟨S16384x64, extractStridedSlice S16384x64 ![0, 1888] P slices_S16384x2104_S16384x64_0_1888⟩] concatenates_S16384x64_S16384x64_S16384x128_d1

def window : FVec Ideal S16384x128 .f32 :=
  concatenate S16384x128 1 [⟨S16384x64, shapeCast _ (ropeOne (broadcastInDim S16384x1x64 ![0, 2] bcast_S16384x64_S16384x1x64_0_2
      (extractStridedSlice S16384x64 ![0, 1952] P slices_S16384x2104_S16384x64_0_1952))) shapeCasts_S16384x1x64_S16384x64⟩,
    ⟨S16384x64, extractStridedSlice S16384x64 ![0, 2016] P slices_S16384x2104_S16384x64_0_2016⟩] concatenates_S16384x64_S16384x64_S16384x128_d1

variable (Z : ℕ → EReal) (r : Fin 16384) (hP : ∀ c : Fin 2104, P (ix2 r c) = Z c.val)

include hP

theorem blocksKv_apply (l : Fin 256) : blocksKv P (ix2 r l)
    = if l.val % 128 < 64 then rope 8 0x41800000#32 (fun d => Z (512 + 64 * (l.val / 128) + d)) (r.val % 4096) (l.val % 128)
      else Z (640 + 64 * (l.val / 128) + (l.val % 128 - 64)) := by
  pointwise [blocksKv]
  by_cases h : l.val % 128 < 64
  · rw [if_pos h, dif_pos (show l.val / 64 % 2 < 1 by omega)]
    refine (ropeTwo_apply _ (fun d => Z (512 + 64 * (l.val / 128) + d)) r _ (fun d => by
      pointwise []
      rw [hP]
      exact congrArg Z (show 512 + (l.val / 128 * 64 + d.val) = 512 + 64 * (l.val / 128) + d.val by omega)) _).trans ?_
    exact congrArg _ (show l.val % 64 = l.val % 128 by omega)
  · rw [if_neg h, dif_neg (show ¬ l.val / 64 % 2 < 1 by omega), hP]
    exact congrArg Z (show 640 + (l.val / 128 * 64 + l.val % 64) = 640 + 64 * (l.val / 128) + (l.val % 128 - 64) by omega)

theorem latentKey_apply (g : FVec Ideal S128 .f32) (l : Fin 256) : latentKey P g (ix2 r l)
    = if h : l.val < 128 then rmsLanes (fun d => Z (1024 + d)) (fun i => g (ix1 i)) ⟨l.val, h⟩
      else if l.val < 160 then rope 16 0x42000000#32 (fun d => Z (1152 + d)) (r.val % 4096) (l.val - 128)
      else 0 := by
  pointwise [latentKey, latent]
  by_cases h : l.val < 128
  · rw [dif_pos h, dif_pos h, rmsLanes]
    simp only [hP]
  · rw [dif_neg h, dif_neg h]
    by_cases h' : l.val - 128 < 32
    · rw [dif_pos h', if_pos (show l.val < 160 by omega)]
      exact ropeWhole_apply _ (fun d => Z (1152 + d)) r (fun d => by
        pointwise []
        rw [hP]) _
    · rw [dif_neg h', if_neg (show ¬ l.val < 160 by omega)]

theorem compressed_apply (l : Fin 128) : compressed P (ix2 r l) = Z (1696 + l.val) := by
  pointwise [compressed]
  by_cases h : l.val < 64
  · rw [dif_pos h, hP]
  · rw [dif_neg h, hP]
    exact congrArg Z (show 1760 + (l.val - 64) = 1696 + l.val by omega)

theorem selected_apply (l : Fin 128) : selected P (ix2 r l)
    = if l.val < 64 then rope 8 0x41800000#32 (fun d => Z (1824 + d)) (r.val % 4096) l.val else Z (1824 + l.val) := by
  pointwise [selected]
  by_cases h : l.val < 64
  · rw [dif_pos h, if_pos h]
    exact ropeOne_apply _ (fun d => Z (1824 + d)) r (fun d => by
      pointwise []
      rw [hP]) _
  · rw [dif_neg h, if_neg h, hP]
    exact congrArg Z (show 1888 + (l.val - 64) = 1824 + l.val by omega)

theorem window_apply (l : Fin 128) : window P (ix2 r l)
    = if l.val < 64 then rope 8 0x41800000#32 (fun d => Z (1952 + d)) (r.val % 4096) l.val else Z (1952 + l.val) := by
  pointwise [window]
  by_cases h : l.val < 64
  · rw [dif_pos h, if_pos h]
    exact ropeOne_apply _ (fun d => Z (1952 + d)) r (fun d => by
      pointwise []
      rw [hP]) _
  · rw [dif_neg h, if_neg h, hP]
    exact congrArg Z (show 2016 + (l.val - 64) = 1952 + l.val by omega)

end

/-! ### The results of the reference -/

variable (m : (ℓ : Loc nD τ sig) → Buf (Elt Ideal) ℓ) (c : Dev nD)

theorem projected_eq : Cert.Reference6Ideal.Value.res_main_v17 (F := Ideal) (StableHlo.launchContents m c) =
    projected (m ((c.tc : Thread nD τ).loc main_arg0)) (m ((c.tc : Thread nD τ).loc main_arg1)) (m ((c.tc : Thread nD τ).loc main_arg2)) := rfl

end Cert.Proj.Reference

end
-- ==== Proof.ProjRefHeads.lean ====
/-
  The reference's arrays of heads and of gates, at an index.
-/
module

public import proofs.«01_k».proof.Proof.ProjRef

@[expose] public section

set_option maxRecDepth 65536

noncomputable section

namespace Cert.Proj.Reference

open Idealize.ShloMosaic Idealize.ShloMosaic.TcCoe Cert.Reference6Ideal Cert.Reference6Ideal.Gen Cert.Row Cert.Proj

/-- The rotary embedding of the rows' eight heads. -/
def ropeEight (z : FVec Ideal S16384x8x64 .f32) : FVec Ideal S16384x8x64 .f32 :=
  concatenate S16384x8x64 2
    [⟨S16384x8x8, subf (mulf (extractStridedSlice S16384x8x8 ![0, 0, 0] z slices_S16384x8x64_S16384x8x8_0_0_0) (broadcastInDim S16384x8x8 ![0, 1, 2] bcast_S16384x1x8_S16384x8x8_0_1_2 cos8))
        (mulf (extractStridedSlice S16384x8x8 ![0, 0, 8] z slices_S16384x8x64_S16384x8x8_0_0_8) (broadcastInDim S16384x8x8 ![0, 1, 2] bcast_S16384x1x8_S16384x8x8_0_1_2 sin8))⟩,
      ⟨S16384x8x8, addf (mulf (extractStridedSlice S16384x8x8 ![0, 0, 8] z slices_S16384x8x64_S16384x8x8_0_0_8) (broadcastInDim S16384x8x8 ![0, 1, 2] bcast_S16384x1x8_S16384x8x8_0_1_2 cos8))
        (mulf (extractStridedSlice S16384x8x8 ![0, 0, 0] z slices_S16384x8x64_S16384x8x8_0_0_0) (broadcastInDim S16384x8x8 ![0, 1, 2] bcast_S16384x1x8_S16384x8x8_0_1_2 sin8))⟩,
      ⟨S16384x8x48, extractStridedSlice S16384x8x48 ![0, 0, 16] z slices_S16384x8x64_S16384x8x48_0_0_16⟩]
    concatenates_S16384x8x8_S16384x8x8_S16384x8x48_S16384x8x64_d2

theorem ropeEight_apply (z : FVec Ideal S16384x8x64 .f32) (Z : ℕ → EReal) (r : Fin 16384) (q : Fin 8) (hZ : ∀ d : Fin 64, z (ix3 r q d) = Z d.val)
    (d : Fin 64) : ropeEight z (ix3 r q d) = rope 8 0x41800000#32 Z (r.val % 4096) d.val := by
  pointwise [ropeEight, cos8, sin8]
  rw [rope]
  by_cases h : d.val < 8
  · rw [dif_pos h, if_pos h, angle8_apply, hZ, hZ]
    simp only [Nat.add_comm 8]
  · rw [dif_neg h, if_neg h]
    by_cases h' : d.val - 8 < 8
    · rw [dif_pos h', if_pos (show d.val < 2 * 8 by omega), angle8_apply, hZ, hZ]
      simp only [show 8 + (d.val - 8) = d.val by omega]
    · rw [dif_neg h', if_neg (show ¬ d.val < 2 * 8 by omega), hZ]
      simp only [show 16 + (d.val - 8 - 8) = d.val by omega]

/-- A row's eight heads, 64 zeros after the lanes of each. -/
def padded (z : FVec Ideal S16384x8x64 .f32) : FVec Ideal S16384x1024 .f32 :=
  shapeCast _ (concatenate S16384x8x128 2 [⟨S16384x8x64, z⟩,
    ⟨S16384x8x64, broadcastInDim S16384x8x64 ![] bcast_S_S16384x8x64 (constant S_ .f32 0x00000000#32)⟩]
    concatenates_S16384x8x64_S16384x8x64_S16384x8x128_d2) shapeCasts_S16384x8x128_S16384x1024

theorem padded_apply (z : FVec Ideal S16384x8x64 .f32) (r : Fin 16384) (l : Fin 1024) : padded z (ix2 r l)
    = if h : l.val % 128 < 64 then z (ix3 r ⟨l.val / 128, by omega⟩ ⟨l.val % 128, h⟩) else 0 := by
  pointwise [padded]

section

variable (P : FVec Ideal S16384x2104 .f32)

/-- The first eight heads of a row. -/
def firstHeads : FVec Ideal S16384x8x64 .f32 :=
  shapeCast _ (extractStridedSlice S16384x512 ![0, 0] P slices_S16384x2104_S16384x512_0_0) shapeCasts_S16384x512_S16384x8x64

/-- The second eight heads of a row. -/
def secondHeads : FVec Ideal S16384x8x64 .f32 :=
  shapeCast _ (extractStridedSlice S16384x512 ![0, 1184] P slices_S16384x2104_S16384x512_0_1184) shapeCasts_S16384x512_S16384x8x64

/-- The gates, one half after them. -/
def gates : FVec Ideal S16384x128 .f32 :=
  concatenate S16384x128 1 [⟨S16384x24, Host.divf (broadcastInDim S16384x24 ![] bcast_S_S16384x24 (constant S_ .f32 0x3F800000#32))
      (addf (broadcastInDim S16384x24 ![] bcast_S_S16384x24 (constant S_ .f32 0x3F800000#32))
        (Host.exp (Host.negf (extractStridedSlice S16384x24 ![0, 2080] P slices_S16384x2104_S16384x24_0_2080))))⟩,
    ⟨S16384x104, broadcastInDim S16384x104 ![] bcast_S_S16384x104 (constant S_ .f32 0x3F000000#32)⟩]
    concatenates_S16384x24_S16384x104_S16384x128_d1

variable (Z : ℕ → EReal) (r : Fin 16384) (hP : ∀ c : Fin 2104, P (ix2 r c) = Z c.val)

include hP

theorem firstHeads_apply (q : Fin 8) (d : Fin 64) : firstHeads P (ix3 r q d) = Z (0 + 64 * q.val + d.val) := by
  pointwise [firstHeads]
  rw [hP]
  exact congrArg Z (by simp only []; omega)

theorem secondHeads_apply (q : Fin 8) (d : Fin 64) : secondHeads P (ix3 r q d) = Z (1184 + 64 * q.val + d.val) := by
  pointwise [secondHeads]
  rw [hP]
  exact congrArg Z (by simp only []; omega)

theorem blocksQ_apply (l : Fin 1024) : padded (ropeEight (firstHeads P)) (ix2 r l)
    = if l.val % 128 < 64 then rope 8 0x41800000#32 (fun d => Z (0 + 64 * (l.val / 128) + d)) (r.val % 4096) (l.val % 128) else 0 := by
  rw [padded_apply]
  by_cases h : l.val % 128 < 64
  · rw [dif_pos h, if_pos h]
    exact ropeEight_apply _ (fun d => Z (0 + 64 * (l.val / 128) + d)) r _ (fun d => firstHeads_apply P Z r hP _ d) _
  · rw [dif_neg h, if_neg h]

theorem headsRaw_apply (l : Fin 1024) : padded (secondHeads P) (ix2 r l)
    = if l.val % 128 < 64 then Z (1184 + 64 * (l.val / 128) + l.val % 128) else 0 := by
  rw [padded_apply]
  by_cases h : l.val % 128 < 64
  · rw [dif_pos h, if_pos h]
    exact secondHeads_apply P Z r hP _ _
  · rw [dif_neg h, if_neg h]

theorem headsRot_apply (l : Fin 1024) : padded (ropeEight (secondHeads P)) (ix2 r l)
    = if l.val % 128 < 64 then rope 8 0x41800000#32 (fun d => Z (1184 + 64 * (l.val / 128) + d)) (r.val % 4096) (l.val % 128) else 0 := by
  rw [padded_apply]
  by_cases h : l.val % 128 < 64
  · rw [dif_pos h, if_pos h]
    exact ropeEight_apply _ (fun d => Z (1184 + 64 * (l.val / 128) + d)) r _ (fun d => secondHeads_apply P Z r hP _ d) _
  · rw [dif_neg h, if_neg h]

theorem gates_apply (l : Fin 128) : gates P (ix2 r l) = if l.val < 24 then gateOf (Z (2080 + l.val)) else Ideal.ofBits .f32 0x3F000000#32 := by
  pointwise [gates, gateOf]
  by_cases h : l.val < 24
  · rw [dif_pos h, if_pos h, hP]
  · rw [dif_neg h, if_neg h]

end

end Cert.Proj.Reference

end
-- ==== Proof.ProjEq.lean ====
/-
  The arrays of the projection kernel's call are the reference's.
-/
module

public import proofs.«01_k».proof.Proof.ProjQueries
public import proofs.«01_k».proof.Proof.ProjRefHeads

@[expose] public section

set_option maxRecDepth 65536

noncomputable section

namespace Cert.Proj

open Idealize.ShloMosaic Idealize.ShloMosaic.TcCoe Cert.Kernel6Ideal Cert.Kernel6Ideal.Gen Cert.Row

variable (m : (ℓ : Loc nD τ sig) → Buf (Elt Ideal) ℓ) (c : Dev nD)

/-- The projected rows of the call's arguments. -/
abbrev rows : FVec Ideal Cert.Reference6Ideal.S16384x2104 .f32 :=
  Reference.projected (m ((c : Thread nD τ).loc main_arg0)) (m ((c : Thread nD τ).loc main_arg1)) (m ((c : Thread nD τ).loc main_arg2))

theorem rows_apply (T : Fin 16384) (k : Fin 2104) : rows m c (ix2 T k) = row m c T k.val :=
  (Reference.projected_apply _ _ _ T k).trans (by rw [row, proj, dif_pos k.isLt])

theorem blocksKv_eq : Reference.blocksKv (rows m c) = ((dats m 0 c).arrAt 12 cfg0.N : S16384x256.Idx → EReal) := by
  refine funext fun y => ?_
  obtain ⟨T, l, rfl⟩ : ∃ (T : Fin 16384) (l : Fin 256), y = ix2 T l := ⟨y 0, y 1, eq_ix2 y⟩
  exact (Reference.blocksKv_apply (rows m c) (row m c T) T (rows_apply m c T) l).trans (blocksKv_apply m c T l).symm

theorem latentKey_eq : Reference.latentKey (rows m c) (m ((c : Thread nD τ).loc main_arg5)) = ((dats m 0 c).arrAt 14 cfg0.N : S16384x256.Idx → EReal) := by
  refine funext fun y => ?_
  obtain ⟨T, l, rfl⟩ : ∃ (T : Fin 16384) (l : Fin 256), y = ix2 T l := ⟨y 0, y 1, eq_ix2 y⟩
  exact (Reference.latentKey_apply (rows m c) (row m c T) T (rows_apply m c T) _ l).trans (latentKey_apply m c T l).symm

theorem compressed_eq : Reference.compressed (rows m c) = ((dats m 0 c).arrAt 17 cfg0.N : S16384x128.Idx → EReal) := by
  refine funext fun y => ?_
  obtain ⟨T, l, rfl⟩ : ∃ (T : Fin 16384) (l : Fin 128), y = ix2 T l := ⟨y 0, y 1, eq_ix2 y⟩
  exact (Reference.compressed_apply (rows m c) (row m c T) T (rows_apply m c T) l).trans (compressed_apply m c T l).symm

theorem selected_eq : Reference.selected (rows m c) = ((dats m 0 c).arrAt 18 cfg0.N : S16384x128.Idx → EReal) := by
  refine funext fun y => ?_
  obtain ⟨T, l, rfl⟩ : ∃ (T : Fin 16384) (l : Fin 128), y = ix2 T l := ⟨y 0, y 1, eq_ix2 y⟩
  exact (Reference.selected_apply (rows m c) (row m c T) T (rows_apply m c T) l).trans (selected_apply m c T l).symm

theorem window_eq : Reference.window (rows m c) = ((dats m 0 c).arrAt 19 cfg0.N : S16384x128.Idx → EReal) := by
  refine funext fun y => ?_
  obtain ⟨T, l, rfl⟩ : ∃ (T : Fin 16384) (l : Fin 128), y = ix2 T l := ⟨y 0, y 1, eq_ix2 y⟩
  exact (Reference.window_apply (rows m c) (row m c T) T (rows_apply m c T) l).trans (window_apply m c T l).symm

theorem blocksQ_eq : Reference.padded (Reference.ropeEight (Reference.firstHeads (rows m c))) = ((dats m 0 c).arrAt 11 cfg0.N : S16384x1024.Idx → EReal) := by
  refine funext fun y => ?_
  obtain ⟨T, l, rfl⟩ : ∃ (T : Fin 16384) (l : Fin 1024), y = ix2 T l := ⟨y 0, y 1, eq_ix2 y⟩
  exact (Reference.blocksQ_apply (rows m c) (row m c T) T (rows_apply m c T) l).trans (blocksQ_apply m c T l).symm

theorem headsRaw_eq : Reference.padded (Reference.secondHeads (rows m c)) = ((dats m 0 c).arrAt 15 cfg0.N : S16384x1024.Idx → EReal) := by
  refine funext fun y => ?_
  obtain ⟨T, l, rfl⟩ : ∃ (T : Fin 16384) (l : Fin 1024), y = ix2 T l := ⟨y 0, y 1, eq_ix2 y⟩
  exact (Reference.headsRaw_apply (rows m c) (row m c T) T (rows_apply m c T) l).trans (headsRaw_apply m c T l).symm

theorem headsRot_eq : Reference.padded (Reference.ropeEight (Reference.secondHeads (rows m c))) = ((dats m 0 c).arrAt 16 cfg0.N : S16384x1024.Idx → EReal) := by
  refine funext fun y => ?_
  obtain ⟨T, l, rfl⟩ : ∃ (T : Fin 16384) (l : Fin 1024), y = ix2 T l := ⟨y 0, y 1, eq_ix2 y⟩
  exact (Reference.headsRot_apply (rows m c) (row m c T) T (rows_apply m c T) l).trans (headsRot_apply m c T l).symm

theorem gates_eq : Reference.gates (rows m c) = ((dats m 0 c).arrAt 20 cfg0.N : S16384x128.Idx → EReal) := by
  refine funext fun y => ?_
  obtain ⟨T, l, rfl⟩ : ∃ (T : Fin 16384) (l : Fin 128), y = ix2 T l := ⟨y 0, y 1, eq_ix2 y⟩
  exact (Reference.gates_apply (rows m c) (row m c T) T (rows_apply m c T) l).trans (gates_apply m c T l).symm

end Cert.Proj

end
-- ==== Proof.lean ====
/-
  The certificate: the frames of the kernels and their idealizations are the generated ones, the references' are read off
  their runs; the named constants are the rule's statements; the results agree because each pair is, index by index, the
  same function: the masked softmax attention of `Proof/Spec.lean`, and the rows of `Proof/Row.lean` and `Proof/MergeRow.lean`,
  and the projected row of `Proof/ProjRow.lean`.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference4Ideal
public import proofs.«01_k».proof.Proof.Gen.Kernel4Ideal.Value
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Reference5Ideal
public import proofs.«01_k».proof.Proof.Gen.Kernel5Ideal.Value
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Kernel6Ideal.Value
public import proofs.«01_k».proof.Proof.Gen.Reference6Ideal.Run
public import proofs.«01_k».proof.Proof.Host
public import proofs.«01_k».proof.Proof.Ref
public import proofs.«01_k».proof.Proof.FfnFinal
public import proofs.«01_k».proof.Proof.FfnFinalRef
public import proofs.«01_k».proof.Proof.Ffn
public import proofs.«01_k».proof.Proof.FfnRef
public import proofs.«01_k».proof.Proof.Merge
public import proofs.«01_k».proof.Proof.MergeRef
public import proofs.«01_k».proof.Proof.FfnSample
public import proofs.«01_k».proof.Proof.FfnSampleRef
public import proofs.«01_k».proof.Proof.ProjEq
public import Idealize.ShloMosaic.Adequacy
public import Idealize.ShloMosaic.Init

@[expose] public section

noncomputable section

namespace Cert.Proof

open Idealize.ShloMosaic Idealize.SL.Sem Cert.Kernel

theorem frame_ri : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  ⟨IdealRules.named_const.statement Cert.KernelIdeal.κ "qscale" .f32 0x3E16C740#32 _ rfl,
    IdealRules.named_const.statement Cert.KernelIdeal.κ "mask" .f32 0xF149F2CA#32 _ rfl⟩

theorem algebraic : Cert.algebraic_KernelIdeal_ReferenceIdeal := by
  intro m ρ m' ρ' _ hagree
  refine ⟨_, Cert.KernelIdeal.Value.run_blocks (F := Ideal) m ρ, ?_⟩
  refine (θ_run _ _ _).mono (fun _ h c => ⟨(h c).1.trans ?_, (h c).2⟩) (Cert.ReferenceIdeal.Value.run (F := Ideal) m' ρ')
  obtain ⟨e0, e1, e2⟩ := hagree c
  rw [Cert.Mla.res_eq]
  refine funext fun y => ?_
  obtain ⟨b, t, w, rfl⟩ : ∃ (b : Fin 4) (t : Fin 4096) (w : Fin 1024), y = ix3 b t w := ⟨y 0, y 1, y 2, eq_ix3 y⟩
  refine (Cert.Mla.ref_apply _ _ _ b t w).trans (Eq.trans ?_ (Cert.Mla.kernel_apply m c b t w).symm)
  rw [e0, e1, e2]

theorem frame_ri2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

theorem frame_ri3 : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

theorem frame_ri4 : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

theorem algebraic2 : Cert.algebraic_Kernel2Ideal_Reference2Ideal := by
  intro m ρ m' ρ' _ hagree
  refine ⟨_, Cert.Kernel2Ideal.Value.run_blocks (F := Ideal) m ρ, ?_⟩
  refine (θ_run _ _ _).mono (fun _ h c => ⟨(h c).1.trans ?_, (h c).2⟩) (Cert.Reference2Ideal.Value.run (F := Ideal) m' ρ')
  obtain ⟨e0, e1, e2, e3, e4⟩ := hagree c
  rw [Cert.FfnFinal.res_eq]
  refine funext fun y => ?_
  obtain ⟨t, d, rfl⟩ : ∃ (t : Fin 16384) (d : Fin 1024), y = ix2 t d := ⟨y 0, y 1, eq_ix2 y⟩
  refine (Cert.FfnFinal.ref_apply _ _ _ _ _ t d).trans (Eq.trans ?_ (Cert.FfnFinal.kernel_apply m c t d).symm)
  rw [e0, e1, e2, e3, e4]

theorem algebraic3 : Cert.algebraic_Kernel3Ideal_Reference3Ideal := by
  intro m ρ m' ρ' _ hagree
  refine ⟨_, Cert.Kernel3Ideal.Value.run_blocks (F := Ideal) m ρ, ?_⟩
  refine (θ_run _ _ _).mono (fun _ h c => ⟨(h c).1.trans ?_, (h c).2⟩) (Cert.Reference3Ideal.Value.run (F := Ideal) m' ρ')
  obtain ⟨e0, e1, e2, e3, e4, e5, e6, e7, e8, e9, e10⟩ := hagree c
  rw [Cert.Merge.res_eq]
  refine funext fun y => ?_
  obtain ⟨t, d, rfl⟩ : ∃ (t : Fin 16384) (d : Fin 1024), y = ix2 t d := ⟨y 0, y 1, eq_ix2 y⟩
  refine (Cert.Merge.ref_apply _ _ _ _ _ _ _ _ _ _ _ t d).trans (Eq.trans ?_ (Cert.Merge.kernel_apply m c t d).symm)
  rw [e0, e1, e2, e3, e4, e5, e6, e7, e8, e9, e10]

theorem algebraic4 : Cert.algebraic_Kernel4Ideal_Reference4Ideal := by
  intro m ρ m' ρ' _ hagree
  refine ⟨_, Cert.Kernel4Ideal.Value.run_blocks (F := Ideal) m ρ, ?_⟩
  refine (θ_run _ _ _).mono (fun _ h c => ⟨(h c).1.trans ?_, (h c).2⟩) (Cert.Reference4Ideal.Value.run (F := Ideal) m' ρ')
  obtain ⟨e0, e1, e2, e3, -⟩ := hagree c
  refine funext fun y => ?_
  obtain ⟨t, d, rfl⟩ : ∃ (t : Fin 16384) (d : Fin 1024), y = ix2 t d := ⟨y 0, y 1, eq_ix2 y⟩
  refine (Cert.Ffn.ref_apply _ _ _ _ t d).trans (Eq.trans ?_ (Cert.Ffn.kernel_apply m c t d).symm)
  rw [e0, e1, e2, e3]

theorem frame_ri5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

theorem frame_ri6 : Cert.quiescent_Reference6Ideal := fun m ρ _ =>
  (θ_run Cert.Reference6Ideal.defs _ _).mono (fun r h => ⟨fun c => (h c).2.2.2.2.2.2.2.2.2, sem_eq_zero_of_no_sems (by decide) r.2⟩)
    (Cert.Reference6Ideal.Value.run (F := Ideal) m ρ)

theorem algebraic5 : Cert.algebraic_Kernel5Ideal_Reference5Ideal := by
  intro m ρ m' ρ' _ hagree
  refine ⟨_, Cert.Kernel5Ideal.Value.run_blocks (F := Ideal) m ρ, ?_⟩
  refine (θ_run _ _ _).mono (fun _ h c => ⟨(h c).1.trans ?_, (h c).2⟩) (Cert.Reference5Ideal.Value.run (F := Ideal) m' ρ')
  obtain ⟨e0, e1, e2, e3, e4⟩ := hagree c
  rw [Cert.FfnSample.res_eq]
  refine funext fun y => ?_
  obtain ⟨t, d, rfl⟩ : ∃ (t : Fin 1024) (d : Fin 1024), y = ix2 t d := ⟨y 0, y 1, eq_ix2 y⟩
  refine (Cert.FfnSample.ref_apply _ _ _ _ _ t d).trans (Eq.trans ?_ (Cert.FfnSample.kernel_apply m c t d).symm)
  rw [e0, e1, e2, e3, e4]

set_option maxHeartbeats 2000000 in
theorem algebraic6 : Cert.algebraic_Kernel6Ideal_Reference6Ideal := by
  intro m ρ m' ρ' _ hagree
  refine ⟨fun c => (Cert.Kernel6Ideal.Gen.dats m 0 c).arrAt 11 Cert.Kernel6Ideal.cfg0.N,
    fun c => (Cert.Kernel6Ideal.Gen.dats m 0 c).arrAt 12 Cert.Kernel6Ideal.cfg0.N,
    fun c => (Cert.Kernel6Ideal.Gen.dats m 0 c).arrAt 14 Cert.Kernel6Ideal.cfg0.N,
    fun c => (Cert.Kernel6Ideal.Gen.dats m 0 c).arrAt 15 Cert.Kernel6Ideal.cfg0.N,
    fun c => (Cert.Kernel6Ideal.Gen.dats m 0 c).arrAt 16 Cert.Kernel6Ideal.cfg0.N,
    fun c => (Cert.Kernel6Ideal.Gen.dats m 0 c).arrAt 17 Cert.Kernel6Ideal.cfg0.N,
    fun c => (Cert.Kernel6Ideal.Gen.dats m 0 c).arrAt 18 Cert.Kernel6Ideal.cfg0.N,
    fun c => (Cert.Kernel6Ideal.Gen.dats m 0 c).arrAt 19 Cert.Kernel6Ideal.cfg0.N,
    fun c => (Cert.Kernel6Ideal.Gen.dats m 0 c).arrAt 20 Cert.Kernel6Ideal.cfg0.N,
    (θ_run _ _ _).mono (fun _ h c => ?_) (Cert.Kernel6Ideal.Value.run_blocks (F := Ideal) m ρ), ?_⟩
  · obtain ⟨h0, h1, -, h3, h4, h5, h6, h7, h8, h9, h⟩ := h c
    exact ⟨h0, h1, h3, h4, h5, h6, h7, h8, h9, h⟩
  · refine (θ_run _ _ _).mono (fun _ h c => ?_) (Cert.Reference6Ideal.Value.run (F := Ideal) m' ρ')
    obtain ⟨e0, e1, e2, e3, e4, e5, e6⟩ := hagree c
    obtain ⟨h0, h1, h2, h3, h4, h5, h6, h7, h8, h⟩ := h c
    have p : Cert.Proj.Reference.projected
        (m' ((c.tc : Thread Cert.Reference6Ideal.nD Cert.Reference6Ideal.τ).loc Cert.Reference6Ideal.main_arg0))
        (m' ((c.tc : Thread Cert.Reference6Ideal.nD Cert.Reference6Ideal.τ).loc Cert.Reference6Ideal.main_arg1))
        (m' ((c.tc : Thread Cert.Reference6Ideal.nD Cert.Reference6Ideal.τ).loc Cert.Reference6Ideal.main_arg2)) = Cert.Proj.rows m c := by
      rw [e0, e1, e2]
    refine ⟨h0.trans ?_, h1.trans ?_, h2.trans ?_, h3.trans ?_, h4.trans ?_, h5.trans ?_, h6.trans ?_, h7.trans ?_, h8.trans ?_, h⟩
    · exact (congrArg (fun P => Cert.Proj.Reference.padded (Cert.Proj.Reference.ropeEight (Cert.Proj.Reference.firstHeads P))) p).trans (Cert.Proj.blocksQ_eq m c)
    · exact (congrArg Cert.Proj.Reference.blocksKv p).trans (Cert.Proj.blocksKv_eq m c)
    · exact (congrArg₂ Cert.Proj.Reference.latentKey p e5).trans (Cert.Proj.latentKey_eq m c)
    · exact (congrArg (fun P => Cert.Proj.Reference.padded (Cert.Proj.Reference.secondHeads P)) p).trans (Cert.Proj.headsRaw_eq m c)
    · exact (congrArg (fun P => Cert.Proj.Reference.padded (Cert.Proj.Reference.ropeEight (Cert.Proj.Reference.secondHeads P))) p).trans (Cert.Proj.headsRot_eq m c)
    · exact (congrArg Cert.Proj.Reference.compressed p).trans (Cert.Proj.compressed_eq m c)
    · exact (congrArg Cert.Proj.Reference.selected p).trans (Cert.Proj.selected_eq m c)
    · exact (congrArg Cert.Proj.Reference.window p).trans (Cert.Proj.window_eq m c)
    · exact (congrArg Cert.Proj.Reference.gates p).trans (Cert.Proj.gates_eq m c)

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  fun m ρ _ => Cert.Kernel.Gen.frame m ρ, fun m ρ _ => Cert.KernelIdeal.Gen.frame m ρ, frame_ri,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, frame_ri4,
  fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6,
  preserves, algebraic, trivial, algebraic2, trivial, algebraic3, trivial, algebraic4, trivial, algebraic5, trivial, algebraic6⟩

end Cert.Proof

end
